-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S2x96x224x224 : Shape := ⟨4, ![2, 96, 224, 224]⟩
abbrev S2x224x224x96 : Shape := ⟨4, ![2, 224, 224, 96]⟩
abbrev S2x50176x96 : Shape := ⟨3, ![2, 50176, 96]⟩
abbrev S_ : Shape := ⟨0, ![]⟩
abbrev S2x50176 : Shape := ⟨2, ![2, 50176]⟩
abbrev S192x50176 : Shape := ⟨2, ![192, 50176]⟩
abbrev S2x1024x96 : Shape := ⟨3, ![2, 1024, 96]⟩
abbrev S2 : Shape := ⟨1, ![2]⟩
abbrev S192x1 : Shape := ⟨2, ![192, 1]⟩
abbrev S192x2 : Shape := ⟨2, ![192, 2]⟩
abbrev S2x1 : Shape := ⟨2, ![2, 1]⟩
abbrev S1 : Shape := ⟨1, ![1]⟩
abbrev S1x1x96 : Shape := ⟨3, ![1, 1, 96]⟩
abbrev S1x96 : Shape := ⟨2, ![1, 96]⟩
abbrev S192x12544 : Shape := ⟨2, ![192, 12544]⟩
abbrev S2x12544 : Shape := ⟨2, ![2, 12544]⟩
abbrev S1x1 : Shape := ⟨2, ![1, 1]⟩
abbrev S192x128 : Shape := ⟨2, ![192, 128]⟩
abbrev S192 : Shape := ⟨1, ![192]⟩
abbrev S1x128 : Shape := ⟨2, ![1, 128]⟩
abbrev S2x32x32x96 : Shape := ⟨4, ![2, 32, 32, 96]⟩
abbrev S2x96x32x32 : Shape := ⟨4, ![2, 96, 32, 32]⟩

abbrev nBuf : Space → Nat
  | .hbm => 11
  | .vmem => 5
  | .smem => 0
  | _ => 0

abbrev bufTy : (tb : Table) → Fin (tcTables nBuf tb) → BufTy
  | .hbm, ⟨0, _⟩ => ⟨S2x96x224x224, .f32⟩
  | .hbm, ⟨1, _⟩ => ⟨S2x224x224x96, .f32⟩
  | .hbm, ⟨2, _⟩ => ⟨S2x50176x96, .f32⟩
  | .hbm, ⟨3, _⟩ => ⟨S2x50176x96, .f32⟩
  | .hbm, ⟨4, _⟩ => ⟨S_, .f32⟩
  | .hbm, ⟨5, _⟩ => ⟨S2x50176, .f32⟩
  | .hbm, ⟨6, _⟩ => ⟨S192x50176, .f32⟩
  | .hbm, ⟨7, _⟩ => ⟨S192x50176, .bf16⟩
  | .hbm, ⟨8, _⟩ => ⟨S2x1024x96, .f32⟩
  | .hbm, ⟨9, _⟩ => ⟨S2x32x32x96, .f32⟩
  | .hbm, ⟨10, _⟩ => ⟨S2x96x32x32, .f32⟩
  | .local _ .vmem, ⟨0, _⟩ => ⟨S192x50176, .bf16⟩
  | .local _ .vmem, ⟨1, _⟩ => ⟨S2x50176, .f32⟩
  | .local _ .vmem, ⟨2, _⟩ => ⟨S2x1024x96, .f32⟩
  | .local _ .vmem, ⟨3, _⟩ => ⟨S192x50176, .bf16⟩
  | .local _ .vmem, ⟨4, _⟩ => ⟨S2x50176, .f32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c1_i32_24 : BitVec 32 := 1#32
  let c1023_i32 : BitVec 32 := 1023#32
  let v41 : BitVec 32 := Scalar.addi c1_i32_24 c1023_i32
  let c1_i32_25 : BitVec 32 := 1#32
  ⟨c1_i32_24, v41, c1_i32_25⟩
def k0_off1 (k0_t1 : Fin k0_t1_loop.trips) : Fin 3 → Nat :=
  let c0_i32_103 : BitVec 32 := 0#32
  let c1_i32_24 : BitVec 32 := 1#32
  let c1_i32_25 : BitVec 32 := 1#32
  let arg7 : BitVec 32 := Scf.iv c1_i32_24 c1_i32_25 k0_t1
  let c0_i32_105 : BitVec 32 := 0#32
  ![0, arg7.toNat, 0]
def k0_off2 (v176 : BitVec 32) : Fin 3 → Nat :=
  let c0_i32_102 : BitVec 32 := 0#32
  let c0_i32_106 : BitVec 32 := 0#32
  ![0, v176.toNat, 0]

def k0_mult1 (v176 : BitVec 32) : BitVec 32 :=
  let c0_i32_107 : BitVec 32 := 0#32
  let v190 : BitVec 1 := Scalar.cmpi .sgt v176 c0_i32_107
  let v191 : BitVec 32 := Scalar.extui v190
  let c0_i32_108 : BitVec 32 := 0#32
  let v192 : BitVec 1 := Scalar.cmpi .slt v176 c0_i32_108
  let v193 : BitVec 32 := Scalar.extui v192
  let v194 : BitVec 32 := Scalar.subi v191 v193
  let c128_i32 : BitVec 32 := 128#32
  let c0_i32_109 : BitVec 32 := 0#32
  let v195 : BitVec 1 := Scalar.cmpi .sgt c128_i32 c0_i32_109
  let v196 : BitVec 32 := Scalar.extui v195
  let c0_i32_110 : BitVec 32 := 0#32
  let v197 : BitVec 1 := Scalar.cmpi .slt c128_i32 c0_i32_110
  let v198 : BitVec 32 := Scalar.extui v197
  let v199 : BitVec 32 := Scalar.subi v196 v198
  let v200 : BitVec 1 := Scalar.cmpi .ne v194 v199
  let v201 : BitVec 32 := Scalar.remsi v176 c128_i32
  let c0_i32_111 : BitVec 32 := 0#32
  let v202 : BitVec 1 := Scalar.cmpi .ne v201 c0_i32_111
  let v203 : BitVec 1 := Scalar.andi v200 v202
  let v189 : BitVec 32 := Scalar.divsi v176 c128_i32
  let c1_i32_112 : BitVec 32 := 1#32
  let v204 : BitVec 32 := Scalar.subi v189 c1_i32_112
  let v205 : BitVec 32 := Scalar.select v203 v204 v189
  let c128_i32_113 : BitVec 32 := 128#32
  let v206 : BitVec 32 := Scalar.muli v205 c128_i32_113
  v206
def k0_off3 (v176 : BitVec 32) : Fin 2 → Nat :=
  let c0_114 : Index := 0#32
  let c0_i32_107 : BitVec 32 := 0#32
  let v190 : BitVec 1 := Scalar.cmpi .sgt v176 c0_i32_107
  let v191 : BitVec 32 := Scalar.extui v190
  let c0_i32_108 : BitVec 32 := 0#32
  let v192 : BitVec 1 := Scalar.cmpi .slt v176 c0_i32_108
  let v193 : BitVec 32 := Scalar.extui v192
  let v194 : BitVec 32 := Scalar.subi v191 v193
  let c128_i32 : BitVec 32 := 128#32
  let c0_i32_109 : BitVec 32 := 0#32
  let v195 : BitVec 1 := Scalar.cmpi .sgt c128_i32 c0_i32_109
  let v196 : BitVec 32 := Scalar.extui v195
  let c0_i32_110 : BitVec 32 := 0#32
  let v197 : BitVec 1 := Scalar.cmpi .slt c128_i32 c0_i32_110
  let v198 : BitVec 32 := Scalar.extui v197
  let v199 : BitVec 32 := Scalar.subi v196 v198
  let v200 : BitVec 1 := Scalar.cmpi .ne v194 v199
  let v201 : BitVec 32 := Scalar.remsi v176 c128_i32
  let c0_i32_111 : BitVec 32 := 0#32
  let v202 : BitVec 1 := Scalar.cmpi .ne v201 c0_i32_111
  let v203 : BitVec 1 := Scalar.andi v200 v202
  let v189 : BitVec 32 := Scalar.divsi v176 c128_i32
  let c1_i32_112 : BitVec 32 := 1#32
  let v204 : BitVec 32 := Scalar.subi v189 c1_i32_112
  let v205 : BitVec 32 := Scalar.select v203 v204 v189
  let c128_i32_113 : BitVec 32 := 128#32
  let v206 : BitVec 32 := Scalar.muli v205 c128_i32_113
  let v207 : BitVec 32 := v206
  let v209 : Index := Scalar.indexCast v207
  ![0, v209.toNat]
def k0_off4 (v176 : BitVec 32) : Fin 2 → Nat :=
  let c0_117 : Index := 0#32
  let c0_i32_107 : BitVec 32 := 0#32
  let v190 : BitVec 1 := Scalar.cmpi .sgt v176 c0_i32_107
  let v191 : BitVec 32 := Scalar.extui v190
  let c0_i32_108 : BitVec 32 := 0#32
  let v192 : BitVec 1 := Scalar.cmpi .slt v176 c0_i32_108
  let v193 : BitVec 32 := Scalar.extui v192
  let v194 : BitVec 32 := Scalar.subi v191 v193
  let c128_i32 : BitVec 32 := 128#32
  let c0_i32_109 : BitVec 32 := 0#32
  let v195 : BitVec 1 := Scalar.cmpi .sgt c128_i32 c0_i32_109
  let v196 : BitVec 32 := Scalar.extui v195
  let c0_i32_110 : BitVec 32 := 0#32
  let v197 : BitVec 1 := Scalar.cmpi .slt c128_i32 c0_i32_110
  let v198 : BitVec 32 := Scalar.extui v197
  let v199 : BitVec 32 := Scalar.subi v196 v198
  let v200 : BitVec 1 := Scalar.cmpi .ne v194 v199
  let v201 : BitVec 32 := Scalar.remsi v176 c128_i32
  let c0_i32_111 : BitVec 32 := 0#32
  let v202 : BitVec 1 := Scalar.cmpi .ne v201 c0_i32_111
  let v203 : BitVec 1 := Scalar.andi v200 v202
  let v189 : BitVec 32 := Scalar.divsi v176 c128_i32
  let c1_i32_112 : BitVec 32 := 1#32
  let v204 : BitVec 32 := Scalar.subi v189 c1_i32_112
  let v205 : BitVec 32 := Scalar.select v203 v204 v189
  let c128_i32_113 : BitVec 32 := 128#32
  let v206 : BitVec 32 := Scalar.muli v205 c128_i32_113
  let v207 : BitVec 32 := v206
  let v220 : Index := Scalar.indexCast v207
  ![0, v220.toNat]

def k0_chk1 (v176 : BitVec 32) : Prop :=
  (∀ a, (k0_off2 v176) a + S1x1x96.size a ≤ S2x50176x96.size a) ∧
  (128 ∣ (k0_mult1 v176).toNat) ∧
  (∀ a, (k0_off3 v176) a + S192x128.size a ≤ S192x50176.size a) ∧
  (∀ a, (k0_off4 v176) a + S1x128.size a ≤ S2x50176.size a)
theorem k0_off2_inb : ∀ (v176 : BitVec 32) (k0_hw1 : k0_chk1 v176), ∀ a, (k0_off2 v176) a + S1x1x96.size a ≤ S2x50176x96.size a := fun v176 k0_hw1 => k0_hw1.1
theorem k0_mult1_dvd : ∀ (v176 : BitVec 32) (k0_hw1 : k0_chk1 v176), 128 ∣ (k0_mult1 v176).toNat := fun v176 k0_hw1 => k0_hw1.2.1
theorem k0_off3_inb : ∀ (v176 : BitVec 32) (k0_hw1 : k0_chk1 v176), ∀ a, (k0_off3 v176) a + S192x128.size a ≤ S192x50176.size a := fun v176 k0_hw1 => k0_hw1.2.2.1
theorem k0_off4_inb : ∀ (v176 : BitVec 32) (k0_hw1 : k0_chk1 v176), ∀ a, (k0_off4 v176) a + S1x128.size a ≤ S2x50176.size a := fun v176 k0_hw1 => k0_hw1.2.2.2

def k0_off5 (k0_t1 : Fin k0_t1_loop.trips) : Fin 3 → Nat :=
  let c1_i32_128 : BitVec 32 := 1#32
  let c1_i32_24 : BitVec 32 := 1#32
  let c1_i32_25 : BitVec 32 := 1#32
  let arg7 : BitVec 32 := Scf.iv c1_i32_24 c1_i32_25 k0_t1
  let c0_i32_130 : BitVec 32 := 0#32
  ![1, arg7.toNat, 0]
def k0_off6 (v231 : BitVec 32) : Fin 3 → Nat :=
  let c1_i32_127 : BitVec 32 := 1#32
  let c0_i32_131 : BitVec 32 := 0#32
  ![1, v231.toNat, 0]

def k0_mult2 (v231 : BitVec 32) : BitVec 32 :=
  let c0_i32_133 : BitVec 32 := 0#32
  let v245 : BitVec 1 := Scalar.cmpi .sgt v231 c0_i32_133
  let v246 : BitVec 32 := Scalar.extui v245
  let c0_i32_134 : BitVec 32 := 0#32
  let v247 : BitVec 1 := Scalar.cmpi .slt v231 c0_i32_134
  let v248 : BitVec 32 := Scalar.extui v247
  let v249 : BitVec 32 := Scalar.subi v246 v248
  let c128_i32_132 : BitVec 32 := 128#32
  let c0_i32_135 : BitVec 32 := 0#32
  let v250 : BitVec 1 := Scalar.cmpi .sgt c128_i32_132 c0_i32_135
  let v251 : BitVec 32 := Scalar.extui v250
  let c0_i32_136 : BitVec 32 := 0#32
  let v252 : BitVec 1 := Scalar.cmpi .slt c128_i32_132 c0_i32_136
  let v253 : BitVec 32 := Scalar.extui v252
  let v254 : BitVec 32 := Scalar.subi v251 v253
  let v255 : BitVec 1 := Scalar.cmpi .ne v249 v254
  let v256 : BitVec 32 := Scalar.remsi v231 c128_i32_132
  let c0_i32_137 : BitVec 32 := 0#32
  let v257 : BitVec 1 := Scalar.cmpi .ne v256 c0_i32_137
  let v258 : BitVec 1 := Scalar.andi v255 v257
  let v244 : BitVec 32 := Scalar.divsi v231 c128_i32_132
  let c1_i32_138 : BitVec 32 := 1#32
  let v259 : BitVec 32 := Scalar.subi v244 c1_i32_138
  let v260 : BitVec 32 := Scalar.select v258 v259 v244
  let c128_i32_139 : BitVec 32 := 128#32
  let v261 : BitVec 32 := Scalar.muli v260 c128_i32_139
  v261
def k0_off7 (v231 : BitVec 32) : Fin 2 → Nat :=
  let c0_140 : Index := 0#32
  let c0_i32_133 : BitVec 32 := 0#32
  let v245 : BitVec 1 := Scalar.cmpi .sgt v231 c0_i32_133
  let v246 : BitVec 32 := Scalar.extui v245
  let c0_i32_134 : BitVec 32 := 0#32
  let v247 : BitVec 1 := Scalar.cmpi .slt v231 c0_i32_134
  let v248 : BitVec 32 := Scalar.extui v247
  let v249 : BitVec 32 := Scalar.subi v246 v248
  let c128_i32_132 : BitVec 32 := 128#32
  let c0_i32_135 : BitVec 32 := 0#32
  let v250 : BitVec 1 := Scalar.cmpi .sgt c128_i32_132 c0_i32_135
  let v251 : BitVec 32 := Scalar.extui v250
  let c0_i32_136 : BitVec 32 := 0#32
  let v252 : BitVec 1 := Scalar.cmpi .slt c128_i32_132 c0_i32_136
  let v253 : BitVec 32 := Scalar.extui v252
  let v254 : BitVec 32 := Scalar.subi v251 v253
  let v255 : BitVec 1 := Scalar.cmpi .ne v249 v254
  let v256 : BitVec 32 := Scalar.remsi v231 c128_i32_132
  let c0_i32_137 : BitVec 32 := 0#32
  let v257 : BitVec 1 := Scalar.cmpi .ne v256 c0_i32_137
  let v258 : BitVec 1 := Scalar.andi v255 v257
  let v244 : BitVec 32 := Scalar.divsi v231 c128_i32_132
  let c1_i32_138 : BitVec 32 := 1#32
  let v259 : BitVec 32 := Scalar.subi v244 c1_i32_138
  let v260 : BitVec 32 := Scalar.select v258 v259 v244
  let c128_i32_139 : BitVec 32 := 128#32
  let v261 : BitVec 32 := Scalar.muli v260 c128_i32_139
  let v262 : BitVec 32 := v261
  let v264 : Index := Scalar.indexCast v262
  ![0, v264.toNat]
def k0_off8 (v231 : BitVec 32) : Fin 2 → Nat :=
  let c1 : Index := 1#32
  let c0_i32_133 : BitVec 32 := 0#32
  let v245 : BitVec 1 := Scalar.cmpi .sgt v231 c0_i32_133
  let v246 : BitVec 32 := Scalar.extui v245
  let c0_i32_134 : BitVec 32 := 0#32
  let v247 : BitVec 1 := Scalar.cmpi .slt v231 c0_i32_134
  let v248 : BitVec 32 := Scalar.extui v247
  let v249 : BitVec 32 := Scalar.subi v246 v248
  let c128_i32_132 : BitVec 32 := 128#32
  let c0_i32_135 : BitVec 32 := 0#32
  let v250 : BitVec 1 := Scalar.cmpi .sgt c128_i32_132 c0_i32_135
  let v251 : BitVec 32 := Scalar.extui v250
  let c0_i32_136 : BitVec 32 := 0#32
  let v252 : BitVec 1 := Scalar.cmpi .slt c128_i32_132 c0_i32_136
  let v253 : BitVec 32 := Scalar.extui v252
  let v254 : BitVec 32 := Scalar.subi v251 v253
  let v255 : BitVec 1 := Scalar.cmpi .ne v249 v254
  let v256 : BitVec 32 := Scalar.remsi v231 c128_i32_132
  let c0_i32_137 : BitVec 32 := 0#32
  let v257 : BitVec 1 := Scalar.cmpi .ne v256 c0_i32_137
  let v258 : BitVec 1 := Scalar.andi v255 v257
  let v244 : BitVec 32 := Scalar.divsi v231 c128_i32_132
  let c1_i32_138 : BitVec 32 := 1#32
  let v259 : BitVec 32 := Scalar.subi v244 c1_i32_138
  let v260 : BitVec 32 := Scalar.select v258 v259 v244
  let c128_i32_139 : BitVec 32 := 128#32
  let v261 : BitVec 32 := Scalar.muli v260 c128_i32_139
  let v262 : BitVec 32 := v261
  let v275 : Index := Scalar.indexCast v262
  ![1, v275.toNat]

def k0_chk2 (v231 : BitVec 32) : Prop :=
  (∀ a, (k0_off6 v231) a + S1x1x96.size a ≤ S2x50176x96.size a) ∧
  (128 ∣ (k0_mult2 v231).toNat) ∧
  (∀ a, (k0_off7 v231) a + S192x128.size a ≤ S192x50176.size a) ∧
  (∀ a, (k0_off8 v231) a + S1x128.size a ≤ S2x50176.size a)
theorem k0_off6_inb : ∀ (v231 : BitVec 32) (k0_hw2 : k0_chk2 v231), ∀ a, (k0_off6 v231) a + S1x1x96.size a ≤ S2x50176x96.size a := fun v231 k0_hw2 => k0_hw2.1
theorem k0_mult2_dvd : ∀ (v231 : BitVec 32) (k0_hw2 : k0_chk2 v231), 128 ∣ (k0_mult2 v231).toNat := fun v231 k0_hw2 => k0_hw2.2.1
theorem k0_off7_inb : ∀ (v231 : BitVec 32) (k0_hw2 : k0_chk2 v231), ∀ a, (k0_off7 v231) a + S192x128.size a ≤ S192x50176.size a := fun v231 k0_hw2 => k0_hw2.2.2.1
theorem k0_off8_inb : ∀ (v231 : BitVec 32) (k0_hw2 : k0_chk2 v231), ∀ a, (k0_off8 v231) a + S1x128.size a ≤ S2x50176.size a := fun v231 k0_hw2 => k0_hw2.2.2.2

abbrev stage0_0 : Fin 1 → Memref sig .tc .vmem S192x50176 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x50176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x96x224x224 : Shape := ⟨4, ![2, 96, 224, 224]⟩
abbrev S2x224x224x96 : Shape := ⟨4, ![2, 224, 224, 96]⟩
abbrev S2x50176x96 : Shape := ⟨3, ![2, 50176, 96]⟩
abbrev S1x50176x96 : Shape := ⟨3, ![1, 50176, 96]⟩
abbrev S50176x96 : Shape := ⟨2, ![50176, 96]⟩
abbrev S_ : Shape := ⟨0, ![]⟩
abbrev S50176 : Shape := ⟨1, ![50176]⟩
abbrev S1024 : Shape := ⟨1, ![1024]⟩
abbrev S1 : Shape := ⟨1, ![1]⟩
abbrev S1x96 : Shape := ⟨2, ![1, 96]⟩
abbrev S96 : Shape := ⟨1, ![96]⟩
abbrev S1x1024 : Shape := ⟨2, ![1, 1024]⟩
abbrev S2x1024 : Shape := ⟨2, ![2, 1024]⟩
abbrev S2x1024x1 : Shape := ⟨3, ![2, 1024, 1]⟩
abbrev S1x1x1 : Shape := ⟨3, ![1, 1, 1]⟩
abbrev S2x1024x96 : Shape := ⟨3, ![2, 1024, 96]⟩
abbrev S2x32x32x96 : Shape := ⟨4, ![2, 32, 32, 96]⟩
abbrev S2x96x32x32 : Shape := ⟨4, ![2, 96, 32, 32]⟩

abbrev nBuf : Space → Nat
  | .hbm => 169
  | .vmem => 0
  | .smem => 0
  | _ => 0

abbrev hbmTy0_0 (i : Nat) : BufTy := match i % 128 with
  | 0 => ⟨S2x96x224x224, .f32⟩
  | 1 => ⟨S2x224x224x96, .f32⟩
  | 2 => ⟨S2x50176x96, .f32⟩
  | 3 => ⟨S1x50176x96, .f32⟩
  | 4 => ⟨S50176x96, .f32⟩
  | 5 => ⟨S1x50176x96, .f32⟩
  | 6 => ⟨S50176x96, .f32⟩
  | 7 => ⟨S50176x96, .f32⟩
  | 8 => ⟨S_, .f32⟩
  | 9 => ⟨S50176, .f32⟩
  | 10 => ⟨S50176x96, .f32⟩
  | 11 => ⟨S_, .f32⟩
  | 12 => ⟨S50176, .f32⟩
  | 13 => ⟨S_, .i32⟩
  | 14 => ⟨S1024, .i32⟩
  | 15 => ⟨S_, .f32⟩
  | 16 => ⟨S50176, .f32⟩
  | 17 => ⟨S_, .i32⟩
  | 18 => ⟨S_, .i32⟩
  | 19 => ⟨S50176x96, .f32⟩
  | 20 => ⟨S50176, .f32⟩
  | 21 => ⟨S50176x96, .f32⟩
  | 22 => ⟨S50176, .f32⟩
  | 23 => ⟨S_, .i32⟩
  | 24 => ⟨S_, .i32⟩
  | 25 => ⟨S1024, .i32⟩
  | 26 => ⟨S50176, .f32⟩
  | 27 => ⟨S1024, .i32⟩
  | 28 => ⟨S50176, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S1, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S1x96, .f32⟩
  | 57 => ⟨S96, .f32⟩
  | 58 => ⟨S_, .i32⟩
  | 59 => ⟨S_, .i1⟩
  | 60 => ⟨S_, .i32⟩
  | 61 => ⟨S_, .i32⟩
  | 62 => ⟨S_, .i32⟩
  | 63 => ⟨S1, .f32⟩
  | 64 => ⟨S_, .f32⟩
  | 65 => ⟨S50176, .f32⟩
  | 66 => ⟨S50176, .f32⟩
  | 67 => ⟨S50176, .f32⟩
  | 68 => ⟨S_, .f32⟩
  | 69 => ⟨S50176, .f32⟩
  | 70 => ⟨S50176, .f32⟩
  | 71 => ⟨S50176, .f32⟩
  | 72 => ⟨S50176, .f32⟩
  | 73 => ⟨S50176, .i32⟩
  | 74 => ⟨S_, .f32⟩
  | 75 => ⟨S_, .i32⟩
  | 76 => ⟨S_, .f32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S1, .i32⟩
  | 85 => ⟨S1024, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S1, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S1x96, .f32⟩
  | 110 => ⟨S96, .f32⟩
  | 111 => ⟨S_, .i32⟩
  | 112 => ⟨S_, .i1⟩
  | 113 => ⟨S_, .i32⟩
  | 114 => ⟨S_, .i32⟩
  | 115 => ⟨S_, .i32⟩
  | 116 => ⟨S1, .f32⟩
  | 117 => ⟨S_, .f32⟩
  | 118 => ⟨S50176, .f32⟩
  | 119 => ⟨S50176, .f32⟩
  | 120 => ⟨S50176, .f32⟩
  | 121 => ⟨S_, .f32⟩
  | 122 => ⟨S50176, .f32⟩
  | 123 => ⟨S50176, .f32⟩
  | 124 => ⟨S50176, .f32⟩
  | 125 => ⟨S50176, .f32⟩
  | 126 => ⟨S50176, .i32⟩
  | 127 => ⟨S_, .f32⟩
  | _ => ⟨S2x96x224x224, .f32⟩

abbrev hbmTy0_1 (i : Nat) : BufTy := match i % 128 with
  | 0 => ⟨S_, .i32⟩
  | 1 => ⟨S_, .f32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S1, .i32⟩
  | 10 => ⟨S1024, .i32⟩
  | 11 => ⟨S_, .i32⟩
  | 12 => ⟨S_, .i32⟩
  | 13 => ⟨S1x1024, .i32⟩
  | 14 => ⟨S1x1024, .i32⟩
  | 15 => ⟨S2x1024, .i32⟩
  | 16 => ⟨S2x1024x1, .i32⟩
  | 17 => ⟨S_, .i32⟩
  | 18 => ⟨S2x1024x1, .i32⟩
  | 19 => ⟨S2x1024x1, .i1⟩
  | 20 => ⟨S_, .i32⟩
  | 21 => ⟨S2x1024x1, .i32⟩
  | 22 => ⟨S2x1024x1, .i32⟩
  | 23 => ⟨S2x1024x1, .i32⟩
  | 24 => ⟨S1, .i32⟩
  | 25 => ⟨S_, .i32⟩
  | 26 => ⟨S2x1024x1, .i32⟩
  | 27 => ⟨S2x1024x1, .i1⟩
  | 28 => ⟨S1x1x1, .i32⟩
  | 29 => ⟨S2x1024x1, .i32⟩
  | 30 => ⟨S2x1024x1, .i1⟩
  | 31 => ⟨S2x1024x1, .i1⟩
  | 32 => ⟨S_, .i1⟩
  | 33 => ⟨S2x1024, .i1⟩
  | 34 => ⟨S2x1024x96, .f32⟩
  | 35 => ⟨S2x1024x96, .i1⟩
  | 36 => ⟨S_, .f32⟩
  | 37 => ⟨S2x1024x96, .f32⟩
  | 38 => ⟨S2x1024x96, .f32⟩
  | 39 => ⟨S2x32x32x96, .f32⟩
  | 40 => ⟨S2x96x32x32, .f32⟩
  | _ => ⟨S2x96x224x224, .f32⟩

abbrev hbmTy (i : Nat) : BufTy := match i / 128 with
  | 0 => hbmTy0_0 i
  | 1 => hbmTy0_1 i
  | _ => ⟨S2x96x224x224, .f32⟩

abbrev bufTy : (tb : Table) → Fin (tcTables nBuf tb) → BufTy
  | .hbm, ⟨i, _⟩ => hbmTy i
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_c_2 : Ref sig .tc := ⟨.hbm, 17, rfl⟩
abbrev main_c_3 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev main_v12_6 : Ref sig .tc := ⟨.hbm, 25, rfl⟩
abbrev main_v12_7 : Ref sig .tc := ⟨.hbm, 26, rfl⟩
abbrev main_v12_8 : Ref sig .tc := ⟨.hbm, 27, rfl⟩
abbrev main_v12_9 : Ref sig .tc := ⟨.hbm, 28, rfl⟩
abbrev main_while0c_c_13 : Ref sig .tc := ⟨.hbm, 29, rfl⟩
abbrev main_while0c_v20 : Ref sig .tc := ⟨.hbm, 30, rfl⟩
abbrev main_while0b_c_13 : Ref sig .tc := ⟨.hbm, 31, rfl⟩
abbrev main_while0b_v20 : Ref sig .tc := ⟨.hbm, 32, rfl⟩
abbrev main_while0b_c_14 : Ref sig .tc := ⟨.hbm, 33, rfl⟩
abbrev main_while0b_v21 : Ref sig .tc := ⟨.hbm, 34, rfl⟩
abbrev main_while0b_c_15 : Ref sig .tc := ⟨.hbm, 35, rfl⟩
abbrev main_while0b_v22 : Ref sig .tc := ⟨.hbm, 36, rfl⟩
abbrev main_while0b_v23 : Ref sig .tc := ⟨.hbm, 37, rfl⟩
abbrev main_while0b_c_16 : Ref sig .tc := ⟨.hbm, 38, rfl⟩
abbrev main_while0b_v24 : Ref sig .tc := ⟨.hbm, 39, rfl⟩
abbrev main_while0b_v25 : Ref sig .tc := ⟨.hbm, 40, rfl⟩
abbrev main_while0b_v26 : Ref sig .tc := ⟨.hbm, 41, rfl⟩
abbrev main_while0b_v27 : Ref sig .tc := ⟨.hbm, 42, rfl⟩
abbrev main_while0b_c_17 : Ref sig .tc := ⟨.hbm, 43, rfl⟩
abbrev main_while0b_v28 : Ref sig .tc := ⟨.hbm, 44, rfl⟩
abbrev main_while0b_c_18 : Ref sig .tc := ⟨.hbm, 45, rfl⟩
abbrev main_while0b_v29 : Ref sig .tc := ⟨.hbm, 46, rfl⟩
abbrev main_while0b_v30 : Ref sig .tc := ⟨.hbm, 47, rfl⟩
abbrev main_while0b_c_19 : Ref sig .tc := ⟨.hbm, 48, rfl⟩
abbrev main_while0b_c_20 : Ref sig .tc := ⟨.hbm, 49, rfl⟩
abbrev main_while0b_v31 : Ref sig .tc := ⟨.hbm, 50, rfl⟩
abbrev main_while0b_c_21 : Ref sig .tc := ⟨.hbm, 51, rfl⟩
abbrev main_while0b_c_22 : Ref sig .tc := ⟨.hbm, 52, rfl⟩
abbrev main_while0b_v32 : Ref sig .tc := ⟨.hbm, 53, rfl⟩
abbrev main_while0b_c_23 : Ref sig .tc := ⟨.hbm, 54, rfl⟩
abbrev main_while0b_v33 : Ref sig .tc := ⟨.hbm, 55, rfl⟩
abbrev main_while0b_v34 : Ref sig .tc := ⟨.hbm, 56, rfl⟩
abbrev main_while0b_v35 : Ref sig .tc := ⟨.hbm, 57, rfl⟩
abbrev main_while0b_c_24 : Ref sig .tc := ⟨.hbm, 58, rfl⟩
abbrev main_while0b_v36 : Ref sig .tc := ⟨.hbm, 59, rfl⟩
abbrev main_while0b_c_25 : Ref sig .tc := ⟨.hbm, 60, rfl⟩
abbrev main_while0b_v37 : Ref sig .tc := ⟨.hbm, 61, rfl⟩
abbrev main_while0b_v38 : Ref sig .tc := ⟨.hbm, 62, rfl⟩
abbrev main_while0b_v39 : Ref sig .tc := ⟨.hbm, 63, rfl⟩
abbrev main_while0b_v40 : Ref sig .tc := ⟨.hbm, 64, rfl⟩
abbrev main_while0b_v41 : Ref sig .tc := ⟨.hbm, 65, rfl⟩
abbrev main_while0b_v42 : Ref sig .tc := ⟨.hbm, 66, rfl⟩
abbrev main_while0b_v43 : Ref sig .tc := ⟨.hbm, 67, rfl⟩
abbrev main_while0b_cst_26 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_call0_v0 : Ref sig .tc := ⟨.hbm, 73, rfl⟩
abbrev main_while0b_call0_cst : Ref sig .tc := ⟨.hbm, 74, rfl⟩
abbrev main_while0b_call0_c : Ref sig .tc := ⟨.hbm, 75, rfl⟩
abbrev main_while0b_call0_v1_0 : Ref sig .tc := ⟨.hbm, 76, rfl⟩
abbrev main_while0b_v48 : Ref sig .tc := ⟨.hbm, 77, rfl⟩
abbrev main_while0b_c_27 : Ref sig .tc := ⟨.hbm, 78, rfl⟩
abbrev main_while0b_v49 : Ref sig .tc := ⟨.hbm, 79, rfl⟩
abbrev main_while0b_c_28 : Ref sig .tc := ⟨.hbm, 80, rfl⟩
abbrev main_while0b_v50 : Ref sig .tc := ⟨.hbm, 81, rfl⟩
abbrev main_while0b_v51 : Ref sig .tc := ⟨.hbm, 82, rfl⟩
abbrev main_while0b_v52 : Ref sig .tc := ⟨.hbm, 83, rfl⟩
abbrev main_while0b_v53 : Ref sig .tc := ⟨.hbm, 84, rfl⟩
abbrev main_while0b_v54 : Ref sig .tc := ⟨.hbm, 85, rfl⟩
abbrev main_while0b_c_29 : Ref sig .tc := ⟨.hbm, 86, rfl⟩
abbrev main_while0b_v55 : Ref sig .tc := ⟨.hbm, 87, rfl⟩
abbrev main_while0b_c_30 : Ref sig .tc := ⟨.hbm, 88, rfl⟩
abbrev main_while0b_v56 : Ref sig .tc := ⟨.hbm, 89, rfl⟩
abbrev main_while0b_v57 : Ref sig .tc := ⟨.hbm, 90, rfl⟩
abbrev main_while0b_c_31 : Ref sig .tc := ⟨.hbm, 91, rfl⟩
abbrev main_while0b_v58 : Ref sig .tc := ⟨.hbm, 92, rfl⟩
abbrev main_while0b_v59 : Ref sig .tc := ⟨.hbm, 93, rfl⟩
abbrev main_while0b_v60 : Ref sig .tc := ⟨.hbm, 94, rfl⟩
abbrev main_while0b_v61 : Ref sig .tc := ⟨.hbm, 95, rfl⟩
abbrev main_while0b_c_32 : Ref sig .tc := ⟨.hbm, 96, rfl⟩
abbrev main_while0b_v62 : Ref sig .tc := ⟨.hbm, 97, rfl⟩
abbrev main_while0b_c_33 : Ref sig .tc := ⟨.hbm, 98, rfl⟩
abbrev main_while0b_v63 : Ref sig .tc := ⟨.hbm, 99, rfl⟩
abbrev main_while0b_v64 : Ref sig .tc := ⟨.hbm, 100, rfl⟩
abbrev main_while0b_c_34 : Ref sig .tc := ⟨.hbm, 101, rfl⟩
abbrev main_while0b_c_35 : Ref sig .tc := ⟨.hbm, 102, rfl⟩
abbrev main_while0b_v65 : Ref sig .tc := ⟨.hbm, 103, rfl⟩
abbrev main_while0b_c_36 : Ref sig .tc := ⟨.hbm, 104, rfl⟩
abbrev main_while0b_c_37 : Ref sig .tc := ⟨.hbm, 105, rfl⟩
abbrev main_while0b_v66 : Ref sig .tc := ⟨.hbm, 106, rfl⟩
abbrev main_while0b_c_38 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_c_39 : Ref sig .tc := ⟨.hbm, 111, rfl⟩
abbrev main_while0b_v70 : Ref sig .tc := ⟨.hbm, 112, rfl⟩
abbrev main_while0b_c_40 : Ref sig .tc := ⟨.hbm, 113, rfl⟩
abbrev main_while0b_v71 : Ref sig .tc := ⟨.hbm, 114, rfl⟩
abbrev main_while0b_v72 : Ref sig .tc := ⟨.hbm, 115, rfl⟩
abbrev main_while0b_v73 : Ref sig .tc := ⟨.hbm, 116, rfl⟩
abbrev main_while0b_v74 : Ref sig .tc := ⟨.hbm, 117, rfl⟩
abbrev main_while0b_v75 : Ref sig .tc := ⟨.hbm, 118, rfl⟩
abbrev main_while0b_v76 : Ref sig .tc := ⟨.hbm, 119, rfl⟩
abbrev main_while0b_v77 : Ref sig .tc := ⟨.hbm, 120, rfl⟩
abbrev main_while0b_cst_41 : Ref sig .tc := ⟨.hbm, 121, rfl⟩
abbrev main_while0b_v78 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_call1_v0 : Ref sig .tc := ⟨.hbm, 126, rfl⟩
abbrev main_while0b_call1_cst : Ref sig .tc := ⟨.hbm, 127, rfl⟩
abbrev main_while0b_call1_c : Ref sig .tc := ⟨.hbm, 128, rfl⟩
abbrev main_while0b_call1_v1_0 : Ref sig .tc := ⟨.hbm, 129, rfl⟩
abbrev main_while0b_v82 : Ref sig .tc := ⟨.hbm, 130, rfl⟩
abbrev main_while0b_c_42 : Ref sig .tc := ⟨.hbm, 131, rfl⟩
abbrev main_while0b_v83 : Ref sig .tc := ⟨.hbm, 132, rfl⟩
abbrev main_while0b_c_43 : Ref sig .tc := ⟨.hbm, 133, rfl⟩
abbrev main_while0b_v84 : Ref sig .tc := ⟨.hbm, 134, rfl⟩
abbrev main_while0b_v85 : Ref sig .tc := ⟨.hbm, 135, rfl⟩
abbrev main_while0b_v86 : Ref sig .tc := ⟨.hbm, 136, rfl⟩
abbrev main_while0b_v87 : Ref sig .tc := ⟨.hbm, 137, rfl⟩
abbrev main_while0b_v88 : Ref sig .tc := ⟨.hbm, 138, rfl⟩
abbrev main_while0b_c_44 : Ref sig .tc := ⟨.hbm, 139, rfl⟩
abbrev main_while0b_v89 : Ref sig .tc := ⟨.hbm, 140, rfl⟩
abbrev main_v13 : Ref sig .tc := ⟨.hbm, 141, rfl⟩
abbrev main_v14 : Ref sig .tc := ⟨.hbm, 142, rfl⟩
abbrev main_v15 : Ref sig .tc := ⟨.hbm, 143, rfl⟩
abbrev main_v16 : Ref sig .tc := ⟨.hbm, 144, rfl⟩
abbrev main_call2_c : Ref sig .tc := ⟨.hbm, 145, rfl⟩
abbrev main_call2_v0 : Ref sig .tc := ⟨.hbm, 146, rfl⟩
abbrev main_call2_v1 : Ref sig .tc := ⟨.hbm, 147, rfl⟩
abbrev main_call2_c_0 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_call2_c_1 : Ref sig .tc := ⟨.hbm, 152, rfl⟩
abbrev main_call2_c_2 : Ref sig .tc := ⟨.hbm, 153, rfl⟩
abbrev main_call2_v5 : Ref sig .tc := ⟨.hbm, 154, rfl⟩
abbrev main_call2_v6 : Ref sig .tc := ⟨.hbm, 155, rfl⟩
abbrev main_call2_v7 : Ref sig .tc := ⟨.hbm, 156, rfl⟩
abbrev main_call2_v8 : Ref sig .tc := ⟨.hbm, 157, rfl⟩
abbrev main_call2_v9 : Ref sig .tc := ⟨.hbm, 158, rfl⟩
abbrev main_call2_v10 : Ref sig .tc := ⟨.hbm, 159, rfl⟩
abbrev main_call2_c_3 : Ref sig .tc := ⟨.hbm, 160, rfl⟩
abbrev main_call2_v11 : Ref sig .tc := ⟨.hbm, 161, rfl⟩
abbrev main_call2_v12 : Ref sig .tc := ⟨.hbm, 162, rfl⟩
abbrev main_call2_v13 : Ref sig .tc := ⟨.hbm, 163, rfl⟩
abbrev main_call2_cst : Ref sig .tc := ⟨.hbm, 164, rfl⟩
abbrev main_call2_v14 : Ref sig .tc := ⟨.hbm, 165, rfl⟩
abbrev main_v17 : Ref sig .tc := ⟨.hbm, 166, rfl⟩
abbrev main_v18 : Ref sig .tc := ⟨.hbm, 167, rfl⟩
abbrev main_v19 : Ref sig .tc := ⟨.hbm, 168, rfl⟩

abbrev nD : Nat := 1
abbrev τ : Topo := Topo.v7x

variable {F : FTy → Type} [FloatOps F]

abbrev main_while0_count : Scf.Loop 32 := ⟨0#32, 1023#32, 1#32⟩
-- ==== Proof.Geo.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffix
public import Idealize.ShloMosaic.Lib.Ring
public import Idealize.ShloMosaic.Lib.Affine
public import Idealize.ShloMosaic.Lib.Routing.Words
public import Idealize.ShloMosaic.Lib.Tactic

@[expose] public section

noncomputable section

namespace Cert.KernelIdeal.Fps

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Names: a row of the array, a row of the result, the two cells, the two scratch buffers -/

abbrev xM : Memref sig .tc .hbm S2x50176x96 .f32 := Memref.whole main_v1
abbrev vM : Memref sig .tc .vmem S192x50176 .bf16 := Memref.whole cc0_scratch0
abbrev dM : Memref sig .tc .vmem S2x50176 .f32 := Memref.whole cc0_scratch1
abbrev oM : Memref sig .tc .vmem S2x1024x96 .f32 := Memref.whole cc0_stg2_0

abbrev srcOff (i : Fin 2) (r : Fin 50176) : Fin 3 → Nat := ![i.val, r.val, 0]
theorem srcOff_inb (i : Fin 2) (r : Fin 50176) : ∀ a, srcOff i r a + S1x1x96.size a ≤ S2x50176x96.size a := by
  have := i.isLt; have := r.isLt; intro a; fin_cases a
  · show i.val + 1 ≤ 2; omega
  · show r.val + 1 ≤ 50176; omega
  · show 0 + 96 ≤ 96; omega
abbrev dstOff (i : Fin 2) (j : Fin 1024) : Fin 3 → Nat := ![i.val, j.val, 0]
theorem dstOff_inb (i : Fin 2) (j : Fin 1024) : ∀ a, dstOff i j a + S1x1x96.size a ≤ S2x1024x96.size a := by
  have := i.isLt; have := j.isLt; intro a; fin_cases a
  · show i.val + 1 ≤ 2; omega
  · show j.val + 1 ≤ 1024; omega
  · show 0 + 96 ≤ 96; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Row `r` of image `i` of the array. -/
def srcM (i : Fin 2) (r : Fin 50176) : Memref sig .tc .hbm S1x96 .f32 :=
  (xM.slice (Rect.unit (s := S2x50176x96) (srcOff i r) S1x1x96.size (srcOff_inb i r)) (fun _ => rfl)).squeeze S1x96 squeezes_S1x1x96_S1x96
/-- Row `j` of image `i` of the result. -/
def dstM (i : Fin 2) (j : Fin 1024) : Memref sig .tc .vmem S1x96 .f32 :=
  (oM.slice (Rect.unit (s := S2x1024x96) (dstOff i j) S1x1x96.size (dstOff_inb i j)) (fun _ => rfl)).squeeze S1x96 squeezes_S1x1x96_S1x96
/-- Image `s`'s semaphore. -/
def csm (s : Fin 2) : DmaSems sig S_ := (cc0_scratch2.slice (Rect.unit (s := S2) (semOff s) S1.size (semOff_inb s))).squeeze S_ squeezes_S1_S_

theorem csm_congr {off : Fin 1 → Nat} {s : Fin 2} (e : off = semOff s) (hh) :
    (cc0_scratch2.slice (Rect.unit (s := S2) off S1.size hh)).squeeze S_ squeezes_S1_S_ = csm s :=
  congrArg (fun A : DmaSems sig S1 => A.squeeze S_ squeezes_S1_S_) (SemArray.slice_unit_congr _ e _ _)
theorem dst_congr {off : Fin 3 → Nat} {i : Fin 2} {j : Fin 1024} (e : off = dstOff i j) (hh hs) :
    (oM.slice (Rect.unit (s := S2x1024x96) off S1x1x96.size hh) hs).squeeze S1x96 squeezes_S1x1x96_S1x96 = dstM i j :=
  congrArg (fun M : Memref sig .tc .vmem S1x1x96 .f32 => M.squeeze S1x96 squeezes_S1x1x96_S1x96) (Memref.slice_unit_congr _ e _ _ _ _)
theorem src_congr {off : Fin 3 → Nat} {i : Fin 2} {r : Fin 50176} (e : off = srcOff i r) (hh hs) :
    (xM.slice (Rect.unit (s := S2x50176x96) off S1x1x96.size hh) hs).squeeze S1x96 squeezes_S1x1x96_S1x96 = srcM i r :=
  congrArg (fun M : Memref sig .tc .hbm S1x1x96 .f32 => M.squeeze S1x96 squeezes_S1x1x96_S1x96) (Memref.slice_unit_congr _ e _ _ _ _)

theorem trips_eq : k0_t1_loop.trips = 1023 := by decide

/-- Trip `k`'s row of the result. -/
abbrev jK (k : ℕ) (h : k < 1024) : Fin 1024 := ⟨k, h⟩
theorem trip_lt (k : Fin k0_t1_loop.trips) : k.val + 1 < 1024 := by have := k.isLt; have := trips_eq; omega

theorem iv_eq (k : Fin k0_t1_loop.trips) : (Scf.iv 1#32 1#32 k.val).toNat = k.val + 1 := by
  have := trip_lt k
  have e : Scf.iv 1#32 1#32 k.val = BitVec.ofNat 32 (k.val + 1) := by
    apply BitVec.eq_of_toNat_eq
    simp only [Scf.iv, BitVec.toNat_add, BitVec.toNat_mul, BitVec.toNat_ofNat]; omega
  rw [e, BitVec.toNat_ofNat]; omega

theorem off1_eq (k : Fin k0_t1_loop.trips) : k0_off1 k = dstOff 0 ⟨k.val + 1, trip_lt k⟩ := by
  show (![0, (Scf.iv 1#32 1#32 k.val).toNat, 0] : Fin 3 → Nat) = _
  rw [iv_eq]; rfl
theorem off5_eq (k : Fin k0_t1_loop.trips) : k0_off5 k = dstOff 1 ⟨k.val + 1, trip_lt k⟩ := by
  show (![1, (Scf.iv 1#32 1#32 k.val).toNat, 0] : Fin 3 → Nat) = _
  rw [iv_eq]; rfl

theorem lt_of_off2 {v : BitVec 32} (hh : ∀ a, (k0_off2 v) a + S1x1x96.size a ≤ S2x50176x96.size a) : v.toNat < 50176 := hh 1
theorem lt_of_off6 {v : BitVec 32} (hh : ∀ a, (k0_off6 v) a + S1x1x96.size a ≤ S2x50176x96.size a) : v.toNat < 50176 := hh 1

theorem off2_eq (v : BitVec 32) (h : v.toNat < 50176) : k0_off2 v = srcOff 0 ⟨v.toNat, h⟩ := rfl
theorem off6_eq (v : BitVec 32) (h : v.toNat < 50176) : k0_off6 v = srcOff 1 ⟨v.toNat, h⟩ := rfl

@[sl_canon] theorem semL0 (hh) : (cc0_scratch2.slice (Rect.unit (s := S2) ![0] S1.size hh)).squeeze S_ squeezes_S1_S_ = csm 0 := csm_congr (by decide) _
@[sl_canon] theorem semL1 (hh) : (cc0_scratch2.slice (Rect.unit (s := S2) ![1] S1.size hh)).squeeze S_ squeezes_S1_S_ = csm 1 := csm_congr (by decide) _
@[sl_canon] theorem dstL0 (hh hs) : (oM.slice (Rect.unit (s := S2x1024x96) ![0, 0, 0] S1x1x96.size hh) hs).squeeze S1x96 squeezes_S1x1x96_S1x96 = dstM 0 0 := dst_congr (by decide) _ _
@[sl_canon] theorem dstL1 (hh hs) : (oM.slice (Rect.unit (s := S2x1024x96) ![1, 0, 0] S1x1x96.size hh) hs).squeeze S1x96 squeezes_S1x1x96_S1x96 = dstM 1 0 := dst_congr (by decide) _ _
@[sl_canon] theorem srcL0 (hh hs) : (xM.slice (Rect.unit (s := S2x50176x96) ![0, 0, 0] S1x1x96.size hh) hs).squeeze S1x96 squeezes_S1x1x96_S1x96 = srcM 0 0 := src_congr (by decide) _ _
@[sl_canon] theorem srcL1 (hh hs) : (xM.slice (Rect.unit (s := S2x50176x96) ![1, 0, 0] S1x1x96.size hh) hs).squeeze S1x96 squeezes_S1x1x96_S1x96 = srcM 1 0 := src_congr (by decide) _ _
@[sl_canon] theorem dstK0 (k : Fin k0_t1_loop.trips) (hh hs) :
    (oM.slice (Rect.unit (s := S2x1024x96) (k0_off1 k) S1x1x96.size hh) hs).squeeze S1x96 squeezes_S1x1x96_S1x96 = dstM 0 ⟨k.val + 1, trip_lt k⟩ := dst_congr (off1_eq k) _ _
@[sl_canon] theorem dstK1 (k : Fin k0_t1_loop.trips) (hh hs) :
    (oM.slice (Rect.unit (s := S2x1024x96) (k0_off5 k) S1x1x96.size hh) hs).squeeze S1x96 squeezes_S1x1x96_S1x96 = dstM 1 ⟨k.val + 1, trip_lt k⟩ := dst_congr (off5_eq k) _ _
@[sl_canon] theorem srcI0 (v : BitVec 32) (hh hs) :
    (xM.slice (Rect.unit (s := S2x50176x96) (k0_off2 v) S1x1x96.size hh) hs).squeeze S1x96 squeezes_S1x1x96_S1x96 = srcM 0 ⟨v.toNat, lt_of_off2 hh⟩ := src_congr (off2_eq v _) _ _
@[sl_canon] theorem srcI1 (v : BitVec 32) (hh hs) :
    (xM.slice (Rect.unit (s := S2x50176x96) (k0_off6 v) S1x1x96.size hh) hs).squeeze S1x96 squeezes_S1x1x96_S1x96 = srcM 1 ⟨v.toNat, lt_of_off6 hh⟩ := src_congr (off6_eq v _) _ _

/-! ## Which elements a row is -/

/-- The elements of row `j` of image `i` of the result. -/
def dset (i : Fin 2) (j : Fin 1024) : Finset S2x1024x96.Idx := (dstM i j).view.set

theorem dset_eq (i : Fin 2) (j : Fin 1024) : dset i j = (Rect.unit (s := S2x1024x96) (dstOff i j) S1x1x96.size (dstOff_inb i j)).set :=
  (View.set_reshape (v := (View.whole cc0_stg2_0).slice (Rect.unit (s := S2x1024x96) (dstOff i j) S1x1x96.size (dstOff_inb i j))) _).trans
    (View.set_slice_whole cc0_stg2_0 _)

theorem mem_dst (i : Fin 2) (j : Fin 1024) (p : S2x1024x96.Idx) : p ∈ dset i j ↔ (p 0).val = i.val ∧ (p 1).val = j.val := by
  rw [dset_eq]
  refine Iff.trans Rect.mem_set_unit ?_
  constructor
  · intro h
    have h0 := h 0
    have h1 := h 1
    change i.val ≤ (p 0).val ∧ (p 0).val < i.val + 1 at h0
    change j.val ≤ (p 1).val ∧ (p 1).val < j.val + 1 at h1
    omega
  · rintro ⟨h0, h1⟩ a
    fin_cases a
    · show i.val ≤ (p 0).val ∧ (p 0).val < i.val + 1; omega
    · show j.val ≤ (p 1).val ∧ (p 1).val < j.val + 1; omega
    · show 0 ≤ (p 2).val ∧ (p 2).val < 0 + 96; have := (p 2).isLt; change (p 2).val < 96 at this; omega

theorem dst_disjoint {i i' : Fin 2} {j j' : Fin 1024} (h : i ≠ i' ∨ j ≠ j') : Disjoint (dset i j) (dset i' j') := by
  refine Finset.disjoint_left.mpr fun p hp hp' => ?_
  have hp := (mem_dst _ _ _).mp hp
  have hp' := (mem_dst _ _ _).mp hp'
  rcases h with h | h
  · exact h (Fin.ext (hp.1.symm.trans hp'.1))
  · exact h (Fin.ext (hp.2.symm.trans hp'.2))

theorem emb_unit_val {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = _; omega

/-- Where element `(i, r, l)` of the array lies. -/
abbrev at3x (i : Fin 2) (r : Fin 50176) (l : Fin 96) : S2x50176x96.Idx := fun a => match a with | ⟨0, _⟩ => i | ⟨1, _⟩ => r | ⟨2, _⟩ => l
abbrev at3o (i : Fin 2) (j : Fin 1024) (l : Fin 96) : S2x1024x96.Idx := fun a => match a with | ⟨0, _⟩ => i | ⟨1, _⟩ => j | ⟨2, _⟩ => l

/-- A landed row, read at an element: the array at the same channel of the row copied. -/
theorem landed_at (c : Dev nD) (XA : Buf (Elt F) (xM.view.loc (c : Thread nD τ))) (f : Buf (Elt F) (oM.view.loc (c : Thread nD τ)))
    (i : Fin 2) (j : Fin 1024) (r : Fin 50176) (p : S2x1024x96.Idx) (hp : p ∈ dset i j) :
    (dstM i j).view.writes (Elt F) f [⟨Rect.whole S1x96, ReadAs.same.apply ((srcM i r).view.read (Elt F) XA)⟩] p = XA (at3x i r (p 2)) := by
  obtain ⟨x, -, rfl⟩ := Finset.mem_map.mp hp
  have e1 := congrFun (View.read_writes_whole (Val := Elt F) (v := (dstM i j).view) f (ReadAs.same.apply ((srcM i r).view.read (Elt F) XA))) x
  refine Eq.trans e1 ?_
  show XA ((srcM i r).view.emb x) = XA _
  congr 1
  funext a
  apply Fin.ext
  have hs : ∀ a : Fin 3, (((srcM i r).view.emb x : S2x50176x96.Idx) a).val = srcOff i r a + ((Shape.reshapeEquiv squeezes_S1x1x96_S1x96.numel_eq x : S1x1x96.Idx) a).val :=
    fun a => emb_unit_val (s := S2x50176x96) (srcOff i r) S1x1x96.size (srcOff_inb i r) _ a
  have hd : ∀ a : Fin 3, (((dstM i j).view.emb x : S2x1024x96.Idx) a).val = dstOff i j a + ((Shape.reshapeEquiv squeezes_S1x1x96_S1x96.numel_eq x : S1x1x96.Idx) a).val :=
    fun a => emb_unit_val (s := S2x1024x96) (dstOff i j) S1x1x96.size (dstOff_inb i j) _ a
  refine (hs a).trans ?_
  have y0 : ((Shape.reshapeEquiv squeezes_S1x1x96_S1x96.numel_eq x : S1x1x96.Idx) 0).val < 1 := ((Shape.reshapeEquiv squeezes_S1x1x96_S1x96.numel_eq x : S1x1x96.Idx) 0).isLt
  have y1 : ((Shape.reshapeEquiv squeezes_S1x1x96_S1x96.numel_eq x : S1x1x96.Idx) 1).val < 1 := ((Shape.reshapeEquiv squeezes_S1x1x96_S1x96.numel_eq x : S1x1x96.Idx) 1).isLt
  fin_cases a
  · show i.val + ((Shape.reshapeEquiv squeezes_S1x1x96_S1x96.numel_eq x : S1x1x96.Idx) 0).val = i.val; omega
  · show r.val + ((Shape.reshapeEquiv squeezes_S1x1x96_S1x96.numel_eq x : S1x1x96.Idx) 1).val = r.val; omega
  · exact (hd 2).symm

/-! ## One trip, as a function

`F1` is the row norms, `F4` the pixel columns, `F5` the running distances; the carried pair is the masked matrix of the
two current columns and the two current norms. -/

section Step
variable (c : Dev nD)
abbrev nM : Memref sig .tc .vmem S2x50176 .f32 := Memref.whole cc0_stg1_0
abbrev NBuf (c : Dev nD) : Type := Buf (Elt F) (nM.view.loc (c : Thread nD τ))
abbrev VBuf (c : Dev nD) : Type := Buf (Elt F) (vM.view.loc (c : Thread nD τ))
abbrev DBuf (c : Dev nD) : Type := Buf (Elt F) (dM.view.loc (c : Thread nD τ))
variable (f1 : NBuf (F := F) c) (f4 : VBuf (F := F) c)

/-- The loaded pieces of a chunk. -/
abbrev rV (o : Fin 2 → Nat) (h : ∀ a, o a + S192x12544.size a ≤ S192x50176.size a) : Vec F S192x12544 .bf16 :=
  View.readAt (Elt F) vM.view (Rect.unit (s := S192x50176) o S192x12544.size h).toLoadRect f4
abbrev rN (o : Fin 2 → Nat) (h : ∀ a, o a + S2x12544.size a ≤ S2x50176.size a) : Vec F S2x12544 .f32 :=
  View.readAt (Elt F) nM.view (Rect.unit (s := S2x50176) o S2x12544.size h).toLoadRect f1
abbrev rD (f5 : DBuf (F := F) c) (o : Fin 2 → Nat) (h : ∀ a, o a + S2x12544.size a ≤ S2x50176.size a) : Vec F S2x12544 .f32 :=
  View.readAt (Elt F) dM.view (Rect.unit (s := S2x50176) o S2x12544.size h).toLoadRect f5

/-- The carried values: the masked columns, the norms, the distances. -/
abbrev St (c : Dev nD) : Type := (FVec F S192x2 .bf16 × FVec F S2x1 .f32) × DBuf (F := F) c

/-- The new distances of each quarter. -/
def q0 (s : St (F := F) c) : FVec F S2x12544 .f32 := k0_pay3 s.1.1 s.1.2 (rV c f4 ![0, 0] inb_S192x50176_S192x12544_0_0) (rN c f1 ![0, 0] inb_S2x50176_S2x12544_0_0) (rD c s.2 ![0, 0] inb_S2x50176_S2x12544_0_0)
def q1 (s : St (F := F) c) : FVec F S2x12544 .f32 := k0_pay3 s.1.1 s.1.2 (rV c f4 ![0, 12544] inb_S192x50176_S192x12544_0_12544) (rN c f1 ![0, 12544] inb_S2x50176_S2x12544_0_12544) (rD c s.2 ![0, 12544] inb_S2x50176_S2x12544_0_12544)
def q2 (s : St (F := F) c) : FVec F S2x12544 .f32 := k0_pay3 s.1.1 s.1.2 (rV c f4 ![0, 25088] inb_S192x50176_S192x12544_0_25088) (rN c f1 ![0, 25088] inb_S2x50176_S2x12544_0_25088) (rD c s.2 ![0, 25088] inb_S2x50176_S2x12544_0_25088)
def q3 (s : St (F := F) c) : FVec F S2x12544 .f32 := k0_pay3 s.1.1 s.1.2 (rV c f4 ![0, 37632] inb_S192x50176_S192x12544_0_37632) (rN c f1 ![0, 37632] inb_S2x50176_S2x12544_0_37632) (rD c s.2 ![0, 37632] inb_S2x50176_S2x12544_0_37632)

/-- A quarter's largest distance, per image. -/
def mxQ (d : FVec F S2x12544 .f32) : FVec F S2x1 .f32 := shapeCast S2x1 (multiReduction .maximumf [1] S2 d 0xFF800000#32 reduces_S2x12544_S2 (.inl rfl) rfl) shapeCasts_S2_S2x1
/-- The first position of a quarter (counted from `o`) attaining `m`, per image. -/
def ixQ (o : BitVec 32) (d : FVec F S2x12544 .f32) : IVec S2x1 32 :=
  shapeCast S2x1 (multiReductionI .minsi [1] S2 (select (cmpf .oeq d (broadcastTo S2x12544 (mxQ d) broadcasts_S2x1_S2x12544)) (addi (iota .tc S2x12544 32 [1] iota_S2x12544_d1_w32) (broadcast S2x12544 o)) (broadcast S2x12544 50176#32)) 2147483647#32 reduces_S2x12544_S2 rfl) shapeCasts_S2_S2x1
def mxA (d0 d1 d2 d3 : FVec F S2x12544 .f32) : FVec F S2x1 .f32 := maximumf (maximumf (maximumf (mxQ d0) (mxQ d1)) (mxQ d2)) (mxQ d3)
def pickQ (M : FVec F S2x1 .f32) (o : BitVec 32) (d : FVec F S2x12544 .f32) : IVec S2x1 32 := select (cmpf .oeq (mxQ d) M) (ixQ o d) (broadcast S2x1 50176#32)
/-- The first position of all four attaining the largest distance, per image. -/
def ixA (d0 d1 d2 d3 : FVec F S2x12544 .f32) : IVec S2x1 32 :=
  minsi (minsi (minsi (minsi (broadcast S2x1 50176#32) (pickQ (mxA d0 d1 d2 d3) 0#32 d0)) (pickQ (mxA d0 d1 d2 d3) 12544#32 d1)) (pickQ (mxA d0 d1 d2 d3) 25088#32 d2)) (pickQ (mxA d0 d1 d2 d3) 37632#32 d3)
/-- The next row's position in each image. -/
def ixV (s : St (F := F) c) : IVec S2x1 32 := ixA (q0 c f1 f4 s) (q1 c f1 f4 s) (q2 c f1 f4 s) (q3 c f1 f4 s)
def w0 (s : St (F := F) c) : BitVec 32 := extractAt ![0, 0] (extractStridedSlice S1x1 ![0, 0] (ixV c f1 f4 s) slices_S2x1_o0_0_S1x1) (by decide)
def w1 (s : St (F := F) c) : BitVec 32 := extractAt ![0, 0] (extractStridedSlice S1x1 ![1, 0] (ixV c f1 f4 s) slices_S2x1_o1_0_S1x1) (by decide)

/-- The masked columns and the norms of the next trip, from the two positions. -/
def nxt (s : St (F := F) c) (h0 : k0_chk1 (w0 c f1 f4 s)) (h1 : k0_chk2 (w1 c f1 f4 s)) : FVec F S192x2 .bf16 × FVec F S2x1 .f32 :=
  (k0_pay1 (iota .tc S192x1 32 [0] iota_S192x1_d0_w32) (k0_pay33 (F := F))
      (k0_pay27 (w0 c f1 f4 s) 128#32 (View.readAt (Elt F) vM.view (Rect.unit (s := S192x50176) (k0_off3 (w0 c f1 f4 s)) S192x128.size (k0_off3_inb _ h0)).toLoadRect f4))
      (k0_pay27 (w1 c f1 f4 s) 128#32 (View.readAt (Elt F) vM.view (Rect.unit (s := S192x50176) (k0_off7 (w1 c f1 f4 s)) S192x128.size (k0_off7_inb _ h1)).toLoadRect f4))
      (k0_pay29 (iota .tc S192x1 32 [0] iota_S192x1_d0_w32)) (k0_pay30 (iota .tc S192x1 32 [0] iota_S192x1_d0_w32)),
    k0_pay2
      (k0_pay28 (w0 c f1 f4 s) 128#32 (View.readAt (Elt F) nM.view (Rect.unit (s := S2x50176) (k0_off4 (w0 c f1 f4 s)) S1x128.size (k0_off4_inb _ h0)).toLoadRect f1))
      (k0_pay28 (w1 c f1 f4 s) 128#32 (View.readAt (Elt F) nM.view (Rect.unit (s := S2x50176) (k0_off8 (w1 c f1 f4 s)) S1x128.size (k0_off8_inb _ h1)).toLoadRect f1)))
/-- The distances after a trip. -/
def nxtD (s : St (F := F) c) : DBuf (F := F) c :=
  dM.view.writes (Elt F) s.2
    [⟨Rect.unit (s := S2x50176) ![0, 37632] S2x12544.size inb_S2x50176_S2x12544_0_37632, k0_pay8 (q3 c f1 f4 s)⟩,
     ⟨Rect.unit (s := S2x50176) ![0, 25088] S2x12544.size inb_S2x50176_S2x12544_0_25088, k0_pay8 (q2 c f1 f4 s)⟩,
     ⟨Rect.unit (s := S2x50176) ![0, 12544] S2x12544.size inb_S2x50176_S2x12544_0_12544, k0_pay8 (q1 c f1 f4 s)⟩,
     ⟨Rect.unit (s := S2x50176) ![0, 0] S2x12544.size inb_S2x50176_S2x12544_0_0, k0_pay8 (q0 c f1 f4 s)⟩]
/-- Both positions of a state pass the kernel's checks. -/
def Ok (s : St (F := F) c) : Prop := k0_chk1 (w0 c f1 f4 s) ∧ k0_chk2 (w1 c f1 f4 s)
instance (s : St (F := F) c) : Decidable (Ok c f1 f4 s) := instDecidableAnd
/-- One trip. -/
def stepS (s : St (F := F) c) : St (F := F) c := if h : Ok c f1 f4 s then (nxt c f1 f4 s h.1 h.2, nxtD c f1 f4 s) else s
/-- The state before trip `k`. -/
def st (s : St (F := F) c) : ℕ → St (F := F) c
  | 0 => s
  | k + 1 => stepS c f1 f4 (st s k)
theorem st_succ (s : St (F := F) c) (k : ℕ) (h : Ok c f1 f4 (st c f1 f4 s k)) :
    st c f1 f4 s (k + 1) = (nxt c f1 f4 (st c f1 f4 s k) h.1 h.2, nxtD c f1 f4 (st c f1 f4 s k)) := by
  show stepS c f1 f4 (st c f1 f4 s k) = _
  unfold stepS; rw [dif_pos h]
/-- The word naming the row copied into row `j` of image `i`. -/
def word (s : St (F := F) c) (i : Fin 2) : ℕ → BitVec 32
  | 0 => 0#32
  | k + 1 => if i = 0 then w0 c f1 f4 (st c f1 f4 s k) else w1 c f1 f4 (st c f1 f4 s k)
/-- That row. -/
def row (s : St (F := F) c) (i : Fin 2) (k : ℕ) : Fin 50176 := if h : (word c f1 f4 s i k).toNat < 50176 then ⟨_, h⟩ else 0
end Step

/-! ## The positions' checks -/

theorem mult1_eq (v : BitVec 32) (h : v.toNat < 50176) : k0_mult1 v = BitVec.ofNat 32 (v.toNat / 128 * 128) := by
  obtain ⟨n, hn, rfl⟩ : ∃ n, n < 50176 ∧ v = BitVec.ofNat 32 n := ⟨v.toNat, h, by simp⟩
  have hd : Scalar.divsi (BitVec.ofNat 32 n) 128#32 = BitVec.ofNat 32 (n / 128) := Routing.divsi_word _ (by omega) (by decide) (by decide)
  have hr : Scalar.remsi (BitVec.ofNat 32 n) 128#32 = BitVec.ofNat 32 (n % 128) := Routing.remsi_word _ (by omega) (by decide) (by decide)
  have e : (BitVec.ofNat 32 n).toNat = n := by rw [BitVec.toNat_ofNat]; omega
  rw [e]
  unfold k0_mult1
  simp only [hd, hr]
  have hm : ∀ m, m < 50176 → Scalar.muli (BitVec.ofNat 32 m) 128#32 = BitVec.ofNat 32 (m * 128) := fun m _ => by
    show BitVec.ofNat 32 m * BitVec.ofNat 32 128 = _
    rw [← BitVec.ofNat_mul]
  rcases Nat.eq_zero_or_pos n with rfl | hp
  · rfl
  · have hg : Scalar.cmpi .sgt (BitVec.ofNat 32 n) 0#32 = 1#1 := by
      show BitVec.ofBool ((0#32).slt (BitVec.ofNat 32 n)) = 1#1
      have : (0#32).slt (BitVec.ofNat 32 n) = true := by
        rw [BitVec.slt_eq_decide, BitVec.toInt_eq_toNat_of_lt (x := BitVec.ofNat 32 n) (by rw [e]; omega), e]
        simp; omega
      rw [this]; rfl
    have hl : Scalar.cmpi .slt (BitVec.ofNat 32 n) 0#32 = 0#1 := by
      show BitVec.ofBool ((BitVec.ofNat 32 n).slt 0#32) = 0#1
      have : (BitVec.ofNat 32 n).slt 0#32 = false := by
        rw [BitVec.slt_eq_decide, BitVec.toInt_eq_toNat_of_lt (by rw [e]; omega), e]
        simp
      rw [this]; rfl
    rw [hg, hl]
    have hz : ∀ b : BitVec 1, Scalar.andi (Scalar.cmpi .ne (Scalar.subi (Scalar.extui 1#1) (Scalar.extui 0#1)) (Scalar.subi (Scalar.extui (Scalar.cmpi .sgt 128#32 0#32)) (Scalar.extui (Scalar.cmpi .slt 128#32 0#32)))) b = 0#1 := by
      decide
    rw [hz]
    show Scalar.muli (BitVec.ofNat 32 (n / 128)) 128#32 = _
    exact hm _ (by omega)

theorem mult1_toNat (v : BitVec 32) (h : v.toNat < 50176) : (k0_mult1 v).toNat = v.toNat / 128 * 128 := by
  rw [mult1_eq v h, BitVec.toNat_ofNat]; omega

theorem off3_eq (v : BitVec 32) : k0_off3 v = ![0, (k0_mult1 v).toNat] := rfl
theorem off4_eq (v : BitVec 32) : k0_off4 v = ![0, (k0_mult1 v).toNat] := rfl
theorem off7_eq (v : BitVec 32) : k0_off7 v = ![0, (k0_mult1 v).toNat] := rfl
theorem off8_eq (v : BitVec 32) : k0_off8 v = ![1, (k0_mult1 v).toNat] := rfl

theorem chk1_of_lt (v : BitVec 32) (h : v.toNat < 50176) : k0_chk1 v := by
  have hm := mult1_toNat v h
  refine ⟨?_, by rw [hm]; exact Nat.dvd_mul_left _ _, ?_, ?_⟩
  · exact srcOff_inb 0 ⟨v.toNat, h⟩
  · rw [off3_eq, hm]; intro a; fin_cases a
    · show 0 + 192 ≤ 192; omega
    · show v.toNat / 128 * 128 + 128 ≤ 50176; omega
  · rw [off4_eq, hm]; intro a; fin_cases a
    · show 0 + 1 ≤ 2; omega
    · show v.toNat / 128 * 128 + 128 ≤ 50176; omega
theorem chk2_of_lt (v : BitVec 32) (h : v.toNat < 50176) : k0_chk2 v := by
  have hm := mult1_toNat v h
  refine ⟨?_, (chk1_of_lt v h).2.1, ?_, ?_⟩
  · exact srcOff_inb 1 ⟨v.toNat, h⟩
  · rw [off7_eq, hm]; intro a; fin_cases a
    · show 0 + 192 ≤ 192; omega
    · show v.toNat / 128 * 128 + 128 ≤ 50176; omega
  · rw [off8_eq, hm]; intro a; fin_cases a
    · show 1 + 1 ≤ 2; omega
    · show v.toNat / 128 * 128 + 128 ≤ 50176; omega
end Cert.KernelIdeal.Fps
end
-- ==== Proof.Trip.lean ====
module

public import proofs.«01_k».proof.Proof.Geo
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffix
public import Idealize.ShloMosaic.Lib.Ring
public import Idealize.ShloMosaic.Lib.Affine
public import Idealize.ShloMosaic.Lib.Routing.Words
public import Idealize.ShloMosaic.Lib.Tactic

@[expose] public section

noncomputable section

namespace Cert.KernelIdeal.Fps

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The pieces -/

section Pieces
variable (c : Dev nD) (XA : Buf (Elt F) (xM.view.loc (c : Thread nD τ)))

abbrev OBuf (c : Dev nD) : Type := Buf (Elt F) (oM.view.loc (c : Thread nD τ))
/-- Image `i`'s read share of the array. -/
abbrev tok (i : Fin 2) : PosShare TreeShare := Transfers.shareTokN fullShare (3 + i.val)
abbrev dstP (i : Fin 2) (j : Fin 1024) (f : OBuf (F := F) c) : sProp 𝕄 :=
  (dstM i j).view.loc (c : Thread nD τ) ↦[(dstM i j).view.set]{fullShare} f
abbrev srcP (i : Fin 2) (r : Fin 50176) : sProp 𝕄 :=
  (srcM i r).view.loc (c : Thread nD τ) ↦[(srcM i r).view.set]{tok i} XA
abbrev srcRestP (i : Fin 2) (r : Fin 50176) : sProp 𝕄 :=
  xM.view.loc (c : Thread nD τ) ↦[xM.view.set \ (srcM i r).view.set]{tok i} XA
abbrev landed (i : Fin 2) (j : Fin 1024) (r : Fin 50176) (f : OBuf (F := F) c) : OBuf (F := F) c :=
  (dstM i j).view.writes (Elt F) f [⟨Rect.whole S1x96, ReadAs.same.apply ((srcM i r).view.read (Elt F) XA)⟩]
abbrev flightP (i : Fin 2) (j : Fin 1024) (r : Fin 50176) (f : OBuf (F := F) c) : sProp 𝕄 :=
  Transfers.Flight countersEmb (c : Thread nD τ) (SemLoc.dma (csm i).sem) () (dstM i 0).view.dmaCredit iprop(dstP c i j (landed c XA i j r f) ∗ srcP c XA i r)

theorem srcJoin (i : Fin 2) (r : Fin 50176) :
    iprop(srcP c XA i r ∗ srcRestP c XA i r) ⊢ (xM.view.loc (c : Thread nD τ) ↦[xM.view.set]{tok i} XA : sProp 𝕄) :=
  (pointsTo_split_subset (ℓ := xM.view.loc (c : Thread nD τ)) (I := (srcM i r).view.set) (S := xM.view.set) (by rw [View.set_whole]; exact Finset.subset_univ _)).2
theorem srcSplit (i : Fin 2) (r : Fin 50176) :
    (xM.view.loc (c : Thread nD τ) ↦[xM.view.set]{tok i} XA : sProp 𝕄) ⊢ iprop(srcP c XA i r ∗ srcRestP c XA i r) :=
  (pointsTo_split_subset (ℓ := xM.view.loc (c : Thread nD τ)) (I := (srcM i r).view.set) (S := xM.view.set) (by rw [View.set_whole]; exact Finset.subset_univ _)).1
end Pieces

section Trip
variable (c : Dev nD) (XA : Buf (Elt F) (xM.view.loc (c : Thread nD τ)))
  (f1 : NBuf (F := F) c) (f4 : VBuf (F := F) c)

/-- Held before trip `k`: the three working buffers, both rows of the trip in flight, both rows of the next trip. -/
abbrev tripIn (k : ℕ) (h : k + 1 < 1024) (s : St (F := F) c) (g0 g1 n0 n1 : OBuf (F := F) c) (r0 r1 : Fin 50176) : sProp 𝕄 :=
  iprop((nM.view.loc (c : Thread nD τ) ↦[nM.view.set]{fullShare} f1)
      ∗ (vM.view.loc (c : Thread nD τ) ↦[vM.view.set]{fullShare} f4)
      ∗ (dM.view.loc (c : Thread nD τ) ↦[dM.view.set]{fullShare} s.2)
      ∗ dstP c 0 ⟨k + 1, h⟩ n0 ∗ dstP c 1 ⟨k + 1, h⟩ n1
      ∗ flightP c XA 0 ⟨k, by omega⟩ r0 g0 ∗ srcRestP c XA 0 r0
      ∗ flightP c XA 1 ⟨k, by omega⟩ r1 g1 ∗ srcRestP c XA 1 r1
      ∗ (∃ W : Waits sig Unit, owes (c : Thread nD τ) 0 W))
/-- Held after it: the rows landed, the next ones in flight. -/
abbrev tripOut (k : ℕ) (h : k + 1 < 1024) (s : St (F := F) c) (g0 g1 n0 n1 : OBuf (F := F) c) (r0 r1 r0' r1' : Fin 50176) : sProp 𝕄 :=
  iprop((nM.view.loc (c : Thread nD τ) ↦[nM.view.set]{fullShare} f1)
      ∗ (vM.view.loc (c : Thread nD τ) ↦[vM.view.set]{fullShare} f4)
      ∗ (dM.view.loc (c : Thread nD τ) ↦[dM.view.set]{fullShare} nxtD c f1 f4 s)
      ∗ dstP c 0 ⟨k, by omega⟩ (landed c XA 0 ⟨k, by omega⟩ r0 g0) ∗ dstP c 1 ⟨k, by omega⟩ (landed c XA 1 ⟨k, by omega⟩ r1 g1)
      ∗ flightP c XA 0 ⟨k + 1, h⟩ r0' n0 ∗ srcRestP c XA 0 r0'
      ∗ flightP c XA 1 ⟨k + 1, h⟩ r1' n1 ∗ srcRestP c XA 1 r1'
      ∗ (∃ W : Waits sig Unit, owes (c : Thread nD τ) 0 W))

abbrev tripProg (k : Fin k0_t1_loop.trips) (acc : FVec F S192x2 .bf16 × FVec F S2x1 .f32) :=
  k0_t1_body (F := F) (Memref.whole cc0_stg0_0) (Memref.isWhole_whole _) nM (Memref.isWhole_whole _) xM (Memref.isWhole_whole _) oM (Memref.isWhole_whole _) vM (Memref.isWhole_whole _) dM (Memref.isWhole_whole _) cc0_scratch2 (iota .tc S192x1 32 [0] iota_S192x1_d0_w32) (k0_pay33 (F := F)) k acc

theorem trip_run (k : Fin k0_t1_loop.trips) (s : St (F := F) c) (h0 : k0_chk1 (w0 c f1 f4 s)) (h1 : k0_chk2 (w1 c f1 f4 s))
    (g0 g1 n0 n1 : OBuf (F := F) c) (r0 r1 : Fin 50176) (Q : FVec F S192x2 .bf16 × FVec F S2x1 .f32 → sProp 𝕄) :
    iprop(tripIn c XA f1 f4 k.val (trip_lt k) s g0 g1 n0 n1 r0 r1
      ∗ (tripOut c XA f1 f4 k.val (trip_lt k) s g0 g1 n0 n1 r0 r1 ⟨(w0 c f1 f4 s).toNat, lt_of_off2 h0.1⟩ ⟨(w1 c f1 f4 s).toNat, lt_of_off6 h1.1⟩ -∗ Q (nxt c f1 f4 s h0 h1)))
    ⊢ wp frame (wpE (defs₀ (F := F)) Variants.none (c : Thread nD τ) none) Set.univ (tripProg k s.1) Q := by
  iintro ⟨⟨H1, H4, H5, HN0, HN1, HF0, HR0, HF1, HR1, ⟨%W, HW⟩⟩, HK⟩
  unfold tripProg
  sl_unfold [k0_t1_body]
  sl_exec
  ihave HX0 := (srcJoin c XA 0 r0) $$ [HF0_src HR0]
  · isplitl [HF0_src]; · iexact HF0_src
    iexact HR0
  icases (srcSplit c XA 0 ⟨(trip_run.sl.v176 c f1 f4 s).toNat, lt_of_off2 h0.1⟩) $$ HX0 with ⟨HS0, HT0⟩
  sl_exec
  ihave HX1 := (srcJoin c XA 1 r1) $$ [HF1_src HR1]
  · isplitl [HF1_src]; · iexact HF1_src
    iexact HR1
  icases (srcSplit c XA 1 ⟨(trip_run.sl.v231 c f1 f4 s).toNat, lt_of_off6 h1.1⟩) $$ HX1 with ⟨HS1, HT1⟩
  sl_exec
  sl_step
  have hv : (k0_pay1 (iota Kind.tc S192x1 32 [0] iota_S192x1_d0_w32) (k0_pay33 (F := F)) (trip_run.sl.r_13 c f1 f4 s h0)
      (trip_run.sl.r_15 c f1 f4 s h1) trip_run.sl.r_17 trip_run.sl.r_18,
      k0_pay2 (trip_run.sl.r_14 c f1 f4 s h0) (trip_run.sl.r_16 c f1 f4 s h1)) = nxt c f1 f4 s h0 h1 := rfl
  rw [hv]
  iapply HK
  isplitl [H1]; · iexact H1
  isplitl [H4]; · iexact H4
  isplitl [H5]; · iexact H5
  isplitl [HF0_dst]; · iexact HF0_dst
  isplitl [HF1_dst]; · iexact HF1_dst
  isplitl [HF0]; · iexact HF0
  isplitl [HT0]; · iexact HT0
  isplitl [HF1]; · iexact HF1
  isplitl [HT1]; · iexact HT1
  iexists _; iexact HW
end Trip
end Cert.KernelIdeal.Fps
end
-- ==== Proof.Inv.lean ====
module

public import proofs.«01_k».proof.Proof.Trip
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffix
public import Idealize.ShloMosaic.Lib.Ring
public import Idealize.ShloMosaic.Lib.Affine
public import Idealize.ShloMosaic.Lib.Routing.Words
public import Idealize.ShloMosaic.Lib.Tactic

@[expose] public section

noncomputable section

namespace Cert.KernelIdeal.Fps

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The rows of the result as sets of elements -/

section Out
variable (c : Dev nD) (XA : Buf (Elt F) (xM.view.loc (c : Thread nD τ)))
  (f1 : NBuf (F := F) c) (f4 : VBuf (F := F) c) (s0 : St (F := F) c) (g : OBuf (F := F) c)

/-- Row `k`, for a natural number `k`. -/
def jF (k : ℕ) : Fin 1024 := Fin.ofNat 1024 k
theorem jF_eq {k : ℕ} (h : k < 1024) : jF k = ⟨k, h⟩ := Fin.ext (Nat.mod_eq_of_lt h)

/-- What the copies leave: each row the array's row at the chosen position. -/
def outG : OBuf (F := F) c := fun p : S2x1024x96.Idx => XA (at3x (p 0) (row c f1 f4 s0 (p 0) (p 1).val) (p 2))
/-- The result when the rows before `k` have landed. -/
def outAt (k : ℕ) : OBuf (F := F) c := fun p : S2x1024x96.Idx => if (p 1).val < k then outG c XA f1 f4 s0 p else g p

/-- Every element but those of the two rows `j`. -/
def restS (j : Fin 1024) : Finset S2x1024x96.Idx := (Finset.univ \ dset 0 j) \ dset 1 j
theorem mem_restS (j : Fin 1024) (p : S2x1024x96.Idx) : p ∈ restS j ↔ (p 1).val ≠ j.val := by
  unfold restS
  rw [Finset.mem_sdiff, Finset.mem_sdiff, mem_dst, mem_dst]
  have : (p 0).val < 2 := (p 0).isLt
  simp only [Finset.mem_univ, true_and, Fin.val_zero, Fin.val_one]
  omega
abbrev rest2S (j j' : Fin 1024) : Finset S2x1024x96.Idx := (restS j \ dset 0 j') \ dset 1 j'
theorem mem_rest2S (j j' : Fin 1024) (p : S2x1024x96.Idx) : p ∈ rest2S j j' ↔ (p 1).val ≠ j.val ∧ (p 1).val ≠ j'.val := by
  unfold rest2S
  rw [Finset.mem_sdiff, Finset.mem_sdiff, mem_dst, mem_dst, mem_restS]
  have : (p 0).val < 2 := (p 0).isLt
  simp only [Fin.val_zero, Fin.val_one]
  omega

abbrev oAt (S : Finset S2x1024x96.Idx) (f : OBuf (F := F) c) : sProp 𝕄 := oM.view.loc (c : Thread nD τ) ↦[S]{fullShare} f
omit [FloatOps F] in
theorem oAt_congr (S : Finset S2x1024x96.Idx) {f f' : OBuf (F := F) c} (h : ∀ p ∈ S, (f p : F .f32) = f' p) : oAt c S f ⊢ oAt c S f' := by
  have e : (oAt c S f : sProp 𝕄) = oAt c S f' := pointsTo_congr (ℓ := oM.view.loc (c : Thread nD τ)) (I := S) (q := fullShare) h
  rw [e]

/-- Two rows taken out of a set that has them. -/
theorem take2 (S : Finset S2x1024x96.Idx) (j : Fin 1024) (f : OBuf (F := F) c) (h : ∀ p : S2x1024x96.Idx, (p 1).val = j.val → p ∈ S) :
    oAt c S f ⊢ iprop(dstP c 0 j f ∗ dstP c 1 j f ∗ oAt c ((S \ dset 0 j) \ dset 1 j) f) := by
  iintro H
  icases (pointsTo_split_subset (ℓ := oM.view.loc (c : Thread nD τ)) (I := dset 0 j) (S := S)
    (fun p hp => h p ((mem_dst 0 j p).mp hp).2)).1 $$ H with ⟨H0, H⟩
  icases (pointsTo_split_subset (ℓ := oM.view.loc (c : Thread nD τ)) (I := dset 1 j) (S := S \ dset 0 j)
    (fun p hp => Finset.mem_sdiff.mpr ⟨h p ((mem_dst 1 j p).mp hp).2, fun hp' => by
      have h1 := ((mem_dst 1 j p).mp hp).1; have h0 := ((mem_dst 0 j p).mp hp').1
      rw [h1] at h0; exact absurd h0 (by decide)⟩)).1 $$ H with ⟨H1, H⟩
  isplitl [H0]; · iexact H0
  isplitl [H1]; · iexact H1
  iexact H

/-- Two rows put back. -/
theorem put2 (S T : Finset S2x1024x96.Idx) (j : Fin 1024) (f : OBuf (F := F) c)
    (h : ∀ p : S2x1024x96.Idx, p ∈ T ↔ (p ∈ S ∨ (p 1).val = j.val)) (hS : ∀ p ∈ S, ((p : S2x1024x96.Idx) 1).val ≠ j.val) :
    iprop(dstP c 0 j f ∗ dstP c 1 j f ∗ oAt c S f) ⊢ oAt c T f := by
  have e : S = (T \ dset 0 j) \ dset 1 j := by
    ext p
    rw [Finset.mem_sdiff, Finset.mem_sdiff, mem_dst, mem_dst, h p]
    have h2 : (p 0).val < 2 := (p 0).isLt
    simp only [Fin.val_zero, Fin.val_one]
    constructor
    · intro hp; have := hS p hp; exact ⟨⟨Or.inl hp, fun h => this h.2⟩, fun h => this h.2⟩
    · rintro ⟨⟨hp | hp, h0⟩, h1⟩
      · exact hp
      · omega
  iintro ⟨H0, H1, H⟩
  iapply (pointsTo_split_subset (ℓ := oM.view.loc (c : Thread nD τ)) (I := dset 0 j) (S := T)
    (fun p hp => (h p).mpr (Or.inr ((mem_dst 0 j p).mp hp).2))).2
  isplitl [H0]; · iexact H0
  iapply (pointsTo_split_subset (ℓ := oM.view.loc (c : Thread nD τ)) (I := dset 1 j) (S := T \ dset 0 j)
    (fun p hp => Finset.mem_sdiff.mpr ⟨(h p).mpr (Or.inr ((mem_dst 1 j p).mp hp).2), fun hp' => by
      have h1 := ((mem_dst 1 j p).mp hp).1; have h0 := ((mem_dst 0 j p).mp hp').1
      rw [h1] at h0; exact absurd h0 (by decide)⟩)).2
  isplitl [H1]; · iexact H1
  rw [← e]; iexact H

/-- A landed row is the result's. -/
theorem landed_out (i : Fin 2) (k : ℕ) (h : k < 1024) (f : OBuf (F := F) c) (r : Fin 50176) (hr : r = row c f1 f4 s0 i k) :
    dstP c i ⟨k, h⟩ (landed c XA i ⟨k, h⟩ r f) ⊢ dstP c i ⟨k, h⟩ (outG c XA f1 f4 s0) := by
  subst hr
  refine oAt_congr c (dset i ⟨k, h⟩) fun p hp => ?_
  refine (landed_at c XA f i ⟨k, h⟩ _ p hp).trans ?_
  obtain ⟨h0, h1⟩ := (mem_dst i ⟨k, h⟩ p).mp hp
  have e0 : p 0 = i := Fin.ext h0
  unfold outG
  have h1' : (p 1).val = k := h1
  rw [e0, h1']

theorem outG_at (i : Fin 2) (k m : ℕ) (h : k < 1024) (hm : k < m) :
    dstP c i ⟨k, h⟩ (outG c XA f1 f4 s0) ⊢ dstP c i ⟨k, h⟩ (outAt c XA f1 f4 s0 g m) :=
  oAt_congr c (dset i ⟨k, h⟩) fun p hp => by
    have h1 : (p 1).val = k := ((mem_dst i ⟨k, h⟩ p).mp hp).2
    unfold outAt; rw [if_pos (by omega)]

/-! ## The loop's invariant -/

/-- Before trip `k`: rows before `k` landed, rows `k` in flight, the working buffers at the state's contents. -/
def inv (k : ℕ) (acc : FVec F S192x2 .bf16 × FVec F S2x1 .f32) : sProp 𝕄 :=
  iprop(⌜acc = (st c f1 f4 s0 k).1⌝
      ∗ (nM.view.loc (c : Thread nD τ) ↦[nM.view.set]{fullShare} f1)
      ∗ (vM.view.loc (c : Thread nD τ) ↦[vM.view.set]{fullShare} f4)
      ∗ (dM.view.loc (c : Thread nD τ) ↦[dM.view.set]{fullShare} (st c f1 f4 s0 k).2)
      ∗ oAt c (restS (jF k)) (outAt c XA f1 f4 s0 g k)
      ∗ (∃ n : OBuf (F := F) c, flightP c XA 0 (jF k) (row c f1 f4 s0 0 k) n) ∗ srcRestP c XA 0 (row c f1 f4 s0 0 k)
      ∗ (∃ n : OBuf (F := F) c, flightP c XA 1 (jF k) (row c f1 f4 s0 1 k) n) ∗ srcRestP c XA 1 (row c f1 f4 s0 1 k)
      ∗ (∃ W : Waits sig Unit, owes (c : Thread nD τ) 0 W))

theorem row0_succ (k : ℕ) (h : (w0 c f1 f4 (st c f1 f4 s0 k)).toNat < 50176) : (⟨_, h⟩ : Fin 50176) = row c f1 f4 s0 0 (k + 1) := by
  have e : word c f1 f4 s0 0 (k + 1) = w0 c f1 f4 (st c f1 f4 s0 k) := by rw [word]; exact if_pos rfl
  unfold row; rw [e, dif_pos h]
theorem row1_succ (k : ℕ) (h : (w1 c f1 f4 (st c f1 f4 s0 k)).toNat < 50176) : (⟨_, h⟩ : Fin 50176) = row c f1 f4 s0 1 (k + 1) := by
  have e : word c f1 f4 s0 1 (k + 1) = w1 c f1 f4 (st c f1 f4 s0 k) := by rw [word]; exact if_neg (by decide)
  unfold row; rw [e, dif_pos h]

/-- One trip keeps the invariant. -/
theorem inv_step (hok : ∀ k, k < 1023 → Ok c f1 f4 (st c f1 f4 s0 k)) (k : Fin k0_t1_loop.trips) (acc) :
    inv c XA f1 f4 s0 g k.val acc ⊢ wp frame (wpE (defs₀ (F := F)) Variants.none (c : Thread nD τ) none) Set.univ (tripProg k acc) (inv c XA f1 f4 s0 g (k.val + 1)) := by
  have hk := trip_lt k
  have hk' : k.val < 1024 := by omega
  obtain ⟨h0, h1⟩ := hok k.val (by omega)
  have ej : jF k.val = ⟨k.val, hk'⟩ := jF_eq hk'
  have ej' : jF (k.val + 1) = ⟨k.val + 1, hk⟩ := jF_eq hk
  have est := st_succ c f1 f4 s0 k.val ⟨h0, h1⟩
  unfold inv
  rw [ej, ej', est, ← row0_succ c f1 f4 s0 k.val (lt_of_off2 h0.1), ← row1_succ c f1 f4 s0 k.val (lt_of_off6 h1.1)]
  iintro ⟨%hacc, H1, H4, H5, HO, ⟨%n0, HF0⟩, HR0, ⟨%n1, HF1⟩, HR1, HW⟩
  subst hacc
  icases (take2 c (restS ⟨k.val, hk'⟩) ⟨k.val + 1, hk⟩ (outAt c XA f1 f4 s0 g k.val)
    (fun p hp => (mem_restS _ _).mpr (by show (p 1).val ≠ k.val; have : (p 1).val = k.val + 1 := hp; omega))) $$ HO with ⟨HN0, HN1, HO⟩
  iapply (trip_run c XA f1 f4 k (st c f1 f4 s0 k.val) h0 h1 n0 n1 (outAt c XA f1 f4 s0 g k.val) (outAt c XA f1 f4 s0 g k.val) (row c f1 f4 s0 0 k.val) (row c f1 f4 s0 1 k.val))
  isplitr [HO]
  · isplitl [H1]; · iexact H1
    isplitl [H4]; · iexact H4
    isplitl [H5]; · iexact H5
    isplitl [HN0]; · iexact HN0
    isplitl [HN1]; · iexact HN1
    isplitl [HF0]; · iexact HF0
    isplitl [HR0]; · iexact HR0
    isplitl [HF1]; · iexact HF1
    isplitl [HR1]; · iexact HR1
    iexact HW
  iintro ⟨H1, H4, H5, HD0, HD1, HF0, HR0, HF1, HR1, HW⟩
  ihave HD0 := (landed_out c XA f1 f4 s0 0 k.val hk' n0 _ rfl) $$ HD0
  ihave HD1 := (landed_out c XA f1 f4 s0 1 k.val hk' n1 _ rfl) $$ HD1
  ihave HD0 := (outG_at c XA f1 f4 s0 g 0 k.val (k.val + 1) hk' (by omega)) $$ HD0
  ihave HD1 := (outG_at c XA f1 f4 s0 g 1 k.val (k.val + 1) hk' (by omega)) $$ HD1
  ihave HO := (oAt_congr c (rest2S ⟨k.val, hk'⟩ ⟨k.val + 1, hk⟩) (f := outAt c XA f1 f4 s0 g k.val) (f' := outAt c XA f1 f4 s0 g (k.val + 1)) (fun p hp => by
    have := ((mem_rest2S _ _ p).mp hp).1
    have hne : (p 1).val ≠ k.val := this
    unfold outAt
    by_cases hlt : (p 1).val < k.val
    · rw [if_pos hlt, if_pos (by omega)]
    · rw [if_neg hlt, if_neg (by omega)])) $$ HO
  ihave HO := (put2 c (rest2S ⟨k.val, hk'⟩ ⟨k.val + 1, hk⟩) (restS ⟨k.val + 1, hk⟩) ⟨k.val, hk'⟩ (outAt c XA f1 f4 s0 g (k.val + 1))
    (fun p => by rw [mem_restS, mem_rest2S]; show (p 1).val ≠ k.val + 1 ↔ ((p 1).val ≠ k.val ∧ (p 1).val ≠ k.val + 1) ∨ (p 1).val = k.val; omega)
    (fun p hp => ((mem_rest2S _ _ p).mp hp).1)) $$ [HD0 HD1 HO]
  · isplitl [HD0]; · iexact HD0
    isplitl [HD1]; · iexact HD1
    iexact HO
  isplitr; · ipureintro; rfl
  isplitl [H1]; · iexact H1
  isplitl [H4]; · iexact H4
  isplitl [H5]; · iexact H5
  isplitl [HO]; · iexact HO
  isplitl [HF0]; · iexists _; iexact HF0
  isplitl [HR0]; · iexact HR0
  isplitl [HF1]; · iexists _; iexact HF1
  isplitl [HR1]; · iexact HR1
  iexact HW

end Out
end Cert.KernelIdeal.Fps
end
-- ==== Proof.Body.lean ====
module

public import proofs.«01_k».proof.Proof.Inv
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffix
public import Idealize.ShloMosaic.Lib.Ring
public import Idealize.ShloMosaic.Lib.Affine
public import Idealize.ShloMosaic.Lib.Routing.Words
public import Idealize.ShloMosaic.Lib.Tactic

@[expose] public section

noncomputable section

namespace Cert.KernelIdeal.Fps

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The whole body -/

section Body
variable (c : Dev nD) (XA : Buf (Elt F) (xM.view.loc (c : Thread nD τ))) (f1 : NBuf (F := F) c)

abbrev vinM : Memref sig .tc .vmem S192x50176 .bf16 := Memref.whole cc0_stg0_0
abbrev VinBuf (c : Dev nD) : Type := Buf (Elt F) (vinM.view.loc (c : Thread nD τ))

/-- The pixel columns, as the kernel copies them to its scratch buffer. -/
def v4 (f0 : VinBuf (F := F) c) : VBuf (F := F) c :=
  vM.view.writes (Elt F) vM.view.junk [⟨Rect.unit (s := S192x50176) ![0, 0] S192x50176.size inb_S192x50176_S192x50176_0_0,
    k0_pay31 (View.readAt (Elt F) vinM.view (Rect.unit (s := S192x50176) ![0, 0] S192x50176.size inb_S192x50176_S192x50176_0_0).toLoadRect f0)⟩]
/-- The distances before the first trip. -/
def d0 : DBuf (F := F) c :=
  dM.view.writes (Elt F) dM.view.junk [⟨Rect.unit (s := S2x50176) ![0, 0] S2x50176.size inb_S2x50176_S2x50176_0_0, k0_pay32⟩]
/-- The state before the first trip. -/
def S0 (f0 : VinBuf (F := F) c) : St (F := F) c :=
  ((k0_pay34 (View.readAt (Elt F) vM.view (Rect.unit (s := S192x50176) ![0, 0] S192x1.size inb_S192x50176_S192x1_0_0).toLoadRect (v4 c f0)),
    k0_pay35 (View.readAt (Elt F) nM.view (Rect.unit (s := S2x50176) ![0, 0] S2x1.size inb_S2x50176_S2x1_0_0).toLoadRect f1)), d0 c)

theorem row_zero (f4 : VBuf (F := F) c) (s : St (F := F) c) (i : Fin 2) : row c f1 f4 s i 0 = 0 := by
  have e : word c f1 f4 s i 0 = 0#32 := by unfold word; rfl
  have h : (word c f1 f4 s i 0).toNat < 50176 := by rw [e]; decide
  unfold row; rw [dif_pos h]
  apply Fin.ext
  show (word c f1 f4 s i 0).toNat = 0
  rw [e]; rfl

theorem st_zero (f4 : VBuf (F := F) c) (s : St (F := F) c) : st c f1 f4 s 0 = s := by unfold st; rfl
theorem S0_snd (f0 : VinBuf (F := F) c) : (S0 c f1 f0).2 = d0 c := by
  unfold S0; dsimp only

/-- The loop with its invariant. -/
abbrev loopI (g : OBuf (F := F) c) (f4 : VBuf (F := F) c) (s0 : St (F := F) c) (hok : ∀ k, k < 1023 → Ok c f1 f4 (st c f1 f4 s0 k))
    (init : FVec F S192x2 .bf16 × FVec F S2x1 .f32) :
    LoopInv (M := 𝕄) frame (wpE (defs₀ (F := F)) Variants.none (c : Thread nD τ) none) Set.univ
      k0_t1_loop.lb k0_t1_loop.ub k0_t1_loop.st k0_t1_ok init (fun k acc => tripProg (F := F) k acc) :=
  ⟨inv c XA f1 f4 s0 g, inv_step c XA f1 f4 s0 g hok⟩

/-- The whole body: from the staged inputs, the scratch buffers at anything, two read shares of the array and both cells at
zero, it leaves the result at the chosen rows and everything else as it was. -/
theorem body_run (f0 : VinBuf (F := F) c) (v : VBuf (F := F) c) (d : DBuf (F := F) c) (g : OBuf (F := F) c)
    (hok : ∀ k, k < 1023 → Ok c f1 (v4 c f0) (st c f1 (v4 c f0) (S0 c f1 f0) k))
    (Q : PUnit → sProp 𝕄) :
    iprop((vinM.view.loc (c : Thread nD τ) ↦[vinM.view.set]{fullShare} f0)
      ∗ (nM.view.loc (c : Thread nD τ) ↦[nM.view.set]{fullShare} f1)
      ∗ (vM.view.loc (c : Thread nD τ) ↦[vM.view.set]{fullShare} v)
      ∗ (dM.view.loc (c : Thread nD τ) ↦[dM.view.set]{fullShare} d)
      ∗ oAt c Finset.univ g
      ∗ (xM.view.loc (c : Thread nD τ) ↦[xM.view.set]{tok 0} XA) ∗ (xM.view.loc (c : Thread nD τ) ↦[xM.view.set]{tok 1} XA)
      ∗ semVal ((c : Thread nD τ), SemLoc.dma 3) 0 ∗ semVal ((c : Thread nD τ), SemLoc.dma 4) 0
      ∗ (∃ W : Waits sig Unit, owes (c : Thread nD τ) 0 W)
      ∗ (iprop((vinM.view.loc (c : Thread nD τ) ↦[vinM.view.set]{fullShare} f0)
          ∗ (nM.view.loc (c : Thread nD τ) ↦[nM.view.set]{fullShare} f1)
          ∗ (∃ v', vM.view.loc (c : Thread nD τ) ↦[vM.view.set]{fullShare} v')
          ∗ (∃ d', dM.view.loc (c : Thread nD τ) ↦[dM.view.set]{fullShare} d')
          ∗ oAt c Finset.univ (outG c XA f1 (v4 c f0) (S0 c f1 f0))
          ∗ (xM.view.loc (c : Thread nD τ) ↦[xM.view.set]{tok 0} XA) ∗ (xM.view.loc (c : Thread nD τ) ↦[xM.view.set]{tok 1} XA)
          ∗ semVal ((c : Thread nD τ), SemLoc.dma 3) 0 ∗ semVal ((c : Thread nD τ), SemLoc.dma 4) 0
          ∗ (∃ W : Waits sig Unit, owes (c : Thread nD τ) 0 W)) -∗ Q ⟨⟩))
    ⊢ wp frame (wpE (defs₀ (F := F)) Variants.none (c : Thread nD τ) none) Set.univ
      (cc0__fps2_kernel vinM (Memref.isWhole_whole _) nM (Memref.isWhole_whole _) xM (Memref.isWhole_whole _) oM (Memref.isWhole_whole _) vM (Memref.isWhole_whole _) dM (Memref.isWhole_whole _) cc0_scratch2) Q := by
  rw [cc0__fps2_kernel_eq_skeleton]; unfold cc0__fps2_kernel_skel
  iintro ⟨H0, H1, H4, H5, HO, HX0, HX1, Hq0, Hq1, ⟨%W, HW⟩, HK⟩
  icases (take2 c Finset.univ 0 g (fun p _ => Finset.mem_univ p)) $$ HO with ⟨HD0, HD1, HO⟩
  icases (srcSplit c XA 0 0) $$ HX0 with ⟨HS0, HR0⟩
  icases (srcSplit c XA 1 0) $$ HX1 with ⟨HS1, HR1⟩
  sl_exec
  have hi : (body_run.sl.r c f0, body_run.sl.r_1 c f1) = (st c f1 (v4 c f0) (S0 c f1 f0) 0).1 := rfl
  ihave HI : inv c XA f1 (v4 c f0) (S0 c f1 f0) g 0 (body_run.sl.r c f0, body_run.sl.r_1 c f1) $$ [H1 H4 H5 HO Hq0 HR0 Hq1 HR1 HW]
  · unfold inv
    isplitr; · ipureintro; exact hi
    isplitl [H1]; · iexact H1
    isplitl [H4]; · iexact H4
    isplitl [H5]
    · rw [st_zero, S0_snd]
      unfold d0
      iexact H5
    isplitl [HO]
    · iapply (oAt_congr c (restS (jF 0)) (f := g) (f' := outAt c XA f1 (v4 c f0) (S0 c f1 f0) g 0) (fun p _ => by
        unfold outAt; rw [if_neg (Nat.not_lt_zero _)]))
      iexact HO
    rw [row_zero, row_zero]
    isplitl [Hq0]; · iexists g; iexact Hq0
    isplitl [HR0]; · iexact HR0
    isplitl [Hq1]; · iexists g; iexact Hq1
    isplitl [HR1]; · iexact HR1
    iexists W; iexact HW
  ihave HL := (exec_loop frame (wpE (defs₀ (F := F)) Variants.none (c : Thread nD τ) none) Set.univ
    k0_t1_loop.lb k0_t1_loop.ub k0_t1_loop.st k0_t1_ok (body_run.sl.r c f0, body_run.sl.r_1 c f1)
    (fun k acc => tripProg (F := F) k acc) (loopI c XA f1 g (v4 c f0) (S0 c f1 f0) hok _)) $$ HI
  iapply HL
  iintro %acc HI
  have hI : (inv c XA f1 (v4 c f0) (S0 c f1 f0) g (Scf.trips k0_t1_loop.lb k0_t1_loop.ub k0_t1_loop.st) acc : sProp 𝕄) ⊢ inv c XA f1 (v4 c f0) (S0 c f1 f0) g 1023 acc := by
    have e : Scf.trips k0_t1_loop.lb k0_t1_loop.ub k0_t1_loop.st = 1023 := trips_eq
    rw [e]
  ihave HI := hI $$ HI
  unfold inv
  icases HI with ⟨%hacc, H1, H4, H5, HO, ⟨%n0, HF0⟩, HR0, ⟨%n1, HF1⟩, HR1, ⟨%W', HW⟩⟩
  obtain ⟨a0, a1⟩ := acc
  have h3 : 1023 < 1024 := by decide
  have ej : jF 1023 = ⟨1023, h3⟩ := jF_eq h3
  rw [ej]
  sl_exec
  ihave HX0 := (srcJoin c XA 0 _) $$ [HF0_src HR0]
  · isplitl [HF0_src]; · iexact HF0_src
    iexact HR0
  ihave HX1 := (srcJoin c XA 1 _) $$ [HF1_src HR1]
  · isplitl [HF1_src]; · iexact HF1_src
    iexact HR1
  sl_step
  iapply HK
  isplitl [H0]; · iexact H0
  isplitl [H1]; · iexact H1
  isplitl [H4]; · iexists _; iexact H4
  isplitl [H5]; · iexists _; iexact H5
  isplitl [HO HF0_dst HF1_dst]
  · ihave HD0 := (landed_out c XA f1 (v4 c f0) (S0 c f1 f0) 0 1023 h3 n0 _ rfl) $$ HF0_dst
    ihave HD1 := (landed_out c XA f1 (v4 c f0) (S0 c f1 f0) 1 1023 h3 n1 _ rfl) $$ HF1_dst
    ihave HO := (oAt_congr c (restS (⟨1023, h3⟩)) (f := outAt c XA f1 (v4 c f0) (S0 c f1 f0) g 1023) (f' := outG c XA f1 (v4 c f0) (S0 c f1 f0)) (fun p hp => by
      have h1 : (p 1).val ≠ 1023 := (mem_restS _ p).mp hp
      have h2 : (p 1).val < 1024 := (p 1).isLt
      unfold outAt; rw [if_pos (by omega)])) $$ HO
    iapply (put2 c (restS (⟨1023, h3⟩)) Finset.univ ⟨1023, h3⟩ (outG c XA f1 (v4 c f0) (S0 c f1 f0))
      (fun p => by
        refine ⟨fun _ => ?_, fun _ => Finset.mem_univ p⟩
        rw [mem_restS]; show (p 1).val ≠ 1023 ∨ (p 1).val = 1023; omega)
      (fun p hp => (mem_restS _ p).mp hp))
    isplitl [HD0]; · iexact HD0
    isplitl [HD1]; · iexact HD1
    iexact HO
  isplitl [HX0]; · iexact HX0
  isplitl [HX1]; · iexact HX1
  isplitl [HF0]; · iexact HF0
  isplitl [HF1]; · iexact HF1
  iexists _; iexact HW
end Body
end Cert.KernelIdeal.Fps
end
-- ==== Proof.Launch.lean ====
module

public import proofs.«01_k».proof.Proof.Body
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffix
public import Idealize.ShloMosaic.Lib.Ring
public import Idealize.ShloMosaic.Lib.Affine
public import Idealize.ShloMosaic.Lib.Routing.Words
public import Idealize.ShloMosaic.Lib.Tactic

@[expose] public section

noncomputable section

namespace Cert.KernelIdeal.Fps

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The launch -/

section Launch
variable (m : (ℓ : Loc nD τ sig) → Buf (Elt F) ℓ) (ρ : Dev nD → PrngReg)

/-- The two input blocks and the array the copies read, as the region finds them. -/
abbrev inV (c : Dev nD) : VinBuf (F := F) c := iblk m c 0 t0_0
abbrev inN (c : Dev nD) : NBuf (F := F) c := iblk m c 1 t0_0
abbrev inX (c : Dev nD) : Buf (Elt F) (xM.view.loc (c : Thread nD τ)) := V m c main_v1

/-- What the kernel leaves in its result. -/
abbrev outV (c : Dev nD) : OBuf (F := F) c := outG c (inX m c) (inN m c) (v4 c (inV m c)) (S0 c (inN m c) (inV m c))
/-- Every chosen position passes the kernel's checks. -/
abbrev AllOk : Prop := ∀ (c : Dev nD) (k : ℕ), k < 1023 → Ok c (inN m c) (v4 c (inV m c)) (st c (inN m c) (v4 c (inV m c)) (S0 c (inN m c) (inV m c)) k)

abbrev osem0 : Fin 2 → SemLoc sig := fun j => (![SemLoc.dma 3, SemLoc.dma 4] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0) := by
  rw [Pipeline.ownSems0_eq_of_list c osem0 [0, 1] (by decide) (by decide)]; rfl
def H0 : Finset (Ref sig .tc) := {main_v1}
theorem H0_sub : H0 ⊆ Pipeline.restRefs sig spec0 := by decide
theorem hbmPts0_eq (c : Dev nD) :
    (bigSep H0 (fun b => ((c : Thread nD τ).loc b) ↦{fullShare} V m c b) : sProp 𝕄)
      = ((c : Thread nD τ).loc main_v1) ↦{fullShare} V m c main_v1 := by
  rw [BI.bigSep_eq_bigSepL_of_eq [main_v1] (by decide) (by decide)]; rfl
theorem PhiD0_eq (c : Dev nD) :
    (Pipeline.ΦD osem0 spec0 H0 (V m) c : sProp 𝕄)
      = iprop(((∃ f : VBuf (F := F) c, vM.view.loc (c : Thread nD τ) ↦[vM.view.set]{fullShare} f) ∗ (∃ f : DBuf (F := F) c, dM.view.loc (c : Thread nD τ) ↦[dM.view.set]{fullShare} f))
          ∗ (∃ r, prngReg c r)
          ∗ (semVal ((c : Thread nD τ), SemLoc.dma 3) 0 ∗ semVal ((c : Thread nD τ), SemLoc.dma 4) 0)
          ∗ (xM.view.loc (c : Thread nD τ) ↦[xM.view.set]{fullShare} inX m c)) := by
  rw [Pipeline.ΦD_eq, scopedRest0_eq, ownSems00_eq, hbmPts0_eq]
  simp only [Memref.view_whole, View.set_whole]

/-- The array's read shares: the two the copies take, and the rest. -/
theorem toks (c : Dev nD) (f : Buf (Elt F) (xM.view.loc (c : Thread nD τ))) :
    (xM.view.loc (c : Thread nD τ) ↦[xM.view.set]{fullShare} f : sProp 𝕄)
      ⊣⊢ iprop((xM.view.loc (c : Thread nD τ) ↦[xM.view.set]{tok 0} f) ∗ (xM.view.loc (c : Thread nD τ) ↦[xM.view.set]{tok 1} f)
          ∗ (xM.view.loc (c : Thread nD τ) ↦[xM.view.set]{Transfers.shareDrop fullShare 5} f)
          ∗ (xM.view.loc (c : Thread nD τ) ↦[xM.view.set]{Transfers.shareTokN fullShare 0} f)
          ∗ (xM.view.loc (c : Thread nD τ) ↦[xM.view.set]{Transfers.shareTokN fullShare 1} f)
          ∗ (xM.view.loc (c : Thread nD τ) ↦[xM.view.set]{Transfers.shareTokN fullShare 2} f)) := by
  have h : (xM.view.loc (c : Thread nD τ) ↦[xM.view.set]{fullShare} f : sProp 𝕄)
      ⊣⊢ iprop((xM.view.loc (c : Thread nD τ) ↦[xM.view.set]{Transfers.shareDrop fullShare 5} f)
          ∗ (xM.view.loc (c : Thread nD τ) ↦[xM.view.set]{Transfers.shareTokN fullShare 0} f)
          ∗ (xM.view.loc (c : Thread nD τ) ↦[xM.view.set]{Transfers.shareTokN fullShare 1} f)
          ∗ (xM.view.loc (c : Thread nD τ) ↦[xM.view.set]{Transfers.shareTokN fullShare 2} f)
          ∗ (xM.view.loc (c : Thread nD τ) ↦[xM.view.set]{tok 0} f) ∗ (xM.view.loc (c : Thread nD τ) ↦[xM.view.set]{tok 1} f)) := by
    have h := Transfers.pointsTo_toks_range (Ix := Unit) (Name := ℕ) (U := Pipeline.UD sig nD τ) (Lvl := ℕ) (ℓ := xM.view.loc (c : Thread nD τ)) (S := xM.view.set) (f := f) fullShare 5
    rw [BI.bigSep_eq_bigSepL_of_eq [0, 1, 2, 3, 4] (by decide) (by decide)] at h
    exact h
  constructor
  · refine h.1.trans ?_
    iintro ⟨H, H0, H1, H2, H3, H4⟩
    isplitl [H3]; · iexact H3
    isplitl [H4]; · iexact H4
    isplitl [H]; · iexact H
    isplitl [H0]; · iexact H0
    isplitl [H1]; · iexact H1
    iexact H2
  · refine BIBase.Entails.trans ?_ h.2
    iintro ⟨H3, H4, H, H0, H1, H2⟩
    isplitl [H]; · iexact H
    isplitl [H0]; · iexact H0
    isplitl [H1]; · iexact H1
    isplitl [H2]; · iexact H2
    isplitl [H3]; · iexact H3
    iexact H4

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outV m c
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outV m c := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

theorem body_at : bodyAt0 (F := F) t0_0 = cc0__fps2_kernel vinM (Memref.isWhole_whole _) nM (Memref.isWhole_whole _) xM (Memref.isWhole_whole _) oM (Memref.isWhole_whole _) vM (Memref.isWhole_whole _) dM (Memref.isWhole_whole _) cc0_scratch2 := rfl
theorem st0_at : st0_0 t0_0 = vinM := rfl
theorem st1_at : st0_1 t0_0 = nM := rfl
theorem st2_at : st0_2 t0_0 = oM := rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (hok : AllOk m) (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  rw [show (dats m 0 c).Φ (t0_0 : Fin cfg0.N).succ = Pipeline.ΦD osem0 spec0 H0 (V m) c from rfl,
    show (dats m 0 c).Φ (t0_0 : Fin cfg0.N).castSucc = Pipeline.ΦD osem0 spec0 H0 (V m) c from rfl, PhiD0_eq, after0_0, after0_1, after0_2, body_at]
  simp only [before0_0, before0_1]
  unfold Dat.owesAt Pipeline.owesWithin
  rw [show (dats m 0 c).owed (t0_0 : Fin cfg0.N).castSucc = 0 from rfl, show (dats m 0 c).owed (t0_0 : Fin cfg0.N).succ = 0 from rfl]
  rw [st0_at, st1_at, st2_at]
  have hb := fun fv fd g => body_run c (inX m c) (inN m c) (inV m c) fv fd g (fun k hk => hok c k hk)
  have ht := toks c (inX m c)
  simp only [Memref.view_whole, View.set_whole] at hb ht
  simp only [Memref.view_whole, View.set_whole, owns_whole]
  iintro ⟨⟨⟨⟨%fv, HV⟩, ⟨%fd, HD⟩⟩, Hg, ⟨Hq0, Hq1⟩, HX⟩, ⟨%W, -, HW⟩, ⟨%e0, H0⟩, ⟨%e1, H1⟩, ⟨%e2, H2⟩⟩
  icases ht.1 $$ HX with ⟨HX0, HX1, HXr⟩
  iapply (hb fv fd ((dats m 0 c).before 2 t0_0 e2))
  isplitl [H0]; · iexact H0
  isplitl [H1]; · iexact H1
  isplitl [HV]; · iexact HV
  isplitl [HD]; · iexact HD
  isplitl [H2]; · iexact H2
  isplitl [HX0]; · iexact HX0
  isplitl [HX1]; · iexact HX1
  isplitl [Hq0]; · iexact Hq0
  isplitl [Hq1]; · iexact Hq1
  isplitl [HW]; · iexists W; iexact HW
  iintro ⟨H0, H1, HV, HD, H2, HX0, HX1, Hq0, Hq1, ⟨%W', HW⟩⟩
  isplitl [HV HD Hg Hq0 Hq1 HX0 HX1 HXr]
  · isplitl [HV HD]
    · isplitl [HV]; · iexact HV
      iexact HD
    isplitl [Hg]; · iexact Hg
    isplitl [Hq0 Hq1]
    · isplitl [Hq0]; · iexact Hq0
      iexact Hq1
    iapply ht.2
    isplitl [HX0]; · iexact HX0
    isplitl [HX1]; · iexact HX1
    iexact HXr
  isplitl [HW]
  · iexists W'; isplitr; · ipureintro; exact fun _ _ => Or.inl trivial
    iexact HW
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (hok : AllOk m) (c : Dev nD) : BodyObligation (dats (F := F) m 0 c) (defs₀ (F := F)) Variants.none () Set.univ := fun t => by
  rw [bigSep_W0, bigSep_W0, defs₀_row]
  exact triple_restated (sound_body m hok c t) rfl .rfl fun _ => .rfl

theorem main_around : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The lines after the region touch no operand of the copies. -/
theorem tail_sub : ∀ ops ∈ ([hostOps1] : List (List (HloOp τ sig (Elt F)))), ∀ op ∈ ops,
    op.bufs ⊆ Pipeline.tailRefsBut sig Pipeline.Prefetch.none spec0 H0 := by
  have hm : ∀ b : Ref sig .tc, b ∈ ({main_v6, main_v7, main_v8} : Finset (Ref sig .tc)) →
      Proc.devRef .tc b ∈ Pipeline.tailRefsBut (τ := τ) sig Pipeline.Prefetch.none spec0 H0 := by
    intro b hb
    unfold Pipeline.tailRefsBut
    refine Finset.mem_map_of_mem _ ?_
    revert b; decide
  intro ops hops op hop
  simp only [List.mem_cons, List.mem_nil_iff, or_false] at hops
  subst hops
  simp only [hostOps1, List.mem_cons, List.mem_nil_iff, or_false] at hop
  rcases hop with rfl | rfl
  all_goals
    intro b hb
    have hb' : b = Proc.devRef .tc main_v6 ∨ b = Proc.devRef .tc main_v7 ∨ b = Proc.devRef .tc main_v8 := by
      revert hb
      simp only [StableHlo.reshape, StableHlo.unary]
      intro hb
      simp at hb
      tauto
    rcases hb' with rfl | rfl | rfl
    · exact hm _ (by decide)
    · exact hm _ (by decide)
    · exact hm _ (by decide)

set_option backward.isDefEq.respectTransparency.types false in
theorem run_main (hok : AllOk m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m hok c).loose) (hshare := fun c => (dats m 0 c).share_full fun _ => rfl)
    (howed := fun _ _ => rfl) (V₀ := V0 m) (opss := [hostOps1]) (hsub := tail_sub) (hfresh := sfx_fresh) (hkeep := sfx_keeps)
    (hmain := main_around m) (hA := A_eq m) (hin := fun _ => .rfl) (hout := fun _ => .rfl)

end Launch
end Cert.KernelIdeal.Fps
end
-- ==== Proof.FirstMax.lean ====
module

public import Idealize.ShloMosaic.Lib.Pointwise

@[expose] public section

noncomputable section

namespace Cert.Fps

open Idealize.ShloMosaic

/-! ## The first position of the largest value -/

/-- `p` is the first position at which `f` is largest. -/
def FM {n : ℕ} (f : Fin n → EReal) (p : Fin n) : Prop := (∀ r, f r ≤ f p) ∧ ∀ r, r < p → f r < f p

theorem FM.unique {n : ℕ} {f : Fin n → EReal} {p q : Fin n} (hp : FM f p) (hq : FM f q) : p = q := by
  rcases lt_trichotomy p q with h | h | h
  · exact absurd (hq.2 p h) (not_lt.mpr (hp.1 q))
  · exact h
  · exact absurd (hp.2 q h) (not_lt.mpr (hq.1 p))

theorem FM.exists {n : ℕ} (f : Fin (n + 1) → EReal) : ∃ p, FM f p := by
  obtain ⟨q, -, hq⟩ := Finset.exists_max_image Finset.univ f Finset.univ_nonempty
  have hne : (Finset.univ.filter fun r => f r = f q).Nonempty := ⟨q, by simp⟩
  let p := (Finset.univ.filter fun r => f r = f q).min' hne
  have hp : f p = f q := (Finset.mem_filter.mp (Finset.min'_mem _ hne)).2
  refine ⟨p, fun r => hp ▸ hq r (Finset.mem_univ r), fun r hr => ?_⟩
  refine lt_of_le_of_ne (hp ▸ hq r (Finset.mem_univ r)) fun e => ?_
  have := Finset.min'_le (Finset.univ.filter fun r => f r = f q) r (by simp [e, hp])
  exact absurd hr (not_lt.mpr this)

theorem neg_inf : Ideal.ofBits .f32 4286578688#32 = ⊥ := by
  simp [Ideal.ofBits, Ideal.ieee]

theorem fold_max_eq {n : ℕ} (f : Fin n → EReal) (p : Fin n) (hp : FM f p) :
    Finset.univ.fold max (⊥ : EReal) f = f p := by
  refine le_antisymm ?_ ?_
  · rw [Finset.fold_max_le]; exact ⟨bot_le, fun x _ => hp.1 x⟩
  · rw [Finset.le_fold_max]; exact Or.inr ⟨p, Finset.mem_univ p, le_rfl⟩

/-! ## The smaller of two small words -/

theorem minsi_toNat (a b : BitVec 32) (ha : a.toNat < 2 ^ 31) (hb : b.toNat < 2 ^ 31) :
    (IntOp.minsi a b).toNat = min a.toNat b.toNat := by
  unfold IntOp.minsi
  rw [BitVec.slt_eq_decide, BitVec.toInt_eq_toNat_of_lt (by omega), BitVec.toInt_eq_toNat_of_lt (by omega)]
  by_cases h : a.toNat < b.toNat
  · rw [if_pos (by simp; omega)]; omega
  · rw [if_neg (by simp; omega)]; omega

theorem minsi_ofNat (a b : ℕ) (ha : a < 2 ^ 31) (hb : b < 2 ^ 31) :
    IntOp.minsi (BitVec.ofNat 32 a) (BitVec.ofNat 32 b) = BitVec.ofNat 32 (min a b) := by
  have ea : (BitVec.ofNat 32 a).toNat = a := by rw [BitVec.toNat_ofNat]; omega
  have eb : (BitVec.ofNat 32 b).toNat = b := by rw [BitVec.toNat_ofNat]; omega
  apply BitVec.eq_of_toNat_eq
  rw [minsi_toNat _ _ (by omega) (by omega), ea, eb, BitVec.toNat_ofNat]
  omega

theorem fold_minsi {n : ℕ} (f : Fin n → ℕ) (hf : ∀ x, f x < 2 ^ 31) (s : Finset (Fin n)) :
    s.fold IntOp.minsi (2147483647#32) (fun x => BitVec.ofNat 32 (f x)) = BitVec.ofNat 32 (s.fold min 2147483647 f)
      ∧ s.fold min 2147483647 f < 2 ^ 31 := by
  classical
  induction s using Finset.induction_on with
  | empty => exact ⟨rfl, by rw [Finset.fold_empty]; decide⟩
  | insert a s ha ih =>
    rw [Finset.fold_insert ha, Finset.fold_insert ha, ih.1, minsi_ofNat _ _ (hf a) ih.2]
    exact ⟨rfl, by have := hf a; omega⟩

theorem fold_minsi_eq {n : ℕ} (f : Fin n → ℕ) (hf : ∀ x, f x < 2 ^ 31) (p : Fin n) (hp : ∀ x, f p ≤ f x) :
    Finset.univ.fold IntOp.minsi (2147483647#32) (fun x => BitVec.ofNat 32 (f x)) = BitVec.ofNat 32 (f p) := by
  rw [(fold_minsi f hf _).1]
  congr 1
  refine le_antisymm ?_ ?_
  · rw [Finset.fold_min_le]; exact Or.inr ⟨p, Finset.mem_univ p, le_rfl⟩
  · rw [Finset.le_fold_min]; exact ⟨by have := hf p; omega, fun x _ => hp x⟩

/-- The position of one quarter: the least word of those where the largest value is attained. -/
theorem quarter {n : ℕ} (g : Fin n → EReal) (p : Fin n) (hp : FM g p) (o : ℕ) (ho : o + n ≤ 50176) :
    Finset.univ.fold IntOp.minsi (2147483647#32)
      (fun x => if g x = g p then IntOp.addi (BitVec.ofNat 32 x.val) (BitVec.ofNat 32 o) else 50176#32) = BitVec.ofNat 32 (p.val + o) := by
  have e : (fun x : Fin n => if g x = g p then IntOp.addi (BitVec.ofNat 32 x.val) (BitVec.ofNat 32 o) else 50176#32)
      = fun x => BitVec.ofNat 32 (if g x = g p then x.val + o else 50176) := by
    funext x
    by_cases h : g x = g p
    · rw [if_pos h, if_pos h]; show BitVec.ofNat 32 x.val + BitVec.ofNat 32 o = _; rw [BitVec.ofNat_add]
    · rw [if_neg h, if_neg h]
  rw [e, fold_minsi_eq _ _ p]
  · rw [if_pos rfl]
  · intro x
    rw [if_pos rfl]
    split_ifs with h
    · have : p ≤ x := not_lt.mp fun hx => absurd h (ne_of_lt (hp.2 x hx))
      have := Fin.le_def.mp this; omega
    · have := p.isLt; omega
  · intro x; have := x.isLt; split_ifs <;> omega

/-- The four quarters together. -/
theorem four (g : Fin 50176 → EReal) (q : Fin 4 → Fin 12544)
    (hq : ∀ j : Fin 4, FM (fun x : Fin 12544 => g ⟨12544 * j.val + x.val, by omega⟩) (q j)) (M : Fin 4 → EReal)
    (hM : ∀ j : Fin 4, M j = g ⟨12544 * j.val + (q j).val, by omega⟩) :
    ∃ p : Fin 50176, FM g p ∧
      IntOp.minsi (IntOp.minsi (IntOp.minsi (IntOp.minsi 50176#32
        (if M 0 = max (max (max (M 0) (M 1)) (M 2)) (M 3) then BitVec.ofNat 32 ((q 0).val + 0) else 50176#32))
        (if M 1 = max (max (max (M 0) (M 1)) (M 2)) (M 3) then BitVec.ofNat 32 ((q 1).val + 12544) else 50176#32))
        (if M 2 = max (max (max (M 0) (M 1)) (M 2)) (M 3) then BitVec.ofNat 32 ((q 2).val + 25088) else 50176#32))
        (if M 3 = max (max (max (M 0) (M 1)) (M 2)) (M 3) then BitVec.ofNat 32 ((q 3).val + 37632) else 50176#32)
      = BitVec.ofNat 32 p.val := by
  have hle : ∀ j, M j ≤ max (max (max (M 0) (M 1)) (M 2)) (M 3) := by
    intro j; fin_cases j
    · exact le_max_of_le_left (le_max_of_le_left (le_max_left _ _))
    · exact le_max_of_le_left (le_max_of_le_left (le_max_right _ _))
    · exact le_max_of_le_left (le_max_right _ _)
    · exact le_max_right _ _
  have hex : ∃ j, M j = max (max (max (M 0) (M 1)) (M 2)) (M 3) := by
    rcases max_choice (max (max (M 0) (M 1)) (M 2)) (M 3) with h | h
    · rcases max_choice (max (M 0) (M 1)) (M 2) with h' | h'
      · rcases max_choice (M 0) (M 1) with h'' | h''
        · exact ⟨0, by rw [h, h', h'']⟩
        · exact ⟨1, by rw [h, h', h'']⟩
      · exact ⟨2, by rw [h, h']⟩
    · exact ⟨3, by rw [h]⟩
  generalize max (max (max (M 0) (M 1)) (M 2)) (M 3) = T at hle hex ⊢
  have hat : ∀ r : Fin 50176, ∃ (j : Fin 4) (x : Fin 12544), r.val = 12544 * j.val + x.val ∧ g r = (fun x : Fin 12544 => g ⟨12544 * j.val + x.val, by omega⟩) x := by
    intro r
    refine ⟨⟨r.val / 12544, by omega⟩, ⟨r.val % 12544, Nat.mod_lt _ (by decide)⟩, ?_, ?_⟩
    · show r.val = 12544 * (r.val / 12544) + r.val % 12544; omega
    · show g r = g _; congr 1; apply Fin.ext; show r.val = 12544 * (r.val / 12544) + r.val % 12544; omega
  have hfm : ∀ j : Fin 4, M j = T → (∀ j' < j, M j' ≠ T) → FM g ⟨12544 * j.val + (q j).val, by omega⟩ := by
    intro j hj hlt
    have hup : ∀ r, g r ≤ T := fun r => by
      obtain ⟨j', x, -, hr⟩ := hat r
      rw [hr]
      refine le_trans ((hq j').1 x) ?_
      exact le_of_eq_of_le (hM j').symm (hle j')
    refine ⟨fun r => by rw [← hM, hj]; exact hup r, fun r hr => ?_⟩
    rw [← hM, hj]
    obtain ⟨j', x, hv, hr'⟩ := hat r
    have hr : r.val < 12544 * j.val + (q j).val := hr
    rw [hr']
    rcases lt_or_eq_of_le (show j' ≤ j from by rw [Fin.le_def]; omega) with h | h
    · refine lt_of_le_of_lt ((hq j').1 x) ?_
      exact lt_of_eq_of_lt (hM j').symm (lt_of_le_of_ne (hle j') (hlt j' h))
    · subst h
      have := (hq j').2 x (by rw [Fin.lt_def]; omega)
      refine lt_of_lt_of_eq this ?_
      rw [← hj]; exact (hM j').symm
  have hm : ∀ (j : Fin 4) (a : ℕ), (if M j = T then BitVec.ofNat 32 a else 50176#32) = BitVec.ofNat 32 (if M j = T then a else 50176) := by
    intro j a; split_ifs <;> rfl
  rw [hm, hm, hm, hm]
  have b := fun j => (q j).isLt
  have b0 := b 0; have b1 := b 1; have b2 := b 2; have b3 := b 3
  rw [show (50176#32) = BitVec.ofNat 32 50176 from rfl, minsi_ofNat _ _ (by omega) (by split_ifs <;> omega), minsi_ofNat _ _ (by omega) (by split_ifs <;> omega),
    minsi_ofNat _ _ (by omega) (by split_ifs <;> omega), minsi_ofNat _ _ (by omega) (by split_ifs <;> omega)]
  by_cases h0 : M 0 = T
  · refine ⟨_, hfm 0 h0 (fun j' hj => absurd hj (by omega)), congrArg _ ?_⟩
    show _ = 12544 * 0 + (q 0).val
    rw [if_pos h0]; split_ifs <;> omega
  by_cases h1 : M 1 = T
  · refine ⟨_, hfm 1 h1 (fun j' hj => ?_), congrArg _ ?_⟩
    · obtain rfl : j' = 0 := by omega
      exact h0
    show _ = 12544 * 1 + (q 1).val
    rw [if_neg h0, if_pos h1]; split_ifs <;> omega
  by_cases h2 : M 2 = T
  · refine ⟨_, hfm 2 h2 (fun j' hj => ?_), congrArg _ ?_⟩
    · rcases (show j' = 0 ∨ j' = 1 by omega) with rfl | rfl <;> assumption
    show _ = 12544 * 2 + (q 2).val
    rw [if_neg h0, if_neg h1, if_pos h2]; split_ifs <;> omega
  have h3 : M 3 = T := by
    obtain ⟨j, hj⟩ := hex
    rcases (show j = 0 ∨ j = 1 ∨ j = 2 ∨ j = 3 by omega) with rfl | rfl | rfl | rfl
    · exact absurd hj h0
    · exact absurd hj h1
    · exact absurd hj h2
    · exact hj
  refine ⟨_, hfm 3 h3 (fun j' hj => ?_), congrArg _ ?_⟩
  · rcases (show j' = 0 ∨ j' = 1 ∨ j' = 2 by omega) with rfl | rfl | rfl <;> assumption
  show _ = 12544 * 3 + (q 3).val
  rw [if_neg h0, if_neg h1, if_neg h2, if_pos h3]; omega

/-! ## The selection of one image, as a recursion

`N` is the pixels' squared lengths, `X` the pixels' channels. -/

/-- The distances after the pixel at `p` has been chosen. -/
def stepDist (N : Fin 50176 → EReal) (X : Fin 96 → Fin 50176 → EReal) (d : Fin 50176 → EReal) (p r : Fin 50176) : EReal :=
  min (d r) (N r + N p - Ideal.ofBits .f32 0x40000000#32 * ∑ l : Fin 96, X l p * X l r)

/-- The first position of the largest distance. -/
def amax (d : Fin 50176 → EReal) : Fin 50176 := Classical.choose (FM.exists d)
theorem amax_FM (d : Fin 50176 → EReal) : FM d (amax d) := Classical.choose_spec (FM.exists d)

/-- The `k`-th chosen position and the distances it was chosen by. -/
def sel (N : Fin 50176 → EReal) (X : Fin 96 → Fin 50176 → EReal) : ℕ → Fin 50176 × (Fin 50176 → EReal)
  | 0 => (0, fun _ => Ideal.ofBits .f32 0x7F800000#32)
  | k + 1 => (amax (stepDist N X (sel N X k).2 (sel N X k).1), stepDist N X (sel N X k).2 (sel N X k).1)

theorem sel_succ (N : Fin 50176 → EReal) (X : Fin 96 → Fin 50176 → EReal) (k : ℕ) :
    sel N X (k + 1) = (amax (stepDist N X (sel N X k).2 (sel N X k).1), stepDist N X (sel N X k).2 (sel N X k).1) := by
  rw [sel]

end Cert.Fps
end
-- ==== Proof.Vals.lean ====
module

public import proofs.«01_k».proof.Proof.Geo
public import proofs.«01_k».proof.Proof.FirstMax
public import Idealize.ShloMosaic.Lib.Pointwise
public import Idealize.ShloMosaic.Lib.WordArith

@[expose] public section

noncomputable section

namespace Cert.KernelIdeal.Fps

open Cert.KernelIdeal Cert.KernelIdeal.Gen Cert.Fps
open Idealize.ShloMosaic
open Idealize.ShloMosaic.TcCoe

/-! ## The kernel's expressions at an index, over the extended reals -/

theorem pay3_at (A : FVec Ideal S192x2 .bf16) (B : FVec Ideal S2x1 .f32) (v : Vec Ideal S192x12544 .bf16) (n d : Vec Ideal S2x12544 .f32) (i : Fin 2) (r : Fin 12544) :
    k0_pay3 (F := Ideal) A B v n d (ix2 i r)
      = min (d (ix2 i r)) (n (ix2 i r) + B (ix2 i 0) - Ideal.ofBits .f32 0x40000000#32 * ∑ x : Fin 192, A (ix2 x i) * v (ix2 x r)) := by
  pointwise [k0_pay3]

theorem mxQ_at (d : FVec Ideal S2x12544 .f32) (i : Fin 2) (p : Fin 12544) (hp : FM (fun x => d (ix2 i x)) p) :
    mxQ (F := Ideal) d (ix2 i 0) = d (ix2 i p) := by
  pointwise [mxQ]
  rw [neg_inf]
  exact fold_max_eq _ p hp

theorem ixQ_at (o : ℕ) (ho : o + 12544 ≤ 50176) (d : FVec Ideal S2x12544 .f32) (i : Fin 2) (p : Fin 12544) (hp : FM (fun x => d (ix2 i x)) p) :
    ixQ (F := Ideal) (BitVec.ofNat 32 o) d (ix2 i 0) = BitVec.ofNat 32 (p.val + o) := by
  pointwise [ixQ]
  rw [mxQ_at d i p hp]
  exact quarter (fun x => d (ix2 i x)) p hp o ho

theorem ixA_at (d0 d1 d2 d3 : FVec Ideal S2x12544 .f32) (i : Fin 2) (g : Fin 50176 → EReal)
    (h0 : ∀ x : Fin 12544, d0 (ix2 i x) = g ⟨12544 * (0 : Fin 4).val + x.val, by omega⟩)
    (h1 : ∀ x : Fin 12544, d1 (ix2 i x) = g ⟨12544 * (1 : Fin 4).val + x.val, by omega⟩)
    (h2 : ∀ x : Fin 12544, d2 (ix2 i x) = g ⟨12544 * (2 : Fin 4).val + x.val, by omega⟩)
    (h3 : ∀ x : Fin 12544, d3 (ix2 i x) = g ⟨12544 * (3 : Fin 4).val + x.val, by omega⟩) :
    ixA (F := Ideal) d0 d1 d2 d3 (ix2 i 0) = BitVec.ofNat 32 (amax g).val := by
  choose q hq using fun j : Fin 4 => FM.exists (fun x : Fin 12544 => g ⟨12544 * j.val + x.val, by omega⟩)
  obtain ⟨p, hp, e⟩ := four g q hq (fun j => g ⟨12544 * j.val + (q j).val, by omega⟩) (fun _ => rfl)
  rw [(amax_FM g).unique hp]
  have f0 : FM (fun x => d0 (ix2 i x)) (q 0) := by rw [show (fun x => d0 (ix2 i x)) = _ from funext h0]; exact hq 0
  have f1 : FM (fun x => d1 (ix2 i x)) (q 1) := by rw [show (fun x => d1 (ix2 i x)) = _ from funext h1]; exact hq 1
  have f2 : FM (fun x => d2 (ix2 i x)) (q 2) := by rw [show (fun x => d2 (ix2 i x)) = _ from funext h2]; exact hq 2
  have f3 : FM (fun x => d3 (ix2 i x)) (q 3) := by rw [show (fun x => d3 (ix2 i x)) = _ from funext h3]; exact hq 3
  pointwise [ixA, pickQ, mxA]
  rw [mxQ_at d0 i _ f0, mxQ_at d1 i _ f1, mxQ_at d2 i _ f2, mxQ_at d3 i _ f3,
    ixQ_at 0 (by omega) d0 i _ f0, ixQ_at 12544 (by omega) d1 i _ f1, ixQ_at 25088 (by omega) d2 i _ f2, ixQ_at 37632 (by omega) d3 i _ f3,
    h0, h1, h2, h3]
  exact e

theorem ext0 (v : IVec S2x1 32) : extractAt ![0, 0] (extractStridedSlice S1x1 ![0, 0] v slices_S2x1_o0_0_S1x1) (by decide) = v (ix2 0 0) := by
  pointwise [extractAt]
theorem ext1 (v : IVec S2x1 32) : extractAt ![0, 0] (extractStridedSlice S1x1 ![1, 0] v slices_S2x1_o1_0_S1x1) (by decide) = v (ix2 1 0) := by
  pointwise [extractAt]

theorem mask_lo : ∀ ch : Fin 192, IntOp.andi (IntOp.cmpi CmpIPredicate.sge (BitVec.ofNat 32 ch.val) 0#32)
          (IntOp.cmpi CmpIPredicate.slt (BitVec.ofNat 32 ch.val) 96#32) = BitVec.ofBool (decide (ch.val < 96)) := by decide
theorem mask_hi : ∀ ch : Fin 192, IntOp.andi (IntOp.cmpi CmpIPredicate.sge (BitVec.ofNat 32 ch.val) 96#32)
          (IntOp.cmpi CmpIPredicate.slt (BitVec.ofNat 32 ch.val) 192#32) = BitVec.ofBool (decide (96 ≤ ch.val)) := by decide

theorem pay1_lo (x y : FVec Ideal S192x1 .bf16) (ch : Fin 192) :
    k0_pay1 (F := Ideal) (iota .tc S192x1 32 [0] iota_S192x1_d0_w32) (k0_pay33 (F := Ideal)) x y
      (k0_pay29 (iota .tc S192x1 32 [0] iota_S192x1_d0_w32)) (k0_pay30 (iota .tc S192x1 32 [0] iota_S192x1_d0_w32)) (ix2 ch 0) = if ch.val < 96 then x (ix2 ch 0) else 0 := by
  pointwise [k0_pay1, k0_pay29, k0_pay30, k0_pay33]
  rw [mask_lo]
  by_cases h : ch.val < 96 <;> simp [h, Scalar.select]
theorem pay1_hi (x y : FVec Ideal S192x1 .bf16) (ch : Fin 192) :
    k0_pay1 (F := Ideal) (iota .tc S192x1 32 [0] iota_S192x1_d0_w32) (k0_pay33 (F := Ideal)) x y
      (k0_pay29 (iota .tc S192x1 32 [0] iota_S192x1_d0_w32)) (k0_pay30 (iota .tc S192x1 32 [0] iota_S192x1_d0_w32)) (ix2 ch 1) = if 96 ≤ ch.val then y (ix2 ch 0) else 0 := by
  pointwise [k0_pay1, k0_pay29, k0_pay30, k0_pay33]
  rw [mask_hi]
  by_cases h : 96 ≤ ch.val <;> simp [h, Scalar.select]
theorem pay34_lo (x : FVec Ideal S192x1 .bf16) (ch : Fin 192) : k0_pay34 (F := Ideal) x (ix2 ch 0) = if ch.val < 96 then x (ix2 ch 0) else 0 := by
  pointwise [k0_pay34, k0_pay33]
  rw [mask_lo]
  by_cases h : ch.val < 96 <;> simp [h, Scalar.select]
theorem pay34_hi (x : FVec Ideal S192x1 .bf16) (ch : Fin 192) : k0_pay34 (F := Ideal) x (ix2 ch 1) = if 96 ≤ ch.val then x (ix2 ch 0) else 0 := by
  pointwise [k0_pay34, k0_pay33]
  rw [mask_hi]
  by_cases h : 96 ≤ ch.val <;> simp [h, Scalar.select]
theorem pay2_0 (x y : FVec Ideal S1x1 .f32) : k0_pay2 (F := Ideal) x y (ix2 0 0) = x (ix2 0 0) := by
  pointwise [k0_pay2]
theorem pay2_1 (x y : FVec Ideal S1x1 .f32) : k0_pay2 (F := Ideal) x y (ix2 1 0) = y (ix2 0 0) := by
  pointwise [k0_pay2]
theorem pay35_at (x : FVec Ideal S2x1 .f32) (i : Fin 2) : k0_pay35 (F := Ideal) x (ix2 i 0) = x (ix2 i 0) := by
  pointwise [k0_pay35]
theorem pay31_at (x : FVec Ideal S192x50176 .bf16) (i : Fin 192) (r : Fin 50176) : k0_pay31 (F := Ideal) x (ix2 i r) = x (ix2 i r) := by
  pointwise [k0_pay31]
theorem pay32_at (i : Fin 2) (r : Fin 50176) : k0_pay32 (F := Ideal) (ix2 i r) = Ideal.ofBits .f32 0x7F800000#32 := by
  pointwise [k0_pay32]
theorem pay8_at (x : FVec Ideal S2x12544 .f32) : k0_pay8 (F := Ideal) x = x := by
  funext j; pointwise [k0_pay8]

theorem lane (v : BitVec 32) (h : v.toNat < 50176) (x : Fin 128) :
    IntOp.cmpi CmpIPredicate.eq (BitVec.ofNat 32 x.val) (Scalar.subi v (k0_mult1 v)) = BitVec.ofBool (decide (x.val = v.toNat % 128)) := by
  have e : Scalar.subi v (k0_mult1 v) = BitVec.ofNat 32 (v.toNat % 128) := by
    apply BitVec.eq_of_toNat_eq
    show (v - k0_mult1 v).toNat = _
    rw [BitVec.toNat_sub, mult1_toNat v h, BitVec.toNat_ofNat]
    omega
  rw [e]
  show BitVec.ofBool (BitVec.ofNat 32 x.val == BitVec.ofNat 32 (v.toNat % 128)) = _
  congr 1
  rw [Bool.eq_iff_iff, beq_iff_eq, decide_eq_true_iff]
  constructor
  · intro hh
    have := congrArg BitVec.toNat hh
    rw [BitVec.toNat_ofNat, BitVec.toNat_ofNat] at this
    have := x.isLt; omega
  · intro hh; rw [hh]

theorem pick_sum (v : BitVec 32) (h : v.toNat < 50176) (f : Fin 128 → EReal) :
    (∑ x : Fin 128, Scalar.select (IntOp.cmpi CmpIPredicate.eq (BitVec.ofNat 32 x.val) (Scalar.subi v (k0_mult1 v))) (f x) 0)
      = f ⟨v.toNat % 128, Nat.mod_lt _ (by decide)⟩ := by
  rw [Finset.sum_eq_single (⟨v.toNat % 128, Nat.mod_lt _ (by decide)⟩ : Fin 128)]
  · rw [lane v h]; simp [Scalar.select]
  · intro b _ hb
    rw [lane v h, decide_eq_false fun e => hb (Fin.ext e)]; rfl
  · intro hb; exact absurd (Finset.mem_univ _) hb

theorem pay27_at (v : BitVec 32) (h : v.toNat < 50176) (x : Vec Ideal S192x128 .bf16) (ch : Fin 192) :
    k0_pay27 (F := Ideal) v 128#32 x (ix2 ch 0) = x (ix2 ch ⟨v.toNat % 128, Nat.mod_lt _ (by decide)⟩) := by
  change (truncf (F := Ideal) .bf16 (shapeCast S192x1 (multiReduction .add [1] S192 (select (cmpi .eq (iota .tc S192x128 32 [1] iota_S192x128_d1_w32) (broadcast S192x128 (Scalar.subi v (k0_mult1 v)))) (extf .f32 x bitsLt_bf16_f32) (broadcast S192x128 (Scalar.ofBits .f32 0x00000000#32))) 0x00000000#32 reduces_S192x128_S192 (.inl rfl) rfl) shapeCasts_S192_S192x1) bitsLt_bf16_f32) (ix2 ch 0) = _
  pointwise
  exact pick_sum v h fun y => x (ix2 ch y)
theorem pay28_at (v : BitVec 32) (h : v.toNat < 50176) (x : Vec Ideal S1x128 .f32) :
    k0_pay28 (F := Ideal) v 128#32 x (ix2 0 0) = x (ix2 0 ⟨v.toNat % 128, Nat.mod_lt _ (by decide)⟩) := by
  change (shapeCast S1x1 (multiReduction (F := Ideal) .add [1] S1 (select (cmpi .eq (iota .tc S1x128 32 [1] iota_S1x128_d1_w32) (broadcast S1x128 (Scalar.subi v (k0_mult1 v)))) (shapeCast S1x128 x shapeCasts_S1x128_S1x128) (broadcast S1x128 (Scalar.ofBits .f32 0x00000000#32))) 0x00000000#32 reduces_S1x128_S1 (.inl rfl) rfl) shapeCasts_S1_S1x1) (ix2 0 0) = _
  pointwise
  exact pick_sum v h fun y => x (ix2 0 y)

/-! ## Loads at an index -/

section Reads
variable (c : Dev nD) (f1 : NBuf (F := Ideal) c) (f4 : VBuf (F := Ideal) c) (f5 : DBuf (F := Ideal) c)

/-- The buffers' elements, as extended reals. -/
abbrev kN (i : Fin 2) (r : Fin 50176) : EReal := f1 (ix2 i r)
abbrev kV (ch : Fin 192) (r : Fin 50176) : EReal := f4 (ix2 ch r)
abbrev kD (i : Fin 2) (r : Fin 50176) : EReal := f5 (ix2 i r)
abbrev kA (s : St (F := Ideal) c) (ch : Fin 192) (i : Fin 2) : EReal := s.1.1 (ix2 ch i)
abbrev kB (s : St (F := Ideal) c) (i : Fin 2) : EReal := s.1.2 (ix2 i 0)

theorem rV_at (o : ℕ) (h : ∀ a, (![0, o] : Fin 2 → ℕ) a + S192x12544.size a ≤ S192x50176.size a) (ch : Fin 192) (x : Fin 12544) (ho : o + x.val < 50176) :
    rV c f4 ![0, o] h (ix2 ch x) = kV c f4 ch ⟨o + x.val, ho⟩ := by
  refine congrArg f4 (funext fun a => Fin.ext ?_)
  fin_cases a
  · show 0 + 1 * ch.val = ch.val; omega
  · show o + 1 * x.val = o + x.val; omega
theorem rN_at (o : ℕ) (h : ∀ a, (![0, o] : Fin 2 → ℕ) a + S2x12544.size a ≤ S2x50176.size a) (i : Fin 2) (x : Fin 12544) (ho : o + x.val < 50176) :
    rN c f1 ![0, o] h (ix2 i x) = kN c f1 i ⟨o + x.val, ho⟩ := by
  refine congrArg f1 (funext fun a => Fin.ext ?_)
  fin_cases a
  · show 0 + 1 * i.val = i.val; omega
  · show o + 1 * x.val = o + x.val; omega
theorem rD_at (o : ℕ) (h : ∀ a, (![0, o] : Fin 2 → ℕ) a + S2x12544.size a ≤ S2x50176.size a) (i : Fin 2) (x : Fin 12544) (ho : o + x.val < 50176) :
    rD c f5 ![0, o] h (ix2 i x) = kD c f5 i ⟨o + x.val, ho⟩ := by
  refine congrArg f5 (funext fun a => Fin.ext ?_)
  fin_cases a
  · show 0 + 1 * i.val = i.val; omega
  · show o + 1 * x.val = o + x.val; omega

/-- The distances a trip computes, at a pixel. -/
def dnew (s : St (F := Ideal) c) (i : Fin 2) (r : Fin 50176) : EReal :=
  min (kD c s.2 i r) (kN c f1 i r + kB c s i - Ideal.ofBits .f32 0x40000000#32 * ∑ x : Fin 192, kA c s x i * kV c f4 x r)

theorem q0_at (s : St (F := Ideal) c) (i : Fin 2) (x : Fin 12544) : q0 c f1 f4 s (ix2 i x) = dnew c f1 f4 s i ⟨0 + x.val, by omega⟩ := by
  unfold q0 dnew
  rw [pay3_at, rD_at c s.2 0 _ i x (by omega), rN_at c f1 0 _ i x (by omega)]
  simp only [rV_at c f4 0 _ _ x (by omega)]
theorem q1_at (s : St (F := Ideal) c) (i : Fin 2) (x : Fin 12544) : q1 c f1 f4 s (ix2 i x) = dnew c f1 f4 s i ⟨12544 + x.val, by omega⟩ := by
  unfold q1 dnew
  rw [pay3_at, rD_at c s.2 12544 _ i x (by omega), rN_at c f1 12544 _ i x (by omega)]
  simp only [rV_at c f4 12544 _ _ x (by omega)]
theorem q2_at (s : St (F := Ideal) c) (i : Fin 2) (x : Fin 12544) : q2 c f1 f4 s (ix2 i x) = dnew c f1 f4 s i ⟨25088 + x.val, by omega⟩ := by
  unfold q2 dnew
  rw [pay3_at, rD_at c s.2 25088 _ i x (by omega), rN_at c f1 25088 _ i x (by omega)]
  simp only [rV_at c f4 25088 _ _ x (by omega)]
theorem q3_at (s : St (F := Ideal) c) (i : Fin 2) (x : Fin 12544) : q3 c f1 f4 s (ix2 i x) = dnew c f1 f4 s i ⟨37632 + x.val, by omega⟩ := by
  unfold q3 dnew
  rw [pay3_at, rD_at c s.2 37632 _ i x (by omega), rN_at c f1 37632 _ i x (by omega)]
  simp only [rV_at c f4 37632 _ _ x (by omega)]

theorem ixV_at (s : St (F := Ideal) c) (i : Fin 2) : ixV c f1 f4 s (ix2 i 0) = BitVec.ofNat 32 (amax (dnew c f1 f4 s i)).val :=
  ixA_at _ _ _ _ i (dnew c f1 f4 s i) (fun x => q0_at c f1 f4 s i x) (fun x => q1_at c f1 f4 s i x) (fun x => q2_at c f1 f4 s i x)
    (fun x => q3_at c f1 f4 s i x)

theorem w0_at (s : St (F := Ideal) c) : w0 c f1 f4 s = BitVec.ofNat 32 (amax (dnew c f1 f4 s 0)).val := by
  unfold w0; rw [ext0, ixV_at]
theorem w1_at (s : St (F := Ideal) c) : w1 c f1 f4 s = BitVec.ofNat 32 (amax (dnew c f1 f4 s 1)).val := by
  unfold w1; rw [ext1, ixV_at]
theorem word_toNat (p : Fin 50176) : (BitVec.ofNat 32 p.val).toNat = p.val := by rw [BitVec.toNat_ofNat]; omega

/-- Every position a trip chooses passes the checks. -/
theorem ok_all (s : St (F := Ideal) c) : Ok c f1 f4 s := by
  refine ⟨chk1_of_lt _ ?_, chk2_of_lt _ ?_⟩
  · rw [w0_at, word_toNat]; exact Fin.isLt _
  · rw [w1_at, word_toNat]; exact Fin.isLt _

theorem dread (f : DBuf (F := Ideal) c) (i : Fin 2) (r : Fin 50176) : View.read (Elt Ideal) dM.view f (ix2 i r) = kD c f i r := rfl

theorem nxtD_at (s : St (F := Ideal) c) (i : Fin 2) (r : Fin 50176) : kD c (nxtD c f1 f4 s) i r = dnew c f1 f4 s i r := by
  unfold nxtD
  rw [pay8_at, pay8_at, pay8_at, pay8_at]
  have hp : ∀ (o : ℕ) (h : ∀ a, (![0, o] : Fin 2 → ℕ) a + S2x12544.size a ≤ S2x50176.size a) (q : FVec Ideal S2x12544 .f32)
      (hq : ∀ (i : Fin 2) (x : Fin 12544), q (ix2 i x) = dnew c f1 f4 s i ⟨o + x.val, Nat.lt_of_lt_of_le (Nat.add_lt_add_left x.isLt o) (h 1)⟩) (x : S2x12544.Idx),
      q x = (fun y : S2x50176.Idx => dnew c f1 f4 s (y 0) (y 1)) ((Rect.unit (s := S2x50176) ![0, o] S2x12544.size h).emb x) := by
    intro o h q hq x
    obtain ⟨i, x, rfl⟩ : ∃ (i : Fin 2) (y : Fin 12544), x = ix2 i y := ⟨x 0, x 1, eq_ix2 x⟩
    rw [hq]
    show _ = dnew c f1 f4 s _ _
    congr 1 <;> apply Fin.ext
    · show i.val = 0 + 1 * i.val; omega
    · show o + x.val = o + 1 * x.val; omega
  have key := View.read_writes_apply_of_pieces (Val := Elt Ideal) dM.view s.2 (fun y : S2x50176.Idx => dnew c f1 f4 s (y 0) (y 1))
    [⟨Rect.unit (s := S2x50176) ![0, 37632] S2x12544.size inb_S2x50176_S2x12544_0_37632, q3 c f1 f4 s⟩,
     ⟨Rect.unit (s := S2x50176) ![0, 25088] S2x12544.size inb_S2x50176_S2x12544_0_25088, q2 c f1 f4 s⟩,
     ⟨Rect.unit (s := S2x50176) ![0, 12544] S2x12544.size inb_S2x50176_S2x12544_0_12544, q1 c f1 f4 s⟩,
     ⟨Rect.unit (s := S2x50176) ![0, 0] S2x12544.size inb_S2x50176_S2x12544_0_0, q0 c f1 f4 s⟩]
    (by
      intro p hm
      simp only [List.mem_cons, List.mem_nil_iff, or_false] at hm
      rcases hm with rfl | rfl | rfl | rfl
      · exact hp 37632 inb_S2x50176_S2x12544_0_37632 _ (q3_at c f1 f4 s)
      · exact hp 25088 inb_S2x50176_S2x12544_0_25088 _ (q2_at c f1 f4 s)
      · exact hp 12544 inb_S2x50176_S2x12544_0_12544 _ (q1_at c f1 f4 s)
      · exact hp 0 inb_S2x50176_S2x12544_0_0 _ (q0_at c f1 f4 s))
    (ix2 i r)
    (by
      have hin : ∀ (o : ℕ) (h : ∀ a, (![0, o] : Fin 2 → ℕ) a + S2x12544.size a ≤ S2x50176.size a), o ≤ r.val → r.val < o + 12544 →
          (ix2 i r : S2x50176.Idx) ∈ (Rect.unit (s := S2x50176) ![0, o] S2x12544.size h).set := by
        intro o h h1 h2
        refine Rect.mem_set_unit.mpr fun a => ?_
        fin_cases a
        · show 0 ≤ i.val ∧ i.val < 0 + 2; omega
        · exact ⟨h1, h2⟩
      simp only [List.mem_cons, List.mem_nil_iff, or_false]
      rcases (show r.val < 12544 ∨ 12544 ≤ r.val ∧ r.val < 25088 ∨ 25088 ≤ r.val ∧ r.val < 37632 ∨ 37632 ≤ r.val by omega) with h | h | h | h
      · exact ⟨_, Or.inr (Or.inr (Or.inr rfl)), hin 0 inb_S2x50176_S2x12544_0_0 (by omega) (by omega)⟩
      · exact ⟨_, Or.inr (Or.inr (Or.inl rfl)), hin 12544 inb_S2x50176_S2x12544_0_12544 (by omega) (by omega)⟩
      · exact ⟨_, Or.inr (Or.inl rfl), hin 25088 inb_S2x50176_S2x12544_0_25088 (by omega) (by omega)⟩
      · exact ⟨_, Or.inl rfl, hin 37632 inb_S2x50176_S2x12544_0_37632 (by omega) (by have := r.isLt; omega)⟩)
  rw [dread] at key
  exact key

theorem tileV (v : BitVec 32) (hv : v.toNat < 50176) (o : Fin 2 → ℕ) (ho : o = ![0, v.toNat / 128 * 128]) (h : ∀ a, o a + S192x128.size a ≤ S192x50176.size a) (ch : Fin 192) :
    View.readAt (Elt Ideal) vM.view (Rect.unit (s := S192x50176) o S192x128.size h).toLoadRect f4 (ix2 ch ⟨v.toNat % 128, Nat.mod_lt _ (by decide)⟩)
      = kV c f4 ch ⟨v.toNat, hv⟩ := by
  subst ho
  refine congrArg f4 (funext fun a => Fin.ext ?_)
  fin_cases a
  · show 0 + 1 * ch.val = ch.val; omega
  · show v.toNat / 128 * 128 + 1 * (v.toNat % 128) = v.toNat; omega
theorem tileN (v : BitVec 32) (hv : v.toNat < 50176) (i : Fin 2) (o : Fin 2 → ℕ) (ho : o = ![i.val, v.toNat / 128 * 128]) (h : ∀ a, o a + S1x128.size a ≤ S2x50176.size a) :
    View.readAt (Elt Ideal) nM.view (Rect.unit (s := S2x50176) o S1x128.size h).toLoadRect f1 (ix2 0 ⟨v.toNat % 128, Nat.mod_lt _ (by decide)⟩)
      = kN c f1 i ⟨v.toNat, hv⟩ := by
  subst ho
  refine congrArg f1 (funext fun a => Fin.ext ?_)
  fin_cases a
  · show i.val + 1 * 0 = i.val; omega
  · show v.toNat / 128 * 128 + 1 * (v.toNat % 128) = v.toNat; omega

/-! ## The loop's values are the selection's -/

/-- Image `i`'s channels, as the kernel's buffer holds them. -/
abbrev kX (i : Fin 2) (l : Fin 96) (r : Fin 50176) : EReal := kV c f4 ⟨96 * i.val + l.val, by omega⟩ r

/-- A state holding the two current columns, their norms, and the distances. -/
def Holds (s : St (F := Ideal) c) (p : Fin 2 → Fin 50176) (d : Fin 2 → Fin 50176 → EReal) : Prop :=
  (∀ ch : Fin 192, kA c s ch 0 = if ch.val < 96 then kV c f4 ch (p 0) else 0)
    ∧ (∀ ch : Fin 192, kA c s ch 1 = if 96 ≤ ch.val then kV c f4 ch (p 1) else 0)
    ∧ (∀ i : Fin 2, kB c s i = kN c f1 i (p i))
    ∧ ∀ (i : Fin 2) (r : Fin 50176), kD c s.2 i r = d i r

theorem dnew_eq (s : St (F := Ideal) c) (p : Fin 2 → Fin 50176) (d : Fin 2 → Fin 50176 → EReal) (h : Holds c f1 f4 s p d) (i : Fin 2) (r : Fin 50176) :
    dnew c f1 f4 s i r = stepDist (kN c f1 i) (kX c f4 i) (d i) (p i) r := by
  obtain ⟨hA, hB, hC, hD⟩ := h
  unfold dnew stepDist
  rw [hD, hC]
  congr 3
  rw [Fin.sum_univ_two_halves 96 96 rfl]
  fin_cases i
  · simp only [Fin.zero_eta]
    rw [Finset.sum_congr rfl (g := fun l : Fin 96 => kX c f4 0 l (p 0) * kX c f4 0 l r), Finset.sum_eq_zero (s := Finset.univ) (f := fun l : Fin 96 => kA c s ⟨96 + l.val, by omega⟩ 0 * kV c f4 ⟨96 + l.val, by omega⟩ r), add_zero]
    · intro l _
      rw [hA, if_neg (by show ¬ (96 + l.val < 96); omega), zero_mul]
    · intro l _
      rw [hA, if_pos (by exact l.isLt)]
      unfold kX
      congr 3 <;> (show l.val = 96 * 0 + l.val; omega)
  · simp only [Fin.mk_one]
    rw [Finset.sum_eq_zero, zero_add]
    · refine Finset.sum_congr rfl fun l _ => ?_
      rw [hB, if_pos (by show 96 ≤ 96 + l.val; omega)]
      rfl
    · intro l _
      rw [hB, if_neg (by show ¬ (96 ≤ l.val); omega), zero_mul]

theorem kD_snd (a : FVec Ideal S192x2 .bf16 × FVec Ideal S2x1 .f32) (d : DBuf (F := Ideal) c) (i : Fin 2) (r : Fin 50176) : kD c (((a, d) : St (F := Ideal) c).2) i r = kD c d i r := rfl

theorem mk_eq {n a : ℕ} (h : a < n) (p : Fin n) (e : a = p.val) : (⟨a, h⟩ : Fin n) = p := Fin.ext e

theorem holds_succ (s : St (F := Ideal) c) (p : Fin 2 → Fin 50176) (d : Fin 2 → Fin 50176 → EReal) (h : Holds c f1 f4 s p d) :
    Holds c f1 f4 (stepS c f1 f4 s) (fun i => amax (stepDist (kN c f1 i) (kX c f4 i) (d i) (p i))) (fun i => stepDist (kN c f1 i) (kX c f4 i) (d i) (p i)) := by
  have hd : ∀ i, dnew c f1 f4 s i = stepDist (kN c f1 i) (kX c f4 i) (d i) (p i) := fun i => funext (dnew_eq c f1 f4 s p d h i)
  have l0 : (w0 c f1 f4 s).toNat = (amax (stepDist (kN c f1 0) (kX c f4 0) (d 0) (p 0))).val := by rw [w0_at, word_toNat, hd]
  have l1 : (w1 c f1 f4 s).toNat = (amax (stepDist (kN c f1 1) (kX c f4 1) (d 1) (p 1))).val := by rw [w1_at, word_toNat, hd]
  have b0 : (w0 c f1 f4 s).toNat < 50176 := by rw [l0]; exact Fin.isLt _
  have b1 : (w1 c f1 f4 s).toNat < 50176 := by rw [l1]; exact Fin.isLt _
  have e0 : (⟨(w0 c f1 f4 s).toNat, b0⟩ : Fin 50176) = amax (stepDist (kN c f1 0) (kX c f4 0) (d 0) (p 0)) := mk_eq _ _ l0
  have e1 : (⟨(w1 c f1 f4 s).toNat, b1⟩ : Fin 50176) = amax (stepDist (kN c f1 1) (kX c f4 1) (d 1) (p 1)) := mk_eq _ _ l1
  have hok := ok_all c f1 f4 s
  have es : stepS c f1 f4 s = (nxt c f1 f4 s hok.1 hok.2, nxtD c f1 f4 s) := by unfold stepS; rw [dif_pos hok]
  rw [es]
  refine ⟨fun ch => ?_, fun ch => ?_, fun i => ?_, fun i r => ?_⟩
  · show (nxt c f1 f4 s hok.1 hok.2).1 (ix2 ch 0) = _
    unfold nxt; dsimp only
    rw [pay1_lo, pay27_at _ b0, tileV c f4 _ b0 _ (by rw [off3_eq, mult1_toNat _ b0]), e0]
  · show (nxt c f1 f4 s hok.1 hok.2).1 (ix2 ch 1) = _
    unfold nxt; dsimp only
    rw [pay1_hi, pay27_at _ b1, tileV c f4 _ b1 _ (by rw [off7_eq, mult1_toNat _ b1]), e1]
  · show (nxt c f1 f4 s hok.1 hok.2).2 (ix2 i 0) = _
    unfold nxt; dsimp only
    fin_cases i
    · simp only [Fin.zero_eta]
      rw [pay2_0, pay28_at _ b0, tileN c f1 _ b0 0 _ (by rw [off4_eq, mult1_toNat _ b0]; rfl), e0]
    · simp only [Fin.mk_one]
      rw [pay2_1, pay28_at _ b1, tileN c f1 _ b1 1 _ (by rw [off8_eq, mult1_toNat _ b1]; rfl), e1]
  · refine (kD_snd c _ _ i r).trans ?_
    exact (nxtD_at c f1 f4 s i r).trans (congrFun (hd i) r)

theorem holds_all (s : St (F := Ideal) c) (h : Holds c f1 f4 s (fun _ => 0) (fun _ _ => Ideal.ofBits .f32 0x7F800000#32)) (k : ℕ) :
    Holds c f1 f4 (st c f1 f4 s k) (fun i => (sel (kN c f1 i) (kX c f4 i) k).1) (fun i => (sel (kN c f1 i) (kX c f4 i) k).2) := by
  induction k with
  | zero => exact h
  | succ k ih =>
    have := holds_succ c f1 f4 _ _ _ ih
    simp only [sel_succ]
    exact this

theorem row_at (s : St (F := Ideal) c) (h : Holds c f1 f4 s (fun _ => 0) (fun _ _ => Ideal.ofBits .f32 0x7F800000#32)) (i : Fin 2) (k : ℕ) :
    row c f1 f4 s i k = (sel (kN c f1 i) (kX c f4 i) k).1 := by
  have hw : word c f1 f4 s i k = BitVec.ofNat 32 (sel (kN c f1 i) (kX c f4 i) k).1.val := by
    cases k with
    | zero => rw [word, sel]; rfl
    | succ k =>
      have hk := holds_all c f1 f4 s h k
      have hd := fun i => (funext (dnew_eq c f1 f4 _ _ _ hk i) : dnew c f1 f4 (st c f1 f4 s k) i = _)
      rw [word, sel_succ]
      fin_cases i
      · rw [if_pos (by rfl), w0_at, hd]; rfl
      · rw [if_neg (by decide), w1_at, hd]; rfl
  unfold row
  have b : (word c f1 f4 s i k).toNat < 50176 := by rw [hw, word_toNat]; exact Fin.isLt _
  rw [dif_pos b]
  apply Fin.ext
  show (word c f1 f4 s i k).toNat = _
  rw [hw, word_toNat]

end Reads
end Cert.KernelIdeal.Fps
end
-- ==== Proof.KerRun.lean ====
module

public import proofs.«01_k».proof.Proof.Launch
public import proofs.«01_k».proof.Proof.Vals
public import Idealize.ShloMosaic.Lib.Pipeline.Quiescent
public import Idealize.ShloMosaic.Lib.Pipeline.Value
public import Idealize.ShloMosaic.Lib.StableHlo.ReadAt
public import Idealize.ShloMosaic.Lib.Pointwise

@[expose] public section

noncomputable section

namespace Cert.KernelIdeal.Fps

open Cert.KernelIdeal Cert.KernelIdeal.Gen Cert.Fps
open Idealize.ShloMosaic
open Idealize.ShloMosaic.TcCoe Idealize.ShloMosaic.Tactic
open Idealize.SL Idealize.SL.Sem

variable (m : (ℓ : Loc nD τ sig) → Buf (Elt Ideal) ℓ) (ρ : Dev nD → PrngReg)

/-- Over the extended reals every chosen position lies in the array. -/
theorem allOk : AllOk m := fun c k _ => ok_all c _ _ _

/-- The lines after the kernel do not write the argument. -/
theorem tail_arg0 (c : Dev nD) : Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall,
        StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem vout_eq (c : Dev nD) (i : S2x1024x96.Idx) : (dats m 0 c).arrAt 2 cfg0.N i = outV m c i := by
  refine (dats m 0 c).arrAt_apply_of_mem 2 (outV m c) ?_ cfg0.N t0_0 i ?_ ?_ ?_
  · intro t _
    funext j
    obtain rfl : t = t0_0 := by apply Fin.ext; have := t.isLt; change t.val < 1 at this; show t.val = 0; omega
    refine congrArg (outV m c) (funext fun a => Fin.ext ?_)
    fin_cases a
    · show (j 0).val = 0 + 1 * (j 0).val; omega
    · show (j 1).val = 0 + 1 * (j 1).val; omega
    · show (j 2).val = 0 + 1 * (j 2).val; omega
  · decide
  · decide
  · refine Finset.mem_map.mpr ⟨i, Finset.mem_univ _, funext fun a => Fin.ext ?_⟩
    fin_cases a
    · show 0 + 1 * (i 0).val = (i 0).val; omega
    · show 0 + 1 * (i 1).val = (i 1).val; omega
    · show 0 + 1 * (i 2).val = (i 2).val; omega

/-- What the lines after the kernel leave in the program's result. -/
theorem tail_v8 (c : Dev nD) : Pipeline.afterTail₀ cfgs (dats m) 0 (V0 m) [hostOps1] c main_v8
    = transpose S2x96x32x32 [0, 3, 1, 2] (shapeCast S2x32x32x96 ((dats m 0 c).arrAt 2 cfg0.N : FVec Ideal S2x1024x96 .f32) shapeCasts_S2x1024x96_S2x32x32x96)
        transposes_S2x32x32x96_S2x96x32x32_0_3_1_2 := by
  unfold Pipeline.afterTail₀
  simp only [List.flatten_cons, List.flatten_nil, List.append_nil]
  after_reads_simp
  exact congrArg (fun B : FVec Ideal S2x1024x96 .f32 => transpose S2x96x32x32 [0, 3, 1, 2] (shapeCast S2x32x32x96 B shapeCasts_S2x1024x96_S2x32x32x96)
        transposes_S2x32x32x96_S2x96x32x32_0_3_1_2) (Pipeline.withArrays_arr spec0 launch0.win.arr_inj c (V0 m c) (fun w => (dats m 0 c).arrAt w (cfgs 0).N) 2)

/-- The kernel runs; it leaves its argument as it was and every counter zero. -/
theorem run_ker : θ_run (defs (F := Ideal)) (onTc (τ := τ) (main (F := Ideal))) ⟨m, fun _ => 0, ρ⟩
    (fun r => (∀ c : Dev nD, r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)) ∧ r.2.sem = fun _ => 0) :=
  (θ_run defs _ _).mono (fun _ h => ⟨fun c => ⟨(h.1 c).2 main_v8 (Pipeline.mem_restRefs_of main_v8 (by decide) (by decide)),
    ((h.1 c).2 main_arg0 (Pipeline.mem_restRefs_of main_arg0 (by decide) (by decide))).trans (tail_arg0 m c)⟩, h.2⟩) (run_main m ρ (allOk m))

end Cert.KernelIdeal.Fps

end
-- ==== Proof.Spec.lean ====
module

public import proofs.«01_k».proof.Proof.FirstMax

@[expose] public section

noncomputable section

namespace Cert.Fps

/-- An image batch, by image, channel, row and column. -/
abbrev Img := Fin 2 → Fin 96 → Fin 224 → Fin 224 → EReal

/-- Channel `l` of pixel `r` of image `i`. -/
def pix (A : Img) (i : Fin 2) (l : Fin 96) (r : Fin 50176) : EReal :=
  A i l ⟨r.val / 224, by omega⟩ ⟨r.val % 224, by omega⟩

/-- The squared length of pixel `r` of image `i`. -/
def nrm (A : Img) (i : Fin 2) (r : Fin 50176) : EReal := ∑ l : Fin 96, pix A i l r * pix A i l r

/-- The `k`-th pixel that farthest-point sampling chooses in image `i`. -/
def pick (A : Img) (i : Fin 2) (k : ℕ) : Fin 50176 := (sel (nrm A i) (pix A i) k).1

/-- The result: channel `l` of the pixels chosen in image `i`, in order along the rows of a 32 by 32 array. -/
def outAtIdx (A : Img) (i : Fin 2) (l : Fin 96) (a b : Fin 32) : EReal := pix A i l (pick A i (32 * a.val + b.val))

end Cert.Fps

end
-- ==== Proof.KerVal.lean ====
module

public import proofs.«01_k».proof.Proof.KerRun
public import proofs.«01_k».proof.Proof.Spec

@[expose] public section

noncomputable section

namespace Cert.KernelIdeal.Fps

open Cert.KernelIdeal Cert.KernelIdeal.Gen Cert.Fps
open Idealize.ShloMosaic
open Idealize.ShloMosaic.TcCoe Idealize.ShloMosaic.Tactic
open Idealize.SL Idealize.SL.Sem

variable (m : (ℓ : Loc nD τ sig) → Buf (Elt Ideal) ℓ)

/-- The argument's elements. -/
abbrev img (c : Dev nD) : Img := fun i l a b => (m ((c : Thread nD τ).loc main_arg0) : FVec Ideal S2x96x224x224 .f32) (ix4 i l a b)

theorem v1_at (c : Dev nD) (i : Fin 2) (r : Fin 50176) (l : Fin 96) : (V m c main_v1 : FVec Ideal S2x50176x96 .f32) (ix3 i r l) = pix (img m c) i l r := by
  unfold V V0
  simp only [List.flatten_cons, List.flatten_nil, List.append_nil]
  after_reads_at
  rfl

theorem v5_at (c : Dev nD) (i : Fin 2) (r : Fin 50176) (l : Fin 96) : (V m c main_v5 : FVec Ideal S192x50176 .bf16) (ix2 ⟨96 * i.val + l.val, by omega⟩ r) = pix (img m c) i l r := by
  unfold V V0
  simp only [List.flatten_cons, List.flatten_nil, List.append_nil]
  after_reads_at
  unfold pix img
  congr 2 <;> exact Fin.ext (by show _ = _; first | (show (96 * i.val + l.val) / 96 = i.val; omega) | (show (96 * i.val + l.val) % 96 = l.val; omega))

theorem v3_at (c : Dev nD) (i : Fin 2) (r : Fin 50176) : (V m c main_v3 : FVec Ideal S2x50176 .f32) (ix2 i r) = nrm (img m c) i r := by
  unfold V V0
  simp only [List.flatten_cons, List.flatten_nil, List.append_nil]
  after_reads_at
  rfl

theorem inV_at (c : Dev nD) (ch : Fin 192) (r : Fin 50176) : inV m c (ix2 ch r) = (V m c main_v5 : FVec Ideal S192x50176 .bf16) (ix2 ch r) := by
  refine congrArg (V m c main_v5) (funext fun a => Fin.ext ?_)
  fin_cases a
  · show 0 + 1 * ch.val = ch.val; omega
  · show 0 + 1 * r.val = r.val; omega
theorem inN_at (c : Dev nD) (i : Fin 2) (r : Fin 50176) : inN m c (ix2 i r) = (V m c main_v3 : FVec Ideal S2x50176 .f32) (ix2 i r) := by
  refine congrArg (V m c main_v3) (funext fun a => Fin.ext ?_)
  fin_cases a
  · show 0 + 1 * i.val = i.val; omega
  · show 0 + 1 * r.val = r.val; omega

theorem vread (c : Dev nD) (f : VBuf (F := Ideal) c) (ch : Fin 192) (r : Fin 50176) : View.read (Elt Ideal) vM.view f (ix2 ch r) = kV c f ch r := rfl

theorem v4_at (c : Dev nD) (f0 : VinBuf (F := Ideal) c) (ch : Fin 192) (r : Fin 50176) : kV c (v4 c f0) ch r = f0 (ix2 ch r) := by
  unfold v4
  have hp : ∀ x : S192x50176.Idx, k0_pay31 (F := Ideal) (View.readAt (Elt Ideal) vinM.view (Rect.unit (s := S192x50176) ![0, 0] S192x50176.size inb_S192x50176_S192x50176_0_0).toLoadRect f0) x
      = (fun y : S192x50176.Idx => f0 (ix2 (y 0) (y 1))) ((Rect.unit (s := S192x50176) ![0, 0] S192x50176.size inb_S192x50176_S192x50176_0_0).emb x) := by
    intro x
    obtain ⟨i, y, rfl⟩ : ∃ (i : Fin 192) (y : Fin 50176), x = ix2 i y := ⟨x 0, x 1, eq_ix2 x⟩
    refine (pay31_at _ i y).trans ?_
    refine congrArg f0 (funext fun a => Fin.ext ?_)
    fin_cases a <;> rfl
  have hin : (ix2 ch r : S192x50176.Idx) ∈ (Rect.unit (s := S192x50176) ![0, 0] S192x50176.size inb_S192x50176_S192x50176_0_0).set := by
    refine Rect.mem_set_unit.mpr fun a => ?_
    fin_cases a
    · show 0 ≤ ch.val ∧ ch.val < 0 + 192; omega
    · show 0 ≤ r.val ∧ r.val < 0 + 50176; omega
  have key := View.read_writes_apply_of_pieces (Val := Elt Ideal) vM.view vM.view.junk (fun y : S192x50176.Idx => f0 (ix2 (y 0) (y 1)))
    [⟨Rect.unit (s := S192x50176) ![0, 0] S192x50176.size inb_S192x50176_S192x50176_0_0,
      k0_pay31 (View.readAt (Elt Ideal) vinM.view (Rect.unit (s := S192x50176) ![0, 0] S192x50176.size inb_S192x50176_S192x50176_0_0).toLoadRect f0)⟩]
    (by
      intro p hm
      simp only [List.mem_cons, List.mem_nil_iff, or_false] at hm
      rcases hm with rfl
      exact hp)
    (ix2 ch r)
    (by
      simp only [List.mem_cons, List.mem_nil_iff, or_false]
      exact ⟨_, rfl, hin⟩)
  rw [vread] at key
  exact key
theorem d0_at (c : Dev nD) (i : Fin 2) (r : Fin 50176) : kD c (d0 c) i r = Ideal.ofBits .f32 0x7F800000#32 := by
  unfold d0
  have hp : ∀ x : S2x50176.Idx, k0_pay32 (F := Ideal) x
      = (fun y : S2x50176.Idx => (Ideal.ofBits .f32 0x7F800000#32 : EReal)) ((Rect.unit (s := S2x50176) ![0, 0] S2x50176.size inb_S2x50176_S2x50176_0_0).emb x) := by
    intro x
    obtain ⟨i, y, rfl⟩ : ∃ (i : Fin 2) (y : Fin 50176), x = ix2 i y := ⟨x 0, x 1, eq_ix2 x⟩
    exact pay32_at i y
  have hin : (ix2 i r : S2x50176.Idx) ∈ (Rect.unit (s := S2x50176) ![0, 0] S2x50176.size inb_S2x50176_S2x50176_0_0).set := by
    refine Rect.mem_set_unit.mpr fun a => ?_
    fin_cases a
    · show 0 ≤ i.val ∧ i.val < 0 + 2; omega
    · show 0 ≤ r.val ∧ r.val < 0 + 50176; omega
  have key := View.read_writes_apply_of_pieces (Val := Elt Ideal) dM.view dM.view.junk (fun y : S2x50176.Idx => (Ideal.ofBits .f32 0x7F800000#32 : EReal))
    [⟨Rect.unit (s := S2x50176) ![0, 0] S2x50176.size inb_S2x50176_S2x50176_0_0, k0_pay32 (F := Ideal)⟩]
    (by
      intro p hm
      simp only [List.mem_cons, List.mem_nil_iff, or_false] at hm
      rcases hm with rfl
      exact hp)
    (ix2 i r)
    (by
      simp only [List.mem_cons, List.mem_nil_iff, or_false]
      exact ⟨_, rfl, hin⟩)
  rw [dread] at key
  exact key

theorem fst_kA (c : Dev nD) (a : FVec Ideal S192x2 .bf16) (b : FVec Ideal S2x1 .f32) (d : DBuf (F := Ideal) c) (ch : Fin 192) (i : Fin 2) :
    kA c (((a, b), d) : St (F := Ideal) c) ch i = a (ix2 ch i) := rfl
theorem snd_kB (c : Dev nD) (a : FVec Ideal S192x2 .bf16) (b : FVec Ideal S2x1 .f32) (d : DBuf (F := Ideal) c) (i : Fin 2) :
    kB c (((a, b), d) : St (F := Ideal) c) i = b (ix2 i 0) := rfl

theorem col_V (c : Dev nD) (f : VBuf (F := Ideal) c) (ch : Fin 192) :
    (View.readAt (Elt Ideal) vM.view (Rect.unit (s := S192x50176) ![0, 0] S192x1.size inb_S192x50176_S192x1_0_0).toLoadRect f : FVec Ideal S192x1 .bf16) (ix2 ch 0) = kV c f ch 0 := by
  refine congrArg f (funext fun a => Fin.ext ?_)
  fin_cases a
  · show 0 + 1 * ch.val = ch.val; omega
  · rfl
theorem col_N (c : Dev nD) (f : NBuf (F := Ideal) c) (i : Fin 2) :
    (View.readAt (Elt Ideal) nM.view (Rect.unit (s := S2x50176) ![0, 0] S2x1.size inb_S2x50176_S2x1_0_0).toLoadRect f : FVec Ideal S2x1 .f32) (ix2 i 0) = kN c f i 0 := by
  refine congrArg f (funext fun a => Fin.ext ?_)
  fin_cases a
  · show 0 + 1 * i.val = i.val; omega
  · rfl

/-- Before the first trip the kernel holds pixel 0 of each image, and infinite distances. -/
theorem holds_S0 (c : Dev nD) (f1 : NBuf (F := Ideal) c) (f0 : VinBuf (F := Ideal) c) :
    Holds c f1 (v4 c f0) (S0 c f1 f0) (fun _ => 0) (fun _ _ => Ideal.ofBits .f32 0x7F800000#32) := by
  unfold S0
  refine ⟨fun ch => ?_, fun ch => ?_, fun i => ?_, fun i r => ?_⟩
  · rw [fst_kA, pay34_lo, col_V]
  · rw [fst_kA, pay34_hi, col_V]
  · rw [snd_kB, pay35_at, col_N]
  · exact (kD_snd c _ _ i r).trans (d0_at c i r)

theorem row_pick (c : Dev nD) (i : Fin 2) (k : ℕ) :
    row c (inN m c) (v4 c (inV m c)) (S0 c (inN m c) (inV m c)) i k = pick (img m c) i k := by
  rw [row_at c _ _ _ (holds_S0 c _ _) i k]
  have hN : kN c (inN m c) i = nrm (img m c) i := funext fun r => (inN_at m c i r).trans (v3_at m c i r)
  have hX : kX c (v4 c (inV m c)) i = pix (img m c) i := funext fun l => funext fun r =>
    (v4_at c _ _ r).trans ((inV_at m c _ r).trans (v5_at m c i r l))
  rw [hN, hX]
  rfl

theorem outV_at (c : Dev nD) (i : Fin 2) (k : Fin 1024) (l : Fin 96) : (outV m c : FVec Ideal S2x1024x96 .f32) (ix3 i k l) = pix (img m c) i l (pick (img m c) i k.val) := by
  show outG c _ _ _ _ (ix3 i k l) = _
  unfold outG
  rw [← row_pick, ← v1_at]
  refine congrArg (V m c main_v1) (funext fun a => Fin.ext ?_)
  fin_cases a <;> rfl

theorem post_at (B : FVec Ideal S2x1024x96 .f32) (i : Fin 2) (l : Fin 96) (a b : Fin 32) :
    transpose S2x96x32x32 [0, 3, 1, 2] (shapeCast S2x32x32x96 B shapeCasts_S2x1024x96_S2x32x32x96) transposes_S2x32x32x96_S2x96x32x32_0_3_1_2 (ix4 i l a b)
      = B (ix3 i ⟨32 * a.val + b.val, by omega⟩ l) := by
  pointwise
  exact congrArg B (congrArg (fun q => ix3 i q l) (Fin.ext (by show a.val * 32 + b.val = 32 * a.val + b.val; omega)))

/-- The kernel's result, as its run leaves it. -/
abbrev res (c : Dev nD) : FVec Ideal (⟨4, ![2, 96, 32, 32]⟩ : Shape) .f32 := Pipeline.afterTail₀ cfgs (dats m) 0 (V0 m) [hostOps1] c main_v8

/-- The program's result. -/
theorem res_at (c : Dev nD) (i : Fin 2) (l : Fin 96) (a b : Fin 32) :
    (Pipeline.afterTail₀ cfgs (dats m) 0 (V0 m) [hostOps1] c main_v8 : FVec Ideal S2x96x32x32 .f32) (ix4 i l a b) = outAtIdx (img m c) i l a b := by
  rw [tail_v8]
  exact (post_at _ i l a b).trans ((vout_eq m c _).trans (outV_at m c i ⟨32 * a.val + b.val, by omega⟩ l))

end Cert.KernelIdeal.Fps

end
-- ==== Proof.RefRun.lean ====
/- The reference program: @main is one stretch of host operations, one counted host loop of 1023 trips and three stretches
   after it. `run_fold`: every weakly fair execution terminates with every unscoped TensorCore buffer at the fold
   `finalContents`. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1188

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 28 host operations of @main, in order. -/
abbrev hostOps0 : List (HloOp τ sig (Elt F)) :=
  [ StableHlo.unary main_arg0 main_v0 ((transpose S2x224x224x96 [0, 2, 3, 1] · transposes_S2x96x224x224_S2x224x224x96_0_2_3_1) : (⟨S2x96x224x224, .f32⟩ : BufTy).Contents (Elt F) → (⟨S2x224x224x96, .f32⟩ : BufTy).Contents (Elt F)),
    StableHlo.reshape main_v0 main_v1 (rfl : (.f32 : EltTy) = .f32) shapeCasts_S2x224x224x96_S2x50176x96,
    StableHlo.unary main_v1 main_v2 ((extractStridedSlice S1x50176x96 ![0, 0, 0] · slices_S2x50176x96_S1x50176x96_0_0_0) : (⟨S2x50176x96, .f32⟩ : BufTy).Contents (Elt F) → (⟨S1x50176x96, .f32⟩ : BufTy).Contents (Elt F)),
    StableHlo.reshape main_v2 main_v3 (rfl : (.f32 : EltTy) = .f32) shapeCasts_S1x50176x96_S50176x96,
    StableHlo.unary main_v1 main_v4 ((extractStridedSlice S1x50176x96 ![1, 0, 0] · slices_S2x50176x96_S1x50176x96_1_0_0) : (⟨S2x50176x96, .f32⟩ : BufTy).Contents (Elt F) → (⟨S1x50176x96, .f32⟩ : BufTy).Contents (Elt F)),
    StableHlo.reshape main_v4 main_v5 (rfl : (.f32 : EltTy) = .f32) shapeCasts_S1x50176x96_S50176x96,
    StableHlo.binary main_v3 main_v3 main_v6 (mulf : (⟨S50176x96, .f32⟩ : BufTy).Contents (Elt F) → (⟨S50176x96, .f32⟩ : BufTy).Contents (Elt F) → (⟨S50176x96, .f32⟩ : BufTy).Contents (Elt F)),
    StableHlo.nullary main_cst (constant S_ .f32 0x00000000#32),
    StableHlo.binary main_v6 main_cst main_v7 ((fun x v => Host.reduceAdd x v reducesTo_S50176x96_S50176_d1 h_S_) : (⟨S50176x96, .f32⟩ : BufTy).Contents (Elt F) → (⟨S_, .f32⟩ : BufTy).Contents (Elt F) → (⟨S50176, .f32⟩ : BufTy).Contents (Elt F)),
    StableHlo.binary main_v5 main_v5 main_v8 (mulf : (⟨S50176x96, .f32⟩ : BufTy).Contents (Elt F) → (⟨S50176x96, .f32⟩ : BufTy).Contents (Elt F) → (⟨S50176x96, .f32⟩ : BufTy).Contents (Elt F)),
    StableHlo.nullary main_cst_0 (constant S_ .f32 0x00000000#32),
    StableHlo.binary main_v8 main_cst_0 main_v9 ((fun x v => Host.reduceAdd x v reducesTo_S50176x96_S50176_d1 h_S_) : (⟨S50176x96, .f32⟩ : BufTy).Contents (Elt F) → (⟨S_, .f32⟩ : BufTy).Contents (Elt F) → (⟨S50176, .f32⟩ : BufTy).Contents (Elt F)),
    StableHlo.nullary main_c (constantI S_ 32 0#32),
    StableHlo.unary main_c main_v10 (broadcastInDim S1024 ![] bcast_S_S1024 : (⟨S_, .i32⟩ : BufTy).Contents (Elt F) → (⟨S1024, .i32⟩ : BufTy).Contents (Elt F)),
    StableHlo.nullary main_cst_1 (constant S_ .f32 0x7F800000#32),
    StableHlo.unary main_cst_1 main_v11 (broadcastInDim S50176 ![] bcast_S_S50176 : (⟨S_, .f32⟩ : BufTy).Contents (Elt F) → (⟨S50176, .f32⟩ : BufTy).Contents (Elt F)),
    StableHlo.nullary main_c_2 (constantI S_ 32 1#32),
    StableHlo.nullary main_c_3 (constantI S_ 32 0#32),
    StableHlo.unary main_v3 main_v12_0 id,
    StableHlo.unary main_v7 main_v12_1 id,
    StableHlo.unary main_v5 main_v12_2 id,
    StableHlo.unary main_v9 main_v12_3 id,
    StableHlo.unary main_c_3 main_v12_4 id,
    StableHlo.unary main_c_2 main_v12_5 id,
    StableHlo.unary main_v10 main_v12_6 id,
    StableHlo.unary main_v11 main_v12_7 id,
    StableHlo.unary main_v10 main_v12_8 id,
    StableHlo.unary main_v11 main_v12_9 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 4 host operations of @main, in order. -/
abbrev hostOps0_1 : List (HloOp τ sig (Elt F)) :=
  [ StableHlo.unary main_v12_6 main_v13 (broadcastInDim S1x1024 ![1] bcast_S1024_S1x1024_1 : (⟨S1024, .i32⟩ : BufTy).Contents (Elt F) → (⟨S1x1024, .i32⟩ : BufTy).Contents (Elt F)),
    StableHlo.unary main_v12_8 main_v14 (broadcastInDim S1x1024 ![1] bcast_S1024_S1x1024_1 : (⟨S1024, .i32⟩ : BufTy).Contents (Elt F) → (⟨S1x1024, .i32⟩ : BufTy).Contents (Elt F)),
    StableHlo.binary main_v13 main_v14 main_v15 ((fun a b => concatenate S2x1024 0 [⟨S1x1024, a⟩, ⟨S1x1024, b⟩] concatenates_S1x1024_S1x1024_S2x1024_d0) : (⟨S1x1024, .i32⟩ : BufTy).Contents (Elt F) → (⟨S1x1024, .i32⟩ : BufTy).Contents (Elt F) → (⟨S2x1024, .i32⟩ : BufTy).Contents (Elt F)),
    StableHlo.unary main_v15 main_v16 (broadcastInDim S2x1024x1 ![0, 1] bcast_S2x1024_S2x1024x1_0_1 : (⟨S2x1024, .i32⟩ : BufTy).Contents (Elt F) → (⟨S2x1024x1, .i32⟩ : BufTy).Contents (Elt F)) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub ..⟩
/-- 22 host operations of @take_along_axis (main_call2), in order. -/
abbrev hostOps0_2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S2x1024x1, .i32⟩) (broadcastInDim S2x1024x1 ![] bcast_S_S2x1024x1),
    StableHlo.TRef.binary (.of main_v16 : StableHlo.TRef sig ⟨S2x1024x1, .i32⟩) (.of main_call2_v0 : StableHlo.TRef sig ⟨S2x1024x1, .i32⟩) (.of main_call2_v1 : StableHlo.TRef sig ⟨S2x1024x1, .i1⟩) (cmpi .slt),
    StableHlo.TRef.nullary (.of main_call2_c_0 : StableHlo.TRef sig ⟨S_, .i32⟩) (constantI S_ 32 50176#32),
    StableHlo.TRef.unary (.of main_call2_c_0 : StableHlo.TRef sig ⟨S_, .i32⟩) (.of main_call2_v2 : StableHlo.TRef sig ⟨S2x1024x1, .i32⟩) (broadcastInDim S2x1024x1 ![] bcast_S_S2x1024x1),
    StableHlo.TRef.binary (.of main_v16 : StableHlo.TRef sig ⟨S2x1024x1, .i32⟩) (.of main_call2_v2 : StableHlo.TRef sig ⟨S2x1024x1, .i32⟩) (.of main_call2_v3 : StableHlo.TRef sig ⟨S2x1024x1, .i32⟩) addi,
    StableHlo.TRef.ternary (.of main_call2_v1 : StableHlo.TRef sig ⟨S2x1024x1, .i1⟩) (.of main_call2_v3 : StableHlo.TRef sig ⟨S2x1024x1, .i32⟩) (.of main_v16 : StableHlo.TRef sig ⟨S2x1024x1, .i32⟩) (.of main_call2_v4 : StableHlo.TRef sig ⟨S2x1024x1, .i32⟩) select,
    StableHlo.TRef.nullary (.of main_call2_c_1 : StableHlo.TRef sig ⟨S1, .i32⟩) (constantI S1 32 50175#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v5 : StableHlo.TRef sig ⟨S2x1024x1, .i32⟩) (broadcastInDim S2x1024x1 ![] bcast_S_S2x1024x1),
    StableHlo.TRef.binary (.of main_call2_v4 : StableHlo.TRef sig ⟨S2x1024x1, .i32⟩) (.of main_call2_v5 : StableHlo.TRef sig ⟨S2x1024x1, .i32⟩) (.of main_call2_v6 : StableHlo.TRef sig ⟨S2x1024x1, .i1⟩) (cmpi .sge),
    StableHlo.TRef.unary (.of main_call2_c_1 : StableHlo.TRef sig ⟨S1, .i32⟩) (.of main_call2_v7 : StableHlo.TRef sig ⟨S1x1x1, .i32⟩) (broadcastInDim S1x1x1 ![2] bcast_S1_S1x1x1_2),
    StableHlo.TRef.unary (.of main_call2_v7 : StableHlo.TRef sig ⟨S1x1x1, .i32⟩) (.of main_call2_v8 : StableHlo.TRef sig ⟨S2x1024x1, .i32⟩) (broadcastInDim S2x1024x1 ![0, 1, 2] bcast_S1x1x1_S2x1024x1_0_1_2),
    StableHlo.TRef.binary (.of main_call2_v4 : StableHlo.TRef sig ⟨S2x1024x1, .i32⟩) (.of main_call2_v8 : StableHlo.TRef sig ⟨S2x1024x1, .i32⟩) (.of main_call2_v9 : StableHlo.TRef sig ⟨S2x1024x1, .i1⟩) (cmpi .sle),
    StableHlo.TRef.binary (.of main_call2_v6 : StableHlo.TRef sig ⟨S2x1024x1, .i1⟩) (.of main_call2_v9 : StableHlo.TRef sig ⟨S2x1024x1, .i1⟩) (.of main_call2_v10 : StableHlo.TRef sig ⟨S2x1024x1, .i1⟩) andi,
    StableHlo.TRef.nullary (.of main_call2_c_3 : StableHlo.TRef sig ⟨S_, .i1⟩) (constantI S_ 1 1#1),
    StableHlo.TRef.binary (.of main_call2_v10 : StableHlo.TRef sig ⟨S2x1024x1, .i1⟩) (.of main_call2_c_3 : StableHlo.TRef sig ⟨S_, .i1⟩) (.of main_call2_v11 : StableHlo.TRef sig ⟨S2x1024, .i1⟩) (fun x v => Host.reduce IntOp.andi x v reducesTo_S2x1024x1_S2x1024_d2 h_S_),
    StableHlo.TRef.binary (.of main_v1 : StableHlo.TRef sig ⟨S2x50176x96, .f32⟩) (.of main_call2_v4 : StableHlo.TRef sig ⟨S2x1024x1, .i32⟩) (.of main_call2_v12 : StableHlo.TRef sig ⟨S2x1024x96, .f32⟩) (fun x i => Host.gather gather_S2x50176x96_S2x1024x1_S2x1024x96_2_1_0_0_1_2_1196 x i),
    StableHlo.TRef.unary (.of main_call2_v11 : StableHlo.TRef sig ⟨S2x1024, .i1⟩) (.of main_call2_v13 : StableHlo.TRef sig ⟨S2x1024x96, .i1⟩) (broadcastInDim S2x1024x96 ![0, 1] bcast_S2x1024_S2x1024x96_0_1),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S2x1024x96, .f32⟩) (broadcastInDim S2x1024x96 ![] bcast_S_S2x1024x96),
    StableHlo.TRef.ternary (.of main_call2_v13 : StableHlo.TRef sig ⟨S2x1024x96, .i1⟩) (.of main_call2_v12 : StableHlo.TRef sig ⟨S2x1024x96, .f32⟩) (.of main_call2_v14 : StableHlo.TRef sig ⟨S2x1024x96, .f32⟩) (.of main_v17 : StableHlo.TRef sig ⟨S2x1024x96, .f32⟩) select ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 2 host operations of @main, in order. -/
abbrev hostOps0_3 : List (HloOp τ sig (Elt F)) :=
  [ StableHlo.reshape main_v17 main_v18 (rfl : (.f32 : EltTy) = .f32) shapeCasts_S2x1024x96_S2x32x32x96,
    StableHlo.unary main_v18 main_v19 ((transpose S2x96x32x32 [0, 3, 1, 2] · transposes_S2x32x32x96_S2x96x32x32_0_3_1_2) : (⟨S2x32x32x96, .f32⟩ : BufTy).Contents (Elt F) → (⟨S2x96x32x32, .f32⟩ : BufTy).Contents (Elt F)) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.reshape_bufs_sub .., StableHlo.unary_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    HostLoop.enter 0,
    StableHlo.seq hostOps0_1,
    StableHlo.seq hostOps0_2,
    StableHlo.seq hostOps0_3 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

-- no `main_segs` (the loop-free kit's `Seg.run` equation) for this @main: it has a host loop; a certificate takes `main_chain` (Lib/Pipeline/RegionsLoop.lean)

/-- 42 host operations of host loop 0's body region, in order. -/
abbrev while0Ops0 : List (HloOp τ sig (Elt F)) :=
  ( StableHlo.nullary main_while0b_c_13 (constantI S_ 32 1#32)
  :: StableHlo.binary main_v12_5 main_while0b_c_13 main_while0b_v20 (addi : (⟨S_, .i32⟩ : BufTy).Contents (Elt F) → (⟨S_, .i32⟩ : BufTy).Contents (Elt F) → (⟨S_, .i32⟩ : BufTy).Contents (Elt F))
  :: StableHlo.nullary main_while0b_c_14 (constantI S_ 32 1#32)
  :: StableHlo.binary main_v12_5 main_while0b_c_14 main_while0b_v21 (subi : (⟨S_, .i32⟩ : BufTy).Contents (Elt F) → (⟨S_, .i32⟩ : BufTy).Contents (Elt F) → (⟨S_, .i32⟩ : BufTy).Contents (Elt F))
  :: StableHlo.nullary main_while0b_c_15 (constantI S_ 32 0#32)
  :: StableHlo.binary main_while0b_v21 main_while0b_c_15 main_while0b_v22 (cmpi .slt : (⟨S_, .i32⟩ : BufTy).Contents (Elt F) → (⟨S_, .i32⟩ : BufTy).Contents (Elt F) → (⟨S_, .i1⟩ : BufTy).Contents (Elt F))
  :: StableHlo.unary main_while0b_v21 main_while0b_v23 (id : (⟨S_, .i32⟩ : BufTy).Contents (Elt F) → (⟨S_, .i32⟩ : BufTy).Contents (Elt F))
  :: StableHlo.nullary main_while0b_c_16 (constantI S_ 32 1024#32)
  :: StableHlo.binary main_while0b_v23 main_while0b_c_16 main_while0b_v24 (addi : (⟨S_, .i32⟩ : BufTy).Contents (Elt F) → (⟨S_, .i32⟩ : BufTy).Contents (Elt F) → (⟨S_, .i32⟩ : BufTy).Contents (Elt F))
  :: StableHlo.ternary main_while0b_v22 main_while0b_v24 main_while0b_v21 main_while0b_v25 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v12_6 ![main_while0b_v25] ⟨S_, .i32⟩ main_while0b_v26 ((fun x i => Host.dynamicSlice S1 x (fun k => (i k (Shape.Idx.first h_S_)).toInt) sliceFits_S1024_S1) : (⟨S1024, .i32⟩ : BufTy).Contents (Elt F) → (Fin 1 → (⟨S_, .i32⟩ : BufTy).Contents (Elt F)) → (⟨S1, .i32⟩ : BufTy).Contents (Elt F))
  :: StableHlo.reshape main_while0b_v26 main_while0b_v27 (rfl : (.i32 : EltTy) = .i32) shapeCasts_S1_S_
  :: StableHlo.nullary main_while0b_c_17 (constantI S_ 32 0#32)
  :: StableHlo.binary main_while0b_v27 main_while0b_c_17 main_while0b_v28 (cmpi .slt : (⟨S_, .i32⟩ : BufTy).Contents (Elt F) → (⟨S_, .i32⟩ : BufTy).Contents (Elt F) → (⟨S_, .i1⟩ : BufTy).Contents (Elt F))
  :: StableHlo.nullary main_while0b_c_18 (constantI S_ 32 50176#32)
  :: StableHlo.binary main_while0b_v27 main_while0b_c_18 main_while0b_v29 (addi : (⟨S_, .i32⟩ : BufTy).Contents (Elt F) → (⟨S_, .i32⟩ : BufTy).Contents (Elt F) → (⟨S_, .i32⟩ : BufTy).Contents (Elt F))
  :: StableHlo.ternary main_while0b_v28 main_while0b_v29 main_while0b_v27 main_while0b_v30 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_19 (constantI S_ 32 0#32)
  :: StableHlo.nullary main_while0b_c_20 (constantI S_ 32 0#32)
  :: StableHlo.binary main_while0b_c_19 main_while0b_c_20 main_while0b_v31 (cmpi .slt : (⟨S_, .i32⟩ : BufTy).Contents (Elt F) → (⟨S_, .i32⟩ : BufTy).Contents (Elt F) → (⟨S_, .i1⟩ : BufTy).Contents (Elt F))
  :: StableHlo.nullary main_while0b_c_21 (constantI S_ 32 0#32)
  :: StableHlo.nullary main_while0b_c_22 (constantI S_ 32 96#32)
  :: StableHlo.binary main_while0b_c_21 main_while0b_c_22 main_while0b_v32 (addi : (⟨S_, .i32⟩ : BufTy).Contents (Elt F) → (⟨S_, .i32⟩ : BufTy).Contents (Elt F) → (⟨S_, .i32⟩ : BufTy).Contents (Elt F))
  :: StableHlo.nullary main_while0b_c_23 (constantI S_ 32 0#32)
  :: StableHlo.ternary main_while0b_v31 main_while0b_v32 main_while0b_c_23 main_while0b_v33 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v12_0 ![main_while0b_v30, main_while0b_v33] ⟨S_, .i32⟩ main_while0b_v34 ((fun x i => Host.dynamicSlice S1x96 x (fun k => (i k (Shape.Idx.first h_S_)).toInt) sliceFits_S50176x96_S1x96) : (⟨S50176x96, .f32⟩ : BufTy).Contents (Elt F) → (Fin 2 → (⟨S_, .i32⟩ : BufTy).Contents (Elt F)) → (⟨S1x96, .f32⟩ : BufTy).Contents (Elt F))
  :: StableHlo.reshape main_while0b_v34 main_while0b_v35 (rfl : (.f32 : EltTy) = .f32) shapeCasts_S1x96_S96
  :: StableHlo.nullary main_while0b_c_24 (constantI S_ 32 0#32)
  :: StableHlo.binary main_while0b_v27 main_while0b_c_24 main_while0b_v36 (cmpi .slt : (⟨S_, .i32⟩ : BufTy).Contents (Elt F) → (⟨S_, .i32⟩ : BufTy).Contents (Elt F) → (⟨S_, .i1⟩ : BufTy).Contents (Elt F))
  :: StableHlo.nullary main_while0b_c_25 (constantI S_ 32 50176#32)
  :: StableHlo.binary main_while0b_v27 main_while0b_c_25 main_while0b_v37 (addi : (⟨S_, .i32⟩ : BufTy).Contents (Elt F) → (⟨S_, .i32⟩ : BufTy).Contents (Elt F) → (⟨S_, .i32⟩ : BufTy).Contents (Elt F))
  :: StableHlo.ternary main_while0b_v36 main_while0b_v37 main_while0b_v27 main_while0b_v38 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v12_1 ![main_while0b_v38] ⟨S_, .i32⟩ main_while0b_v39 ((fun x i => Host.dynamicSlice S1 x (fun k => (i k (Shape.Idx.first h_S_)).toInt) sliceFits_S50176_S1) : (⟨S50176, .f32⟩ : BufTy).Contents (Elt F) → (Fin 1 → (⟨S_, .i32⟩ : BufTy).Contents (Elt F)) → (⟨S1, .f32⟩ : BufTy).Contents (Elt F))
  :: StableHlo.reshape main_while0b_v39 main_while0b_v40 (rfl : (.f32 : EltTy) = .f32) shapeCasts_S1_S_
  :: StableHlo.binary main_v12_0 main_while0b_v35 main_while0b_v41 ((fun l r => Host.dotGeneral dot_S50176x96_S96_S50176_1_0_0_n_n_n none l r) : (⟨S50176x96, .f32⟩ : BufTy).Contents (Elt F) → (⟨S96, .f32⟩ : BufTy).Contents (Elt F) → (⟨S50176, .f32⟩ : BufTy).Contents (Elt F))
  :: StableHlo.unary main_while0b_v40 main_while0b_v42 (broadcastInDim S50176 ![] bcast_S_S50176 : (⟨S_, .f32⟩ : BufTy).Contents (Elt F) → (⟨S50176, .f32⟩ : BufTy).Contents (Elt F))
  :: StableHlo.binary main_v12_1 main_while0b_v42 main_while0b_v43 (addf : (⟨S50176, .f32⟩ : BufTy).Contents (Elt F) → (⟨S50176, .f32⟩ : BufTy).Contents (Elt F) → (⟨S50176, .f32⟩ : BufTy).Contents (Elt F))
  :: StableHlo.nullary main_while0b_cst_26 (constant S_ .f32 0x40000000#32)
  :: StableHlo.unary main_while0b_cst_26 main_while0b_v44 (broadcastInDim S50176 ![] bcast_S_S50176 : (⟨S_, .f32⟩ : BufTy).Contents (Elt F) → (⟨S50176, .f32⟩ : BufTy).Contents (Elt F))
  :: StableHlo.binary main_while0b_v44 main_while0b_v41 main_while0b_v45 (mulf : (⟨S50176, .f32⟩ : BufTy).Contents (Elt F) → (⟨S50176, .f32⟩ : BufTy).Contents (Elt F) → (⟨S50176, .f32⟩ : BufTy).Contents (Elt F))
  :: StableHlo.binary main_while0b_v43 main_while0b_v45 main_while0b_v46 (subf : (⟨S50176, .f32⟩ : BufTy).Contents (Elt F) → (⟨S50176, .f32⟩ : BufTy).Contents (Elt F) → (⟨S50176, .f32⟩ : BufTy).Contents (Elt F))
  :: StableHlo.binary main_v12_7 main_while0b_v46 main_while0b_v47 (minimumf : (⟨S50176, .f32⟩ : BufTy).Contents (Elt F) → (⟨S50176, .f32⟩ : BufTy).Contents (Elt F) → (⟨S50176, .f32⟩ : BufTy).Contents (Elt F))
  :: [] )
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
/-- 5 host operations of @argmax (main_while0b_call0), in order. -/
abbrev while0Ops0_1 : List (HloOp τ sig (Elt F)) :=
  [ StableHlo.TRef.nullary (.of main_while0b_call0_v0 : StableHlo.TRef sig ⟨S50176, .i32⟩) (iotaInDim S50176 32 0),
    StableHlo.TRef.nullary (.of main_while0b_call0_cst : StableHlo.TRef sig ⟨S_, .f32⟩) (constant S_ .f32 0xFF800000#32),
    StableHlo.TRef.nullary (.of main_while0b_call0_c : StableHlo.TRef sig ⟨S_, .i32⟩) (constantI S_ 32 0#32),
    StableHlo.TRef.quaternary (.of main_while0b_v47 : StableHlo.TRef sig ⟨S50176, .f32⟩) (.of main_while0b_call0_v0 : StableHlo.TRef sig ⟨S50176, .i32⟩) (.of main_while0b_call0_cst : StableHlo.TRef sig ⟨S_, .f32⟩) (.of main_while0b_call0_c : StableHlo.TRef sig ⟨S_, .i32⟩) (.of main_while0b_call0_v1_0 : StableHlo.TRef sig ⟨S_, .f32⟩) (fun x y u v j => (Host.argReduce reducer_argmax_f32_i32 x y u v reducesTo_S50176_S_d0 h_S_ j).1),
    StableHlo.TRef.quaternary (.of main_while0b_v47 : StableHlo.TRef sig ⟨S50176, .f32⟩) (.of main_while0b_call0_v0 : StableHlo.TRef sig ⟨S50176, .i32⟩) (.of main_while0b_call0_cst : StableHlo.TRef sig ⟨S_, .f32⟩) (.of main_while0b_call0_c : StableHlo.TRef sig ⟨S_, .i32⟩) (.of main_while0b_v48 : StableHlo.TRef sig ⟨S_, .i32⟩) (fun x y u v j => (Host.argReduce reducer_argmax_f32_i32 x y u v reducesTo_S50176_S_d0 h_S_ j).2) ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 48 host operations of host loop 0's body region, in order. -/
abbrev while0Ops0_2 : List (HloOp τ sig (Elt F)) :=
  ( StableHlo.nullary main_while0b_c_27 (constantI S_ 32 0#32)
  :: StableHlo.binary main_v12_5 main_while0b_c_27 main_while0b_v49 (cmpi .slt : (⟨S_, .i32⟩ : BufTy).Contents (Elt F) → (⟨S_, .i32⟩ : BufTy).Contents (Elt F) → (⟨S_, .i1⟩ : BufTy).Contents (Elt F))
  :: StableHlo.nullary main_while0b_c_28 (constantI S_ 32 1024#32)
  :: StableHlo.binary main_v12_5 main_while0b_c_28 main_while0b_v50 (addi : (⟨S_, .i32⟩ : BufTy).Contents (Elt F) → (⟨S_, .i32⟩ : BufTy).Contents (Elt F) → (⟨S_, .i32⟩ : BufTy).Contents (Elt F))
  :: StableHlo.ternary main_while0b_v49 main_while0b_v50 main_v12_5 main_while0b_v51 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unary main_while0b_v51 main_while0b_v52 (id : (⟨S_, .i32⟩ : BufTy).Contents (Elt F) → (⟨S_, .i32⟩ : BufTy).Contents (Elt F))
  :: StableHlo.unary main_while0b_v52 main_while0b_v53 (broadcastInDim S1 ![] bcast_S_S1 : (⟨S_, .i32⟩ : BufTy).Contents (Elt F) → (⟨S1, .i32⟩ : BufTy).Contents (Elt F))
  :: StableHlo.ternary main_v12_6 main_while0b_v53 main_while0b_v48 main_while0b_v54 ((fun x i u => Host.scatter scatter_S1024_S1_S__n_0_0_0 (fun _ b => b) x i u) : (⟨S1024, .i32⟩ : BufTy).Contents (Elt F) → (⟨S1, .i32⟩ : BufTy).Contents (Elt F) → (⟨S_, .i32⟩ : BufTy).Contents (Elt F) → (⟨S1024, .i32⟩ : BufTy).Contents (Elt F))
  :: StableHlo.nullary main_while0b_c_29 (constantI S_ 32 1#32)
  :: StableHlo.binary main_v12_5 main_while0b_c_29 main_while0b_v55 (subi : (⟨S_, .i32⟩ : BufTy).Contents (Elt F) → (⟨S_, .i32⟩ : BufTy).Contents (Elt F) → (⟨S_, .i32⟩ : BufTy).Contents (Elt F))
  :: StableHlo.nullary main_while0b_c_30 (constantI S_ 32 0#32)
  :: StableHlo.binary main_while0b_v55 main_while0b_c_30 main_while0b_v56 (cmpi .slt : (⟨S_, .i32⟩ : BufTy).Contents (Elt F) → (⟨S_, .i32⟩ : BufTy).Contents (Elt F) → (⟨S_, .i1⟩ : BufTy).Contents (Elt F))
  :: StableHlo.unary main_while0b_v55 main_while0b_v57 (id : (⟨S_, .i32⟩ : BufTy).Contents (Elt F) → (⟨S_, .i32⟩ : BufTy).Contents (Elt F))
  :: StableHlo.nullary main_while0b_c_31 (constantI S_ 32 1024#32)
  :: StableHlo.binary main_while0b_v57 main_while0b_c_31 main_while0b_v58 (addi : (⟨S_, .i32⟩ : BufTy).Contents (Elt F) → (⟨S_, .i32⟩ : BufTy).Contents (Elt F) → (⟨S_, .i32⟩ : BufTy).Contents (Elt F))
  :: StableHlo.ternary main_while0b_v56 main_while0b_v58 main_while0b_v55 main_while0b_v59 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v12_8 ![main_while0b_v59] ⟨S_, .i32⟩ main_while0b_v60 ((fun x i => Host.dynamicSlice S1 x (fun k => (i k (Shape.Idx.first h_S_)).toInt) sliceFits_S1024_S1) : (⟨S1024, .i32⟩ : BufTy).Contents (Elt F) → (Fin 1 → (⟨S_, .i32⟩ : BufTy).Contents (Elt F)) → (⟨S1, .i32⟩ : BufTy).Contents (Elt F))
  :: StableHlo.reshape main_while0b_v60 main_while0b_v61 (rfl : (.i32 : EltTy) = .i32) shapeCasts_S1_S_
  :: StableHlo.nullary main_while0b_c_32 (constantI S_ 32 0#32)
  :: StableHlo.binary main_while0b_v61 main_while0b_c_32 main_while0b_v62 (cmpi .slt : (⟨S_, .i32⟩ : BufTy).Contents (Elt F) → (⟨S_, .i32⟩ : BufTy).Contents (Elt F) → (⟨S_, .i1⟩ : BufTy).Contents (Elt F))
  :: StableHlo.nullary main_while0b_c_33 (constantI S_ 32 50176#32)
  :: StableHlo.binary main_while0b_v61 main_while0b_c_33 main_while0b_v63 (addi : (⟨S_, .i32⟩ : BufTy).Contents (Elt F) → (⟨S_, .i32⟩ : BufTy).Contents (Elt F) → (⟨S_, .i32⟩ : BufTy).Contents (Elt F))
  :: StableHlo.ternary main_while0b_v62 main_while0b_v63 main_while0b_v61 main_while0b_v64 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_34 (constantI S_ 32 0#32)
  :: StableHlo.nullary main_while0b_c_35 (constantI S_ 32 0#32)
  :: StableHlo.binary main_while0b_c_34 main_while0b_c_35 main_while0b_v65 (cmpi .slt : (⟨S_, .i32⟩ : BufTy).Contents (Elt F) → (⟨S_, .i32⟩ : BufTy).Contents (Elt F) → (⟨S_, .i1⟩ : BufTy).Contents (Elt F))
  :: StableHlo.nullary main_while0b_c_36 (constantI S_ 32 0#32)
  :: StableHlo.nullary main_while0b_c_37 (constantI S_ 32 96#32)
  :: StableHlo.binary main_while0b_c_36 main_while0b_c_37 main_while0b_v66 (addi : (⟨S_, .i32⟩ : BufTy).Contents (Elt F) → (⟨S_, .i32⟩ : BufTy).Contents (Elt F) → (⟨S_, .i32⟩ : BufTy).Contents (Elt F))
  :: StableHlo.nullary main_while0b_c_38 (constantI S_ 32 0#32)
  :: StableHlo.ternary main_while0b_v65 main_while0b_v66 main_while0b_c_38 main_while0b_v67 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v12_2 ![main_while0b_v64, main_while0b_v67] ⟨S_, .i32⟩ main_while0b_v68 ((fun x i => Host.dynamicSlice S1x96 x (fun k => (i k (Shape.Idx.first h_S_)).toInt) sliceFits_S50176x96_S1x96) : (⟨S50176x96, .f32⟩ : BufTy).Contents (Elt F) → (Fin 2 → (⟨S_, .i32⟩ : BufTy).Contents (Elt F)) → (⟨S1x96, .f32⟩ : BufTy).Contents (Elt F))
  :: StableHlo.reshape main_while0b_v68 main_while0b_v69 (rfl : (.f32 : EltTy) = .f32) shapeCasts_S1x96_S96
  :: StableHlo.nullary main_while0b_c_39 (constantI S_ 32 0#32)
  :: StableHlo.binary main_while0b_v61 main_while0b_c_39 main_while0b_v70 (cmpi .slt : (⟨S_, .i32⟩ : BufTy).Contents (Elt F) → (⟨S_, .i32⟩ : BufTy).Contents (Elt F) → (⟨S_, .i1⟩ : BufTy).Contents (Elt F))
  :: StableHlo.nullary main_while0b_c_40 (constantI S_ 32 50176#32)
  :: StableHlo.binary main_while0b_v61 main_while0b_c_40 main_while0b_v71 (addi : (⟨S_, .i32⟩ : BufTy).Contents (Elt F) → (⟨S_, .i32⟩ : BufTy).Contents (Elt F) → (⟨S_, .i32⟩ : BufTy).Contents (Elt F))
  :: StableHlo.ternary main_while0b_v70 main_while0b_v71 main_while0b_v61 main_while0b_v72 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v12_3 ![main_while0b_v72] ⟨S_, .i32⟩ main_while0b_v73 ((fun x i => Host.dynamicSlice S1 x (fun k => (i k (Shape.Idx.first h_S_)).toInt) sliceFits_S50176_S1) : (⟨S50176, .f32⟩ : BufTy).Contents (Elt F) → (Fin 1 → (⟨S_, .i32⟩ : BufTy).Contents (Elt F)) → (⟨S1, .f32⟩ : BufTy).Contents (Elt F))
  :: StableHlo.reshape main_while0b_v73 main_while0b_v74 (rfl : (.f32 : EltTy) = .f32) shapeCasts_S1_S_
  :: StableHlo.binary main_v12_2 main_while0b_v69 main_while0b_v75 ((fun l r => Host.dotGeneral dot_S50176x96_S96_S50176_1_0_0_n_n_n none l r) : (⟨S50176x96, .f32⟩ : BufTy).Contents (Elt F) → (⟨S96, .f32⟩ : BufTy).Contents (Elt F) → (⟨S50176, .f32⟩ : BufTy).Contents (Elt F))
  :: StableHlo.unary main_while0b_v74 main_while0b_v76 (broadcastInDim S50176 ![] bcast_S_S50176 : (⟨S_, .f32⟩ : BufTy).Contents (Elt F) → (⟨S50176, .f32⟩ : BufTy).Contents (Elt F))
  :: StableHlo.binary main_v12_3 main_while0b_v76 main_while0b_v77 (addf : (⟨S50176, .f32⟩ : BufTy).Contents (Elt F) → (⟨S50176, .f32⟩ : BufTy).Contents (Elt F) → (⟨S50176, .f32⟩ : BufTy).Contents (Elt F))
  :: StableHlo.nullary main_while0b_cst_41 (constant S_ .f32 0x40000000#32)
  :: StableHlo.unary main_while0b_cst_41 main_while0b_v78 (broadcastInDim S50176 ![] bcast_S_S50176 : (⟨S_, .f32⟩ : BufTy).Contents (Elt F) → (⟨S50176, .f32⟩ : BufTy).Contents (Elt F))
  :: StableHlo.binary main_while0b_v78 main_while0b_v75 main_while0b_v79 (mulf : (⟨S50176, .f32⟩ : BufTy).Contents (Elt F) → (⟨S50176, .f32⟩ : BufTy).Contents (Elt F) → (⟨S50176, .f32⟩ : BufTy).Contents (Elt F))
  :: StableHlo.binary main_while0b_v77 main_while0b_v79 main_while0b_v80 (subf : (⟨S50176, .f32⟩ : BufTy).Contents (Elt F) → (⟨S50176, .f32⟩ : BufTy).Contents (Elt F) → (⟨S50176, .f32⟩ : BufTy).Contents (Elt F))
  :: StableHlo.binary main_v12_9 main_while0b_v80 main_while0b_v81 (minimumf : (⟨S50176, .f32⟩ : BufTy).Contents (Elt F) → (⟨S50176, .f32⟩ : BufTy).Contents (Elt F) → (⟨S50176, .f32⟩ : BufTy).Contents (Elt F))
  :: [] )
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
/-- 5 host operations of @argmax (main_while0b_call1), in order. -/
abbrev while0Ops0_3 : List (HloOp τ sig (Elt F)) :=
  [ StableHlo.TRef.nullary (.of main_while0b_call1_v0 : StableHlo.TRef sig ⟨S50176, .i32⟩) (iotaInDim S50176 32 0),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v81 : StableHlo.TRef sig ⟨S50176, .f32⟩) (.of main_while0b_call1_v0 : StableHlo.TRef sig ⟨S50176, .i32⟩) (.of main_while0b_call1_cst : StableHlo.TRef sig ⟨S_, .f32⟩) (.of main_while0b_call1_c : StableHlo.TRef sig ⟨S_, .i32⟩) (.of main_while0b_call1_v1_0 : StableHlo.TRef sig ⟨S_, .f32⟩) (fun x y u v j => (Host.argReduce reducer_argmax_f32_i32 x y u v reducesTo_S50176_S_d0 h_S_ j).1),
    StableHlo.TRef.quaternary (.of main_while0b_v81 : StableHlo.TRef sig ⟨S50176, .f32⟩) (.of main_while0b_call1_v0 : StableHlo.TRef sig ⟨S50176, .i32⟩) (.of main_while0b_call1_cst : StableHlo.TRef sig ⟨S_, .f32⟩) (.of main_while0b_call1_c : StableHlo.TRef sig ⟨S_, .i32⟩) (.of main_while0b_v82 : StableHlo.TRef sig ⟨S_, .i32⟩) (fun x y u v j => (Host.argReduce reducer_argmax_f32_i32 x y u v reducesTo_S50176_S_d0 h_S_ j).2) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 16 host operations of host loop 0's body region, in order. -/
abbrev while0Ops0_4 : List (HloOp τ sig (Elt F)) :=
  [ StableHlo.nullary main_while0b_c_42 (constantI S_ 32 0#32),
    StableHlo.binary main_v12_5 main_while0b_c_42 main_while0b_v83 (cmpi .slt : (⟨S_, .i32⟩ : BufTy).Contents (Elt F) → (⟨S_, .i32⟩ : BufTy).Contents (Elt F) → (⟨S_, .i1⟩ : BufTy).Contents (Elt F)),
    StableHlo.nullary main_while0b_c_43 (constantI S_ 32 1024#32),
    StableHlo.binary main_v12_5 main_while0b_c_43 main_while0b_v84 (addi : (⟨S_, .i32⟩ : BufTy).Contents (Elt F) → (⟨S_, .i32⟩ : BufTy).Contents (Elt F) → (⟨S_, .i32⟩ : BufTy).Contents (Elt F)),
    StableHlo.ternary main_while0b_v83 main_while0b_v84 main_v12_5 main_while0b_v85 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v85 main_while0b_v86 (id : (⟨S_, .i32⟩ : BufTy).Contents (Elt F) → (⟨S_, .i32⟩ : BufTy).Contents (Elt F)),
    StableHlo.unary main_while0b_v86 main_while0b_v87 (broadcastInDim S1 ![] bcast_S_S1 : (⟨S_, .i32⟩ : BufTy).Contents (Elt F) → (⟨S1, .i32⟩ : BufTy).Contents (Elt F)),
    StableHlo.ternary main_v12_8 main_while0b_v87 main_while0b_v82 main_while0b_v88 ((fun x i u => Host.scatter scatter_S1024_S1_S__n_0_0_0 (fun _ b => b) x i u) : (⟨S1024, .i32⟩ : BufTy).Contents (Elt F) → (⟨S1, .i32⟩ : BufTy).Contents (Elt F) → (⟨S_, .i32⟩ : BufTy).Contents (Elt F) → (⟨S1024, .i32⟩ : BufTy).Contents (Elt F)),
    StableHlo.nullary main_while0b_c_44 (constantI S_ 32 1#32),
    StableHlo.binary main_v12_4 main_while0b_c_44 main_while0b_v89 (addi : (⟨S_, .i32⟩ : BufTy).Contents (Elt F) → (⟨S_, .i32⟩ : BufTy).Contents (Elt F) → (⟨S_, .i32⟩ : BufTy).Contents (Elt F)),
    StableHlo.unary main_while0b_v89 main_v12_4 id,
    StableHlo.unary main_while0b_v20 main_v12_5 id,
    StableHlo.unary main_while0b_v54 main_v12_6 id,
    StableHlo.unary main_while0b_v47 main_v12_7 id,
    StableHlo.unary main_while0b_v88 main_v12_8 id,
    StableHlo.unary main_while0b_v81 main_v12_9 id ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_v3, main_v4, main_v5, main_v6, main_cst, main_v7, main_v8, main_cst_0, main_v9, main_c, main_v10, main_cst_1, main_v11, main_c_2, main_c_3, main_v12_0, main_v12_1, main_v12_2, main_v12_3, main_v12_4, main_v12_5, main_v12_6, main_v12_7, main_v12_8, main_v12_9]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_c_13, main_while0b_v20, main_while0b_c_14, main_while0b_v21, main_while0b_c_15, main_while0b_v22, main_while0b_v23, main_while0b_c_16, main_while0b_v24, main_while0b_v25, main_while0b_v26, main_while0b_v27, main_while0b_c_17, main_while0b_v28, main_while0b_c_18, main_while0b_v29, main_while0b_v30, main_while0b_c_19, main_while0b_c_20, main_while0b_v31, main_while0b_c_21, main_while0b_c_22, main_while0b_v32, main_while0b_c_23, main_while0b_v33, main_while0b_v34, main_while0b_v35, main_while0b_c_24, main_while0b_v36, main_while0b_c_25, main_while0b_v37, main_while0b_v38, main_while0b_v39, main_while0b_v40, main_while0b_v41, main_while0b_v42, main_while0b_v43, main_while0b_cst_26, main_while0b_v44, main_while0b_v45, main_while0b_v46, main_while0b_v47]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_v0, main_while0b_call0_cst, main_while0b_call0_c, main_while0b_call0_v1_0, main_while0b_v48]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_c_27, main_while0b_v49, main_while0b_c_28, main_while0b_v50, main_while0b_v51, main_while0b_v52, main_while0b_v53, main_while0b_v54, main_while0b_c_29, main_while0b_v55, main_while0b_c_30, main_while0b_v56, main_while0b_v57, main_while0b_c_31, main_while0b_v58, main_while0b_v59, main_while0b_v60, main_while0b_v61, main_while0b_c_32, main_while0b_v62, main_while0b_c_33, main_while0b_v63, main_while0b_v64, main_while0b_c_34, main_while0b_c_35, main_while0b_v65, main_while0b_c_36, main_while0b_c_37, main_while0b_v66, main_while0b_c_38, main_while0b_v67, main_while0b_v68, main_while0b_v69, main_while0b_c_39, main_while0b_v70, main_while0b_c_40, main_while0b_v71, main_while0b_v72, main_while0b_v73, main_while0b_v74, main_while0b_v75, main_while0b_v76, main_while0b_v77, main_while0b_cst_41, main_while0b_v78, main_while0b_v79, main_while0b_v80, main_while0b_v81]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call1_v0, main_while0b_call1_cst, main_while0b_call1_c, main_while0b_call1_v1_0, main_while0b_v82]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_c_42, main_while0b_v83, main_while0b_c_43, main_while0b_v84, main_while0b_v85, main_while0b_v86, main_while0b_v87, main_while0b_v88, main_while0b_c_44, main_while0b_v89, main_v12_4, main_v12_5, main_v12_6, main_v12_7, main_v12_8, main_v12_9]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl

/-- The condition region's two operations: the bound, and the trip counter compared with it. -/
abbrev condOps : List (HloOp τ sig (Elt F)) :=
  [ StableHlo.nullary main_while0c_c_13 (constantI S_ 32 1023#32),
    StableHlo.binary main_v12_4 main_while0c_c_13 main_while0c_v20 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4]
abbrev postI : List (List (HloOp τ sig (Elt F))) := [hostOps0_1, hostOps0_2, hostOps0_3]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.nil)))))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.nil)))

/-- The reference each operation of `condOps` writes, in order. -/
abbrev condOps_W : List (Ref sig .tc) := [main_while0c_c_13, main_while0c_v20]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v12_4`) is written by one stretch of the body, `while0Ops0_4`: not by the condition, nor by the
    body's other stretches. -/
theorem ctr_cond (V : Valuation τ sig (Elt F)) : after condOps V (Proc.devRef .tc main_v12_4) = V (Proc.devRef .tc main_v12_4) :=
  after_of_writes_sub condOps V condOps_writes (by decide +kernel)
theorem ctr_while0Ops0 (V : Valuation τ sig (Elt F)) : after while0Ops0 V (Proc.devRef .tc main_v12_4) = V (Proc.devRef .tc main_v12_4) :=
  after_of_writes_sub while0Ops0 V while0Ops0_writes (by decide +kernel)
theorem ctr_while0Ops0_1 (V : Valuation τ sig (Elt F)) : after while0Ops0_1 V (Proc.devRef .tc main_v12_4) = V (Proc.devRef .tc main_v12_4) :=
  after_of_writes_sub while0Ops0_1 V while0Ops0_1_writes (by decide +kernel)
theorem ctr_while0Ops0_2 (V : Valuation τ sig (Elt F)) : after while0Ops0_2 V (Proc.devRef .tc main_v12_4) = V (Proc.devRef .tc main_v12_4) :=
  after_of_writes_sub while0Ops0_2 V while0Ops0_2_writes (by decide +kernel)
theorem ctr_while0Ops0_3 (V : Valuation τ sig (Elt F)) : after while0Ops0_3 V (Proc.devRef .tc main_v12_4) = V (Proc.devRef .tc main_v12_4) :=
  after_of_writes_sub while0Ops0_3 V while0Ops0_3_writes (by decide +kernel)

/-- The body's operations 1 … 11 of 116. -/
abbrev trip_w0 : List (HloOp τ sig (Elt F)) :=
  [ StableHlo.nullary main_while0b_c_13 (constantI S_ 32 1#32),
    StableHlo.binary main_v12_5 main_while0b_c_13 main_while0b_v20 (addi : (⟨S_, .i32⟩ : BufTy).Contents (Elt F) → (⟨S_, .i32⟩ : BufTy).Contents (Elt F) → (⟨S_, .i32⟩ : BufTy).Contents (Elt F)),
    StableHlo.nullary main_while0b_c_14 (constantI S_ 32 1#32),
    StableHlo.binary main_v12_5 main_while0b_c_14 main_while0b_v21 (subi : (⟨S_, .i32⟩ : BufTy).Contents (Elt F) → (⟨S_, .i32⟩ : BufTy).Contents (Elt F) → (⟨S_, .i32⟩ : BufTy).Contents (Elt F)),
    StableHlo.nullary main_while0b_c_15 (constantI S_ 32 0#32),
    StableHlo.binary main_while0b_v21 main_while0b_c_15 main_while0b_v22 (cmpi .slt : (⟨S_, .i32⟩ : BufTy).Contents (Elt F) → (⟨S_, .i32⟩ : BufTy).Contents (Elt F) → (⟨S_, .i1⟩ : BufTy).Contents (Elt F)),
    StableHlo.unary main_while0b_v21 main_while0b_v23 (id : (⟨S_, .i32⟩ : BufTy).Contents (Elt F) → (⟨S_, .i32⟩ : BufTy).Contents (Elt F)),
    StableHlo.nullary main_while0b_c_16 (constantI S_ 32 1024#32),
    StableHlo.binary main_while0b_v23 main_while0b_c_16 main_while0b_v24 (addi : (⟨S_, .i32⟩ : BufTy).Contents (Elt F) → (⟨S_, .i32⟩ : BufTy).Contents (Elt F) → (⟨S_, .i32⟩ : BufTy).Contents (Elt F)),
    StableHlo.ternary main_while0b_v22 main_while0b_v24 main_while0b_v21 main_while0b_v25 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v12_6 ![main_while0b_v25] ⟨S_, .i32⟩ main_while0b_v26 ((fun x i => Host.dynamicSlice S1 x (fun k => (i k (Shape.Idx.first h_S_)).toInt) sliceFits_S1024_S1) : (⟨S1024, .i32⟩ : BufTy).Contents (Elt F) → (Fin 1 → (⟨S_, .i32⟩ : BufTy).Contents (Elt F)) → (⟨S1, .i32⟩ : BufTy).Contents (Elt F)) ]

/-- The body's operations 12 … 26 of 116. -/
abbrev trip_w1 : List (HloOp τ sig (Elt F)) :=
  [ StableHlo.reshape main_while0b_v26 main_while0b_v27 (rfl : (.i32 : EltTy) = .i32) shapeCasts_S1_S_,
    StableHlo.nullary main_while0b_c_17 (constantI S_ 32 0#32),
    StableHlo.binary main_while0b_v27 main_while0b_c_17 main_while0b_v28 (cmpi .slt : (⟨S_, .i32⟩ : BufTy).Contents (Elt F) → (⟨S_, .i32⟩ : BufTy).Contents (Elt F) → (⟨S_, .i1⟩ : BufTy).Contents (Elt F)),
    StableHlo.nullary main_while0b_c_18 (constantI S_ 32 50176#32),
    StableHlo.binary main_while0b_v27 main_while0b_c_18 main_while0b_v29 (addi : (⟨S_, .i32⟩ : BufTy).Contents (Elt F) → (⟨S_, .i32⟩ : BufTy).Contents (Elt F) → (⟨S_, .i32⟩ : BufTy).Contents (Elt F)),
    StableHlo.ternary main_while0b_v28 main_while0b_v29 main_while0b_v27 main_while0b_v30 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_19 (constantI S_ 32 0#32),
    StableHlo.nullary main_while0b_c_20 (constantI S_ 32 0#32),
    StableHlo.binary main_while0b_c_19 main_while0b_c_20 main_while0b_v31 (cmpi .slt : (⟨S_, .i32⟩ : BufTy).Contents (Elt F) → (⟨S_, .i32⟩ : BufTy).Contents (Elt F) → (⟨S_, .i1⟩ : BufTy).Contents (Elt F)),
    StableHlo.nullary main_while0b_c_21 (constantI S_ 32 0#32),
    StableHlo.nullary main_while0b_c_22 (constantI S_ 32 96#32),
    StableHlo.binary main_while0b_c_21 main_while0b_c_22 main_while0b_v32 (addi : (⟨S_, .i32⟩ : BufTy).Contents (Elt F) → (⟨S_, .i32⟩ : BufTy).Contents (Elt F) → (⟨S_, .i32⟩ : BufTy).Contents (Elt F)),
    StableHlo.nullary main_while0b_c_23 (constantI S_ 32 0#32),
    StableHlo.ternary main_while0b_v31 main_while0b_v32 main_while0b_c_23 main_while0b_v33 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v12_0 ![main_while0b_v30, main_while0b_v33] ⟨S_, .i32⟩ main_while0b_v34 ((fun x i => Host.dynamicSlice S1x96 x (fun k => (i k (Shape.Idx.first h_S_)).toInt) sliceFits_S50176x96_S1x96) : (⟨S50176x96, .f32⟩ : BufTy).Contents (Elt F) → (Fin 2 → (⟨S_, .i32⟩ : BufTy).Contents (Elt F)) → (⟨S1x96, .f32⟩ : BufTy).Contents (Elt F)) ]

/-- The body's operations 27 … 33 of 116. -/
abbrev trip_w2 : List (HloOp τ sig (Elt F)) :=
  [ StableHlo.reshape main_while0b_v34 main_while0b_v35 (rfl : (.f32 : EltTy) = .f32) shapeCasts_S1x96_S96,
    StableHlo.nullary main_while0b_c_24 (constantI S_ 32 0#32),
    StableHlo.binary main_while0b_v27 main_while0b_c_24 main_while0b_v36 (cmpi .slt : (⟨S_, .i32⟩ : BufTy).Contents (Elt F) → (⟨S_, .i32⟩ : BufTy).Contents (Elt F) → (⟨S_, .i1⟩ : BufTy).Contents (Elt F)),
    StableHlo.nullary main_while0b_c_25 (constantI S_ 32 50176#32),
    StableHlo.binary main_while0b_v27 main_while0b_c_25 main_while0b_v37 (addi : (⟨S_, .i32⟩ : BufTy).Contents (Elt F) → (⟨S_, .i32⟩ : BufTy).Contents (Elt F) → (⟨S_, .i32⟩ : BufTy).Contents (Elt F)),
    StableHlo.ternary main_while0b_v36 main_while0b_v37 main_while0b_v27 main_while0b_v38 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v12_1 ![main_while0b_v38] ⟨S_, .i32⟩ main_while0b_v39 ((fun x i => Host.dynamicSlice S1 x (fun k => (i k (Shape.Idx.first h_S_)).toInt) sliceFits_S50176_S1) : (⟨S50176, .f32⟩ : BufTy).Contents (Elt F) → (Fin 1 → (⟨S_, .i32⟩ : BufTy).Contents (Elt F)) → (⟨S1, .f32⟩ : BufTy).Contents (Elt F)) ]

/-- The body's operations 34 … 42 of 116. -/
abbrev trip_w3 : List (HloOp τ sig (Elt F)) :=
  [ StableHlo.reshape main_while0b_v39 main_while0b_v40 (rfl : (.f32 : EltTy) = .f32) shapeCasts_S1_S_,
    StableHlo.binary main_v12_0 main_while0b_v35 main_while0b_v41 ((fun l r => Host.dotGeneral dot_S50176x96_S96_S50176_1_0_0_n_n_n none l r) : (⟨S50176x96, .f32⟩ : BufTy).Contents (Elt F) → (⟨S96, .f32⟩ : BufTy).Contents (Elt F) → (⟨S50176, .f32⟩ : BufTy).Contents (Elt F)),
    StableHlo.unary main_while0b_v40 main_while0b_v42 (broadcastInDim S50176 ![] bcast_S_S50176 : (⟨S_, .f32⟩ : BufTy).Contents (Elt F) → (⟨S50176, .f32⟩ : BufTy).Contents (Elt F)),
    StableHlo.binary main_v12_1 main_while0b_v42 main_while0b_v43 (addf : (⟨S50176, .f32⟩ : BufTy).Contents (Elt F) → (⟨S50176, .f32⟩ : BufTy).Contents (Elt F) → (⟨S50176, .f32⟩ : BufTy).Contents (Elt F)),
    StableHlo.nullary main_while0b_cst_26 (constant S_ .f32 0x40000000#32),
    StableHlo.unary main_while0b_cst_26 main_while0b_v44 (broadcastInDim S50176 ![] bcast_S_S50176 : (⟨S_, .f32⟩ : BufTy).Contents (Elt F) → (⟨S50176, .f32⟩ : BufTy).Contents (Elt F)),
    StableHlo.binary main_while0b_v44 main_while0b_v41 main_while0b_v45 (mulf : (⟨S50176, .f32⟩ : BufTy).Contents (Elt F) → (⟨S50176, .f32⟩ : BufTy).Contents (Elt F) → (⟨S50176, .f32⟩ : BufTy).Contents (Elt F)),
    StableHlo.binary main_while0b_v43 main_while0b_v45 main_while0b_v46 (subf : (⟨S50176, .f32⟩ : BufTy).Contents (Elt F) → (⟨S50176, .f32⟩ : BufTy).Contents (Elt F) → (⟨S50176, .f32⟩ : BufTy).Contents (Elt F)),
    StableHlo.binary main_v12_7 main_while0b_v46 main_while0b_v47 (minimumf : (⟨S50176, .f32⟩ : BufTy).Contents (Elt F) → (⟨S50176, .f32⟩ : BufTy).Contents (Elt F) → (⟨S50176, .f32⟩ : BufTy).Contents (Elt F)) ]

/-- The body's operations 43 … 47 of 116. -/
abbrev trip_w4 : List (HloOp τ sig (Elt F)) :=
  [ StableHlo.TRef.nullary (.of main_while0b_call0_v0 : StableHlo.TRef sig ⟨S50176, .i32⟩) (iotaInDim S50176 32 0),
    StableHlo.TRef.nullary (.of main_while0b_call0_cst : StableHlo.TRef sig ⟨S_, .f32⟩) (constant S_ .f32 0xFF800000#32),
    StableHlo.TRef.nullary (.of main_while0b_call0_c : StableHlo.TRef sig ⟨S_, .i32⟩) (constantI S_ 32 0#32),
    StableHlo.TRef.quaternary (.of main_while0b_v47 : StableHlo.TRef sig ⟨S50176, .f32⟩) (.of main_while0b_call0_v0 : StableHlo.TRef sig ⟨S50176, .i32⟩) (.of main_while0b_call0_cst : StableHlo.TRef sig ⟨S_, .f32⟩) (.of main_while0b_call0_c : StableHlo.TRef sig ⟨S_, .i32⟩) (.of main_while0b_call0_v1_0 : StableHlo.TRef sig ⟨S_, .f32⟩) (fun x y u v j => (Host.argReduce reducer_argmax_f32_i32 x y u v reducesTo_S50176_S_d0 h_S_ j).1),
    StableHlo.TRef.quaternary (.of main_while0b_v47 : StableHlo.TRef sig ⟨S50176, .f32⟩) (.of main_while0b_call0_v0 : StableHlo.TRef sig ⟨S50176, .i32⟩) (.of main_while0b_call0_cst : StableHlo.TRef sig ⟨S_, .f32⟩) (.of main_while0b_call0_c : StableHlo.TRef sig ⟨S_, .i32⟩) (.of main_while0b_v48 : StableHlo.TRef sig ⟨S_, .i32⟩) (fun x y u v j => (Host.argReduce reducer_argmax_f32_i32 x y u v reducesTo_S50176_S_d0 h_S_ j).2) ]

/-- The body's operations 48 … 64 of 116. -/
abbrev trip_w5 : List (HloOp τ sig (Elt F)) :=
  [ StableHlo.nullary main_while0b_c_27 (constantI S_ 32 0#32),
    StableHlo.binary main_v12_5 main_while0b_c_27 main_while0b_v49 (cmpi .slt : (⟨S_, .i32⟩ : BufTy).Contents (Elt F) → (⟨S_, .i32⟩ : BufTy).Contents (Elt F) → (⟨S_, .i1⟩ : BufTy).Contents (Elt F)),
    StableHlo.nullary main_while0b_c_28 (constantI S_ 32 1024#32),
    StableHlo.binary main_v12_5 main_while0b_c_28 main_while0b_v50 (addi : (⟨S_, .i32⟩ : BufTy).Contents (Elt F) → (⟨S_, .i32⟩ : BufTy).Contents (Elt F) → (⟨S_, .i32⟩ : BufTy).Contents (Elt F)),
    StableHlo.ternary main_while0b_v49 main_while0b_v50 main_v12_5 main_while0b_v51 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v51 main_while0b_v52 (id : (⟨S_, .i32⟩ : BufTy).Contents (Elt F) → (⟨S_, .i32⟩ : BufTy).Contents (Elt F)),
    StableHlo.unary main_while0b_v52 main_while0b_v53 (broadcastInDim S1 ![] bcast_S_S1 : (⟨S_, .i32⟩ : BufTy).Contents (Elt F) → (⟨S1, .i32⟩ : BufTy).Contents (Elt F)),
    StableHlo.ternary main_v12_6 main_while0b_v53 main_while0b_v48 main_while0b_v54 ((fun x i u => Host.scatter scatter_S1024_S1_S__n_0_0_0 (fun _ b => b) x i u) : (⟨S1024, .i32⟩ : BufTy).Contents (Elt F) → (⟨S1, .i32⟩ : BufTy).Contents (Elt F) → (⟨S_, .i32⟩ : BufTy).Contents (Elt F) → (⟨S1024, .i32⟩ : BufTy).Contents (Elt F)),
    StableHlo.nullary main_while0b_c_29 (constantI S_ 32 1#32),
    StableHlo.binary main_v12_5 main_while0b_c_29 main_while0b_v55 (subi : (⟨S_, .i32⟩ : BufTy).Contents (Elt F) → (⟨S_, .i32⟩ : BufTy).Contents (Elt F) → (⟨S_, .i32⟩ : BufTy).Contents (Elt F)),
    StableHlo.nullary main_while0b_c_30 (constantI S_ 32 0#32),
    StableHlo.binary main_while0b_v55 main_while0b_c_30 main_while0b_v56 (cmpi .slt : (⟨S_, .i32⟩ : BufTy).Contents (Elt F) → (⟨S_, .i32⟩ : BufTy).Contents (Elt F) → (⟨S_, .i1⟩ : BufTy).Contents (Elt F)),
    StableHlo.unary main_while0b_v55 main_while0b_v57 (id : (⟨S_, .i32⟩ : BufTy).Contents (Elt F) → (⟨S_, .i32⟩ : BufTy).Contents (Elt F)),
    StableHlo.nullary main_while0b_c_31 (constantI S_ 32 1024#32),
    StableHlo.binary main_while0b_v57 main_while0b_c_31 main_while0b_v58 (addi : (⟨S_, .i32⟩ : BufTy).Contents (Elt F) → (⟨S_, .i32⟩ : BufTy).Contents (Elt F) → (⟨S_, .i32⟩ : BufTy).Contents (Elt F)),
    StableHlo.ternary main_while0b_v56 main_while0b_v58 main_while0b_v55 main_while0b_v59 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v12_8 ![main_while0b_v59] ⟨S_, .i32⟩ main_while0b_v60 ((fun x i => Host.dynamicSlice S1 x (fun k => (i k (Shape.Idx.first h_S_)).toInt) sliceFits_S1024_S1) : (⟨S1024, .i32⟩ : BufTy).Contents (Elt F) → (Fin 1 → (⟨S_, .i32⟩ : BufTy).Contents (Elt F)) → (⟨S1, .i32⟩ : BufTy).Contents (Elt F)) ]

/-- The body's operations 65 … 79 of 116. -/
abbrev trip_w6 : List (HloOp τ sig (Elt F)) :=
  [ StableHlo.reshape main_while0b_v60 main_while0b_v61 (rfl : (.i32 : EltTy) = .i32) shapeCasts_S1_S_,
    StableHlo.nullary main_while0b_c_32 (constantI S_ 32 0#32),
    StableHlo.binary main_while0b_v61 main_while0b_c_32 main_while0b_v62 (cmpi .slt : (⟨S_, .i32⟩ : BufTy).Contents (Elt F) → (⟨S_, .i32⟩ : BufTy).Contents (Elt F) → (⟨S_, .i1⟩ : BufTy).Contents (Elt F)),
    StableHlo.nullary main_while0b_c_33 (constantI S_ 32 50176#32),
    StableHlo.binary main_while0b_v61 main_while0b_c_33 main_while0b_v63 (addi : (⟨S_, .i32⟩ : BufTy).Contents (Elt F) → (⟨S_, .i32⟩ : BufTy).Contents (Elt F) → (⟨S_, .i32⟩ : BufTy).Contents (Elt F)),
    StableHlo.ternary main_while0b_v62 main_while0b_v63 main_while0b_v61 main_while0b_v64 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_34 (constantI S_ 32 0#32),
    StableHlo.nullary main_while0b_c_35 (constantI S_ 32 0#32),
    StableHlo.binary main_while0b_c_34 main_while0b_c_35 main_while0b_v65 (cmpi .slt : (⟨S_, .i32⟩ : BufTy).Contents (Elt F) → (⟨S_, .i32⟩ : BufTy).Contents (Elt F) → (⟨S_, .i1⟩ : BufTy).Contents (Elt F)),
    StableHlo.nullary main_while0b_c_36 (constantI S_ 32 0#32),
    StableHlo.nullary main_while0b_c_37 (constantI S_ 32 96#32),
    StableHlo.binary main_while0b_c_36 main_while0b_c_37 main_while0b_v66 (addi : (⟨S_, .i32⟩ : BufTy).Contents (Elt F) → (⟨S_, .i32⟩ : BufTy).Contents (Elt F) → (⟨S_, .i32⟩ : BufTy).Contents (Elt F)),
    StableHlo.nullary main_while0b_c_38 (constantI S_ 32 0#32),
    StableHlo.ternary main_while0b_v65 main_while0b_v66 main_while0b_c_38 main_while0b_v67 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v12_2 ![main_while0b_v64, main_while0b_v67] ⟨S_, .i32⟩ main_while0b_v68 ((fun x i => Host.dynamicSlice S1x96 x (fun k => (i k (Shape.Idx.first h_S_)).toInt) sliceFits_S50176x96_S1x96) : (⟨S50176x96, .f32⟩ : BufTy).Contents (Elt F) → (Fin 2 → (⟨S_, .i32⟩ : BufTy).Contents (Elt F)) → (⟨S1x96, .f32⟩ : BufTy).Contents (Elt F)) ]

/-- The body's operations 80 … 86 of 116. -/
abbrev trip_w7 : List (HloOp τ sig (Elt F)) :=
  [ StableHlo.reshape main_while0b_v68 main_while0b_v69 (rfl : (.f32 : EltTy) = .f32) shapeCasts_S1x96_S96,
    StableHlo.nullary main_while0b_c_39 (constantI S_ 32 0#32),
    StableHlo.binary main_while0b_v61 main_while0b_c_39 main_while0b_v70 (cmpi .slt : (⟨S_, .i32⟩ : BufTy).Contents (Elt F) → (⟨S_, .i32⟩ : BufTy).Contents (Elt F) → (⟨S_, .i1⟩ : BufTy).Contents (Elt F)),
    StableHlo.nullary main_while0b_c_40 (constantI S_ 32 50176#32),
    StableHlo.binary main_while0b_v61 main_while0b_c_40 main_while0b_v71 (addi : (⟨S_, .i32⟩ : BufTy).Contents (Elt F) → (⟨S_, .i32⟩ : BufTy).Contents (Elt F) → (⟨S_, .i32⟩ : BufTy).Contents (Elt F)),
    StableHlo.ternary main_while0b_v70 main_while0b_v71 main_while0b_v61 main_while0b_v72 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v12_3 ![main_while0b_v72] ⟨S_, .i32⟩ main_while0b_v73 ((fun x i => Host.dynamicSlice S1 x (fun k => (i k (Shape.Idx.first h_S_)).toInt) sliceFits_S50176_S1) : (⟨S50176, .f32⟩ : BufTy).Contents (Elt F) → (Fin 1 → (⟨S_, .i32⟩ : BufTy).Contents (Elt F)) → (⟨S1, .f32⟩ : BufTy).Contents (Elt F)) ]

/-- The body's operations 87 … 95 of 116. -/
abbrev trip_w8 : List (HloOp τ sig (Elt F)) :=
  [ StableHlo.reshape main_while0b_v73 main_while0b_v74 (rfl : (.f32 : EltTy) = .f32) shapeCasts_S1_S_,
    StableHlo.binary main_v12_2 main_while0b_v69 main_while0b_v75 ((fun l r => Host.dotGeneral dot_S50176x96_S96_S50176_1_0_0_n_n_n none l r) : (⟨S50176x96, .f32⟩ : BufTy).Contents (Elt F) → (⟨S96, .f32⟩ : BufTy).Contents (Elt F) → (⟨S50176, .f32⟩ : BufTy).Contents (Elt F)),
    StableHlo.unary main_while0b_v74 main_while0b_v76 (broadcastInDim S50176 ![] bcast_S_S50176 : (⟨S_, .f32⟩ : BufTy).Contents (Elt F) → (⟨S50176, .f32⟩ : BufTy).Contents (Elt F)),
    StableHlo.binary main_v12_3 main_while0b_v76 main_while0b_v77 (addf : (⟨S50176, .f32⟩ : BufTy).Contents (Elt F) → (⟨S50176, .f32⟩ : BufTy).Contents (Elt F) → (⟨S50176, .f32⟩ : BufTy).Contents (Elt F)),
    StableHlo.nullary main_while0b_cst_41 (constant S_ .f32 0x40000000#32),
    StableHlo.unary main_while0b_cst_41 main_while0b_v78 (broadcastInDim S50176 ![] bcast_S_S50176 : (⟨S_, .f32⟩ : BufTy).Contents (Elt F) → (⟨S50176, .f32⟩ : BufTy).Contents (Elt F)),
    StableHlo.binary main_while0b_v78 main_while0b_v75 main_while0b_v79 (mulf : (⟨S50176, .f32⟩ : BufTy).Contents (Elt F) → (⟨S50176, .f32⟩ : BufTy).Contents (Elt F) → (⟨S50176, .f32⟩ : BufTy).Contents (Elt F)),
    StableHlo.binary main_while0b_v77 main_while0b_v79 main_while0b_v80 (subf : (⟨S50176, .f32⟩ : BufTy).Contents (Elt F) → (⟨S50176, .f32⟩ : BufTy).Contents (Elt F) → (⟨S50176, .f32⟩ : BufTy).Contents (Elt F)),
    StableHlo.binary main_v12_9 main_while0b_v80 main_while0b_v81 (minimumf : (⟨S50176, .f32⟩ : BufTy).Contents (Elt F) → (⟨S50176, .f32⟩ : BufTy).Contents (Elt F) → (⟨S50176, .f32⟩ : BufTy).Contents (Elt F)) ]

/-- The body's operations 96 … 100 of 116. -/
abbrev trip_w9 : List (HloOp τ sig (Elt F)) :=
  [ StableHlo.TRef.nullary (.of main_while0b_call1_v0 : StableHlo.TRef sig ⟨S50176, .i32⟩) (iotaInDim S50176 32 0),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v81 : StableHlo.TRef sig ⟨S50176, .f32⟩) (.of main_while0b_call1_v0 : StableHlo.TRef sig ⟨S50176, .i32⟩) (.of main_while0b_call1_cst : StableHlo.TRef sig ⟨S_, .f32⟩) (.of main_while0b_call1_c : StableHlo.TRef sig ⟨S_, .i32⟩) (.of main_while0b_call1_v1_0 : StableHlo.TRef sig ⟨S_, .f32⟩) (fun x y u v j => (Host.argReduce reducer_argmax_f32_i32 x y u v reducesTo_S50176_S_d0 h_S_ j).1),
    StableHlo.TRef.quaternary (.of main_while0b_v81 : StableHlo.TRef sig ⟨S50176, .f32⟩) (.of main_while0b_call1_v0 : StableHlo.TRef sig ⟨S50176, .i32⟩) (.of main_while0b_call1_cst : StableHlo.TRef sig ⟨S_, .f32⟩) (.of main_while0b_call1_c : StableHlo.TRef sig ⟨S_, .i32⟩) (.of main_while0b_v82 : StableHlo.TRef sig ⟨S_, .i32⟩) (fun x y u v j => (Host.argReduce reducer_argmax_f32_i32 x y u v reducesTo_S50176_S_d0 h_S_ j).2) ]

/-- The body's operations 101 … 108 of 116. -/
abbrev trip_w10 : List (HloOp τ sig (Elt F)) :=
  [ StableHlo.nullary main_while0b_c_42 (constantI S_ 32 0#32),
    StableHlo.binary main_v12_5 main_while0b_c_42 main_while0b_v83 (cmpi .slt : (⟨S_, .i32⟩ : BufTy).Contents (Elt F) → (⟨S_, .i32⟩ : BufTy).Contents (Elt F) → (⟨S_, .i1⟩ : BufTy).Contents (Elt F)),
    StableHlo.nullary main_while0b_c_43 (constantI S_ 32 1024#32),
    StableHlo.binary main_v12_5 main_while0b_c_43 main_while0b_v84 (addi : (⟨S_, .i32⟩ : BufTy).Contents (Elt F) → (⟨S_, .i32⟩ : BufTy).Contents (Elt F) → (⟨S_, .i32⟩ : BufTy).Contents (Elt F)),
    StableHlo.ternary main_while0b_v83 main_while0b_v84 main_v12_5 main_while0b_v85 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v85 main_while0b_v86 (id : (⟨S_, .i32⟩ : BufTy).Contents (Elt F) → (⟨S_, .i32⟩ : BufTy).Contents (Elt F)),
    StableHlo.unary main_while0b_v86 main_while0b_v87 (broadcastInDim S1 ![] bcast_S_S1 : (⟨S_, .i32⟩ : BufTy).Contents (Elt F) → (⟨S1, .i32⟩ : BufTy).Contents (Elt F)),
    StableHlo.ternary main_v12_8 main_while0b_v87 main_while0b_v82 main_while0b_v88 ((fun x i u => Host.scatter scatter_S1024_S1_S__n_0_0_0 (fun _ b => b) x i u) : (⟨S1024, .i32⟩ : BufTy).Contents (Elt F) → (⟨S1, .i32⟩ : BufTy).Contents (Elt F) → (⟨S_, .i32⟩ : BufTy).Contents (Elt F) → (⟨S1024, .i32⟩ : BufTy).Contents (Elt F)) ]

/-- The body's operations 109 … 116 of 116: the counter's step and the copies back into the carried buffers. -/
abbrev while0Ops0_4_step : List (HloOp τ sig (Elt F)) :=
  [ StableHlo.nullary main_while0b_c_44 (constantI S_ 32 1#32),
    StableHlo.binary main_v12_4 main_while0b_c_44 main_while0b_v89 (addi : (⟨S_, .i32⟩ : BufTy).Contents (Elt F) → (⟨S_, .i32⟩ : BufTy).Contents (Elt F) → (⟨S_, .i32⟩ : BufTy).Contents (Elt F)),
    StableHlo.unary main_while0b_v89 main_v12_4 id,
    StableHlo.unary main_while0b_v20 main_v12_5 id,
    StableHlo.unary main_while0b_v54 main_v12_6 id,
    StableHlo.unary main_while0b_v47 main_v12_7 id,
    StableHlo.unary main_while0b_v88 main_v12_8 id,
    StableHlo.unary main_while0b_v81 main_v12_9 id ]

set_option maxRecDepth 5000 in
/-- `while0Ops0` is its windows in order. -/
theorem while0Ops0_cut : (while0Ops0 : List (HloOp τ sig (Elt F))) = trip_w0 ++ (trip_w1 ++ (trip_w2 ++ (trip_w3))) := rfl
set_option maxRecDepth 5000 in
/-- `while0Ops0_1` is its windows in order. -/
theorem while0Ops0_1_cut : (while0Ops0_1 : List (HloOp τ sig (Elt F))) = trip_w4 := rfl
set_option maxRecDepth 5000 in
/-- `while0Ops0_2` is its windows in order. -/
theorem while0Ops0_2_cut : (while0Ops0_2 : List (HloOp τ sig (Elt F))) = trip_w5 ++ (trip_w6 ++ (trip_w7 ++ (trip_w8))) := rfl
set_option maxRecDepth 5000 in
/-- `while0Ops0_3` is its windows in order. -/
theorem while0Ops0_3_cut : (while0Ops0_3 : List (HloOp τ sig (Elt F))) = trip_w9 := rfl
set_option maxRecDepth 5000 in
/-- `while0Ops0_4` is its windows in order, then the step. -/
theorem while0Ops0_4_cut : (while0Ops0_4 : List (HloOp τ sig (Elt F))) = trip_w10 ++ (while0Ops0_4_step) := rfl

/-- The buffers that window `trip_w0`'s operations write. -/
abbrev trip_w0_W : List (Ref sig .tc) := [main_while0b_c_13, main_while0b_v20, main_while0b_c_14, main_while0b_v21, main_while0b_c_15, main_while0b_v22, main_while0b_v23, main_while0b_c_16, main_while0b_v24, main_while0b_v25, main_while0b_v26]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w1`'s operations write. -/
abbrev trip_w1_W : List (Ref sig .tc) := [main_while0b_v27, main_while0b_c_17, main_while0b_v28, main_while0b_c_18, main_while0b_v29, main_while0b_v30, main_while0b_c_19, main_while0b_c_20, main_while0b_v31, main_while0b_c_21, main_while0b_c_22, main_while0b_v32, main_while0b_c_23, main_while0b_v33, main_while0b_v34]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w2`'s operations write. -/
abbrev trip_w2_W : List (Ref sig .tc) := [main_while0b_v35, main_while0b_c_24, main_while0b_v36, main_while0b_c_25, main_while0b_v37, main_while0b_v38, main_while0b_v39]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w3`'s operations write. -/
abbrev trip_w3_W : List (Ref sig .tc) := [main_while0b_v40, main_while0b_v41, main_while0b_v42, main_while0b_v43, main_while0b_cst_26, main_while0b_v44, main_while0b_v45, main_while0b_v46, main_while0b_v47]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w4`'s operations write. -/
abbrev trip_w4_W : List (Ref sig .tc) := [main_while0b_call0_v0, main_while0b_call0_cst, main_while0b_call0_c, main_while0b_call0_v1_0, main_while0b_v48]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w5`'s operations write. -/
abbrev trip_w5_W : List (Ref sig .tc) := [main_while0b_c_27, main_while0b_v49, main_while0b_c_28, main_while0b_v50, main_while0b_v51, main_while0b_v52, main_while0b_v53, main_while0b_v54, main_while0b_c_29, main_while0b_v55, main_while0b_c_30, main_while0b_v56, main_while0b_v57, main_while0b_c_31, main_while0b_v58, main_while0b_v59, main_while0b_v60]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w6`'s operations write. -/
abbrev trip_w6_W : List (Ref sig .tc) := [main_while0b_v61, main_while0b_c_32, main_while0b_v62, main_while0b_c_33, main_while0b_v63, main_while0b_v64, main_while0b_c_34, main_while0b_c_35, main_while0b_v65, main_while0b_c_36, main_while0b_c_37, main_while0b_v66, main_while0b_c_38, main_while0b_v67, main_while0b_v68]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w7`'s operations write. -/
abbrev trip_w7_W : List (Ref sig .tc) := [main_while0b_v69, main_while0b_c_39, main_while0b_v70, main_while0b_c_40, main_while0b_v71, main_while0b_v72, main_while0b_v73]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w8`'s operations write. -/
abbrev trip_w8_W : List (Ref sig .tc) := [main_while0b_v74, main_while0b_v75, main_while0b_v76, main_while0b_v77, main_while0b_cst_41, main_while0b_v78, main_while0b_v79, main_while0b_v80, main_while0b_v81]
set_option maxRecDepth 8192 in
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w9`'s operations write. -/
abbrev trip_w9_W : List (Ref sig .tc) := [main_while0b_call1_v0, main_while0b_call1_cst, main_while0b_call1_c, main_while0b_call1_v1_0, main_while0b_v82]
set_option maxRecDepth 8192 in
theorem trip_w9_writes : (trip_w9 : List (HloOp τ sig (Elt F))).Forall fun op => op.writes ⊆ (trip_w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w10`'s operations write. -/
abbrev trip_w10_W : List (Ref sig .tc) := [main_while0b_c_42, main_while0b_v83, main_while0b_c_43, main_while0b_v84, main_while0b_v85, main_while0b_v86, main_while0b_v87, main_while0b_v88]
set_option maxRecDepth 8192 in
theorem trip_w10_writes : (trip_w10 : List (HloOp τ sig (Elt F))).Forall fun op => op.writes ⊆ (trip_w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ctr_trip_w10 (V : Valuation τ sig (Elt F)) : after trip_w10 V (Proc.devRef .tc main_v12_4) = V (Proc.devRef .tc main_v12_4) :=
  after_of_writes_sub trip_w10 V trip_w10_writes (by decide +kernel)

set_option maxRecDepth 100000 in
/-- `while0Ops0_4_step` leaves the counter one step on. -/
theorem ctr_while0Ops0_4_step (Y : Valuation τ sig (Elt F)) :
    after while0Ops0_4_step Y (Proc.devRef .tc main_v12_4) = addi (Y (Proc.devRef .tc main_v12_4)) (constantI S_ 32 1#32) := by
  after_results
  rfl

set_option maxRecDepth 100000 in
/-- `while0Ops0_4` leaves the counter one step on: its windows do not write the counter, and `while0Ops0_4_step` steps it. -/
theorem ctr_step (X : Valuation τ sig (Elt F)) :
    after while0Ops0_4 X (Proc.devRef .tc main_v12_4) = addi (X (Proc.devRef .tc main_v12_4)) (constantI S_ 32 1#32) := by
  simp only [while0Ops0_4_cut, after_append]
  rw [ctr_while0Ops0_4_step, ctr_trip_w10]

/-- The counter is the loop's lower bound at the loop's entry: its last writer before the loop read back. -/
theorem ctr_entry (c : Dev nD) : entryContents preI m c (Proc.devRef .tc main_v12_4) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v12_4) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 1023 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v12_4 HostLoop.idx0)
        (HloOp.result _ (atK m k c) main_while0c_c_13 HostLoop.idx0) = 1#1) (k < 1023)
    rw [nullary_result_ne _ _ _ _ (by decide), nullary_result, hctr]
    exact Scf.cmpi_slt_iv_ub_iff (lb := 0#32) (ub := 1023#32) (st := 1#32) (by decide) (show k ≤ Scf.trips 0#32 1023#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 1023 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 1023 m ρ (cond_spec m)

end Cert.ReferenceIdeal.Value

end
-- ==== Proof.RefTrip.lean ====
/- One trip of the reference's loop: the values it leaves in the carried buffers, of the values before it. -/
module

public import proofs.«01_k».proof.Proof.RefRun
public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1188

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ)

/-! ## One trip's values -/

set_option maxRecDepth 8192 in
/-- `main_while0b_v21`'s composed term of the carried buffers (named: it is used 3 times). -/
def res_main_while0b_v21 (V0 : Valuation τ sig (Elt F)) : (Proc.devRef .tc main_while0b_v21 : DevRef τ sig).ty.Contents (Elt F) :=
  subi (V0 (Proc.devRef .tc main_v12_5)) (constantI S_ 32 1#32)

set_option maxRecDepth 8192 in
/-- `main_while0b_v27`'s composed term of the carried buffers (named: it is used 6 times). -/
def res_main_while0b_v27 (V0 : Valuation τ sig (Elt F)) : (Proc.devRef .tc main_while0b_v27 : DevRef τ sig).ty.Contents (Elt F) :=
  shapeCast S_ (Host.dynamicSlice S1 (V0 (Proc.devRef .tc main_v12_6)) (fun k => (((![select (cmpi .slt (res_main_while0b_v21 V0) (constantI S_ 32 0#32)) (addi (id (res_main_while0b_v21 V0)) (constantI S_ 32 1024#32)) (res_main_while0b_v21 V0)] : Fin 1 → (⟨S_, .i32⟩ : BufTy).Contents (Elt F))) k (Shape.Idx.first h_S_)).toInt) sliceFits_S1024_S1) shapeCasts_S1_S_

set_option maxRecDepth 8192 in
/-- `main_while0b_v47`'s composed term of the carried buffers (named: it is used 3 times). -/
def res_main_while0b_v47 (V0 : Valuation τ sig (Elt F)) : (Proc.devRef .tc main_while0b_v47 : DevRef τ sig).ty.Contents (Elt F) :=
  minimumf (V0 (Proc.devRef .tc main_v12_7)) (subf (addf (V0 (Proc.devRef .tc main_v12_1)) (broadcastInDim S50176 ![] bcast_S_S50176 (shapeCast S_ (Host.dynamicSlice S1 (V0 (Proc.devRef .tc main_v12_1)) (fun k => (((![select (cmpi .slt (res_main_while0b_v27 V0) (constantI S_ 32 0#32)) (addi (res_main_while0b_v27 V0) (constantI S_ 32 50176#32)) (res_main_while0b_v27 V0)] : Fin 1 → (⟨S_, .i32⟩ : BufTy).Contents (Elt F))) k (Shape.Idx.first h_S_)).toInt) sliceFits_S50176_S1) shapeCasts_S1_S_))) (mulf (broadcastInDim S50176 ![] bcast_S_S50176 (constant S_ .f32 0x40000000#32)) (Host.dotGeneral dot_S50176x96_S96_S50176_1_0_0_n_n_n none (V0 (Proc.devRef .tc main_v12_0)) (shapeCast S96 (Host.dynamicSlice S1x96 (V0 (Proc.devRef .tc main_v12_0)) (fun k => (((![select (cmpi .slt (res_main_while0b_v27 V0) (constantI S_ 32 0#32)) (addi (res_main_while0b_v27 V0) (constantI S_ 32 50176#32)) (res_main_while0b_v27 V0), select (cmpi .slt (constantI S_ 32 0#32) (constantI S_ 32 0#32)) (addi (constantI S_ 32 0#32) (constantI S_ 32 96#32)) (constantI S_ 32 0#32)] : Fin 2 → (⟨S_, .i32⟩ : BufTy).Contents (Elt F))) k (Shape.Idx.first h_S_)).toInt) sliceFits_S50176x96_S1x96) shapeCasts_S1x96_S96))))

set_option maxRecDepth 8192 in
/-- `main_while0b_call0_v0`'s composed term of the carried buffers (named: it is used 2 times). -/
def res_main_while0b_call0_v0 (V0 : Valuation τ sig (Elt F)) : (Proc.devRef .tc main_while0b_call0_v0 : DevRef τ sig).ty.Contents (Elt F) :=
  iotaInDim S50176 32 0

set_option maxRecDepth 8192 in
/-- `main_while0b_call0_cst`'s composed term of the carried buffers (named: it is used 2 times). -/
def res_main_while0b_call0_cst (V0 : Valuation τ sig (Elt F)) : (Proc.devRef .tc main_while0b_call0_cst : DevRef τ sig).ty.Contents (Elt F) :=
  constant S_ .f32 0xFF800000#32

set_option maxRecDepth 8192 in
/-- `main_while0b_call0_c`'s composed term of the carried buffers (named: it is used 2 times). -/
def res_main_while0b_call0_c (V0 : Valuation τ sig (Elt F)) : (Proc.devRef .tc main_while0b_call0_c : DevRef τ sig).ty.Contents (Elt F) :=
  constantI S_ 32 0#32

set_option maxRecDepth 8192 in
/-- `main_while0b_v55`'s composed term of the carried buffers (named: it is used 3 times). -/
def res_main_while0b_v55 (V0 : Valuation τ sig (Elt F)) : (Proc.devRef .tc main_while0b_v55 : DevRef τ sig).ty.Contents (Elt F) :=
  subi (V0 (Proc.devRef .tc main_v12_5)) (constantI S_ 32 1#32)

set_option maxRecDepth 8192 in
/-- `main_while0b_v61`'s composed term of the carried buffers (named: it is used 6 times). -/
def res_main_while0b_v61 (V0 : Valuation τ sig (Elt F)) : (Proc.devRef .tc main_while0b_v61 : DevRef τ sig).ty.Contents (Elt F) :=
  shapeCast S_ (Host.dynamicSlice S1 (V0 (Proc.devRef .tc main_v12_8)) (fun k => (((![select (cmpi .slt (res_main_while0b_v55 V0) (constantI S_ 32 0#32)) (addi (id (res_main_while0b_v55 V0)) (constantI S_ 32 1024#32)) (res_main_while0b_v55 V0)] : Fin 1 → (⟨S_, .i32⟩ : BufTy).Contents (Elt F))) k (Shape.Idx.first h_S_)).toInt) sliceFits_S1024_S1) shapeCasts_S1_S_

set_option maxRecDepth 8192 in
/-- `main_while0b_v81`'s composed term of the carried buffers (named: it is used 3 times). -/
def res_main_while0b_v81 (V0 : Valuation τ sig (Elt F)) : (Proc.devRef .tc main_while0b_v81 : DevRef τ sig).ty.Contents (Elt F) :=
  minimumf (V0 (Proc.devRef .tc main_v12_9)) (subf (addf (V0 (Proc.devRef .tc main_v12_3)) (broadcastInDim S50176 ![] bcast_S_S50176 (shapeCast S_ (Host.dynamicSlice S1 (V0 (Proc.devRef .tc main_v12_3)) (fun k => (((![select (cmpi .slt (res_main_while0b_v61 V0) (constantI S_ 32 0#32)) (addi (res_main_while0b_v61 V0) (constantI S_ 32 50176#32)) (res_main_while0b_v61 V0)] : Fin 1 → (⟨S_, .i32⟩ : BufTy).Contents (Elt F))) k (Shape.Idx.first h_S_)).toInt) sliceFits_S50176_S1) shapeCasts_S1_S_))) (mulf (broadcastInDim S50176 ![] bcast_S_S50176 (constant S_ .f32 0x40000000#32)) (Host.dotGeneral dot_S50176x96_S96_S50176_1_0_0_n_n_n none (V0 (Proc.devRef .tc main_v12_2)) (shapeCast S96 (Host.dynamicSlice S1x96 (V0 (Proc.devRef .tc main_v12_2)) (fun k => (((![select (cmpi .slt (res_main_while0b_v61 V0) (constantI S_ 32 0#32)) (addi (res_main_while0b_v61 V0) (constantI S_ 32 50176#32)) (res_main_while0b_v61 V0), select (cmpi .slt (constantI S_ 32 0#32) (constantI S_ 32 0#32)) (addi (constantI S_ 32 0#32) (constantI S_ 32 96#32)) (constantI S_ 32 0#32)] : Fin 2 → (⟨S_, .i32⟩ : BufTy).Contents (Elt F))) k (Shape.Idx.first h_S_)).toInt) sliceFits_S50176x96_S1x96) shapeCasts_S1x96_S96))))

set_option maxRecDepth 8192 in
/-- `main_while0b_call1_v0`'s composed term of the carried buffers (named: it is used 2 times). -/
def res_main_while0b_call1_v0 (V0 : Valuation τ sig (Elt F)) : (Proc.devRef .tc main_while0b_call1_v0 : DevRef τ sig).ty.Contents (Elt F) :=
  iotaInDim S50176 32 0

set_option maxRecDepth 8192 in
/-- `main_while0b_call1_cst`'s composed term of the carried buffers (named: it is used 2 times). -/
def res_main_while0b_call1_cst (V0 : Valuation τ sig (Elt F)) : (Proc.devRef .tc main_while0b_call1_cst : DevRef τ sig).ty.Contents (Elt F) :=
  constant S_ .f32 0xFF800000#32

set_option maxRecDepth 8192 in
/-- `main_while0b_call1_c`'s composed term of the carried buffers (named: it is used 2 times). -/
def res_main_while0b_call1_c (V0 : Valuation τ sig (Elt F)) : (Proc.devRef .tc main_while0b_call1_c : DevRef τ sig).ty.Contents (Elt F) :=
  constantI S_ 32 0#32

/-- The device's buffer contents before the body's first window. -/
def val0 (V0 : Valuation τ sig (Elt F)) : Valuation τ sig (Elt F) := V0
theorem val0_main_v12_5 (V0 : Valuation τ sig (Elt F)) : val0 V0 (no_index (Proc.devRef .tc main_v12_5)) = V0 (Proc.devRef .tc main_v12_5) := rfl
theorem val0_main_v12_6 (V0 : Valuation τ sig (Elt F)) : val0 V0 (no_index (Proc.devRef .tc main_v12_6)) = V0 (Proc.devRef .tc main_v12_6) := rfl
theorem val0_main_v12_0 (V0 : Valuation τ sig (Elt F)) : val0 V0 (no_index (Proc.devRef .tc main_v12_0)) = V0 (Proc.devRef .tc main_v12_0) := rfl
theorem val0_main_v12_1 (V0 : Valuation τ sig (Elt F)) : val0 V0 (no_index (Proc.devRef .tc main_v12_1)) = V0 (Proc.devRef .tc main_v12_1) := rfl
theorem val0_main_v12_7 (V0 : Valuation τ sig (Elt F)) : val0 V0 (no_index (Proc.devRef .tc main_v12_7)) = V0 (Proc.devRef .tc main_v12_7) := rfl
theorem val0_main_v12_8 (V0 : Valuation τ sig (Elt F)) : val0 V0 (no_index (Proc.devRef .tc main_v12_8)) = V0 (Proc.devRef .tc main_v12_8) := rfl
theorem val0_main_v12_2 (V0 : Valuation τ sig (Elt F)) : val0 V0 (no_index (Proc.devRef .tc main_v12_2)) = V0 (Proc.devRef .tc main_v12_2) := rfl
theorem val0_main_v12_3 (V0 : Valuation τ sig (Elt F)) : val0 V0 (no_index (Proc.devRef .tc main_v12_3)) = V0 (Proc.devRef .tc main_v12_3) := rfl
theorem val0_main_v12_9 (V0 : Valuation τ sig (Elt F)) : val0 V0 (no_index (Proc.devRef .tc main_v12_9)) = V0 (Proc.devRef .tc main_v12_9) := rfl
theorem val0_main_v12_4 (V0 : Valuation τ sig (Elt F)) : val0 V0 (no_index (Proc.devRef .tc main_v12_4)) = V0 (Proc.devRef .tc main_v12_4) := rfl

/-- The device's buffer contents after the body's first 1 window. -/
def val1 (V0 : Valuation τ sig (Elt F)) : Valuation τ sig (Elt F) := after trip_w0 (val0 V0)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v12_5 (V0 : Valuation τ sig (Elt F)) : val1 V0 (no_index (Proc.devRef .tc main_v12_5)) = V0 (Proc.devRef .tc main_v12_5) :=
  (val1_keep V0 main_v12_5 (by decide)).trans (val0_main_v12_5 V0)
theorem val1_main_v12_6 (V0 : Valuation τ sig (Elt F)) : val1 V0 (no_index (Proc.devRef .tc main_v12_6)) = V0 (Proc.devRef .tc main_v12_6) :=
  (val1_keep V0 main_v12_6 (by decide)).trans (val0_main_v12_6 V0)
theorem val1_main_v12_0 (V0 : Valuation τ sig (Elt F)) : val1 V0 (no_index (Proc.devRef .tc main_v12_0)) = V0 (Proc.devRef .tc main_v12_0) :=
  (val1_keep V0 main_v12_0 (by decide)).trans (val0_main_v12_0 V0)
theorem val1_main_v12_1 (V0 : Valuation τ sig (Elt F)) : val1 V0 (no_index (Proc.devRef .tc main_v12_1)) = V0 (Proc.devRef .tc main_v12_1) :=
  (val1_keep V0 main_v12_1 (by decide)).trans (val0_main_v12_1 V0)
theorem val1_main_v12_7 (V0 : Valuation τ sig (Elt F)) : val1 V0 (no_index (Proc.devRef .tc main_v12_7)) = V0 (Proc.devRef .tc main_v12_7) :=
  (val1_keep V0 main_v12_7 (by decide)).trans (val0_main_v12_7 V0)
theorem val1_main_v12_8 (V0 : Valuation τ sig (Elt F)) : val1 V0 (no_index (Proc.devRef .tc main_v12_8)) = V0 (Proc.devRef .tc main_v12_8) :=
  (val1_keep V0 main_v12_8 (by decide)).trans (val0_main_v12_8 V0)
theorem val1_main_v12_2 (V0 : Valuation τ sig (Elt F)) : val1 V0 (no_index (Proc.devRef .tc main_v12_2)) = V0 (Proc.devRef .tc main_v12_2) :=
  (val1_keep V0 main_v12_2 (by decide)).trans (val0_main_v12_2 V0)
theorem val1_main_v12_3 (V0 : Valuation τ sig (Elt F)) : val1 V0 (no_index (Proc.devRef .tc main_v12_3)) = V0 (Proc.devRef .tc main_v12_3) :=
  (val1_keep V0 main_v12_3 (by decide)).trans (val0_main_v12_3 V0)
theorem val1_main_v12_9 (V0 : Valuation τ sig (Elt F)) : val1 V0 (no_index (Proc.devRef .tc main_v12_9)) = V0 (Proc.devRef .tc main_v12_9) :=
  (val1_keep V0 main_v12_9 (by decide)).trans (val0_main_v12_9 V0)
theorem val1_main_v12_4 (V0 : Valuation τ sig (Elt F)) : val1 V0 (no_index (Proc.devRef .tc main_v12_4)) = V0 (Proc.devRef .tc main_v12_4) :=
  (val1_keep V0 main_v12_4 (by decide)).trans (val0_main_v12_4 V0)
set_option maxRecDepth 8192 in
set_option maxHeartbeats 1100000 in
theorem val1_main_while0b_v20 (V0 : Valuation τ sig (Elt F)) : val1 V0 (no_index (Proc.devRef .tc main_while0b_v20)) = addi (V0 (Proc.devRef .tc main_v12_5)) (constantI S_ 32 1#32) := by
  unfold val1
  simp only [trip_w0]
  after_results_entrywise [val0_main_v12_5, cast_eq]
set_option maxRecDepth 8192 in
set_option maxHeartbeats 1100000 in
theorem val1_main_while0b_v26 (V0 : Valuation τ sig (Elt F)) : val1 V0 (no_index (Proc.devRef .tc main_while0b_v26)) = Host.dynamicSlice S1 (V0 (Proc.devRef .tc main_v12_6)) (fun k => (((![select (cmpi .slt (res_main_while0b_v21 V0) (constantI S_ 32 0#32)) (addi (id (res_main_while0b_v21 V0)) (constantI S_ 32 1024#32)) (res_main_while0b_v21 V0)] : Fin 1 → (⟨S_, .i32⟩ : BufTy).Contents (Elt F))) k (Shape.Idx.first h_S_)).toInt) sliceFits_S1024_S1 := by
  unfold val1
  simp only [trip_w0]
  after_results_entrywise [val0_main_v12_5, val0_main_v12_6, res_main_while0b_v21, cast_eq]

/-- The device's buffer contents after the body's first 2 windows. -/
def val2 (V0 : Valuation τ sig (Elt F)) : Valuation τ sig (Elt F) := after trip_w1 (val1 V0)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v12_5 (V0 : Valuation τ sig (Elt F)) : val2 V0 (no_index (Proc.devRef .tc main_v12_5)) = V0 (Proc.devRef .tc main_v12_5) :=
  (val2_keep V0 main_v12_5 (by decide)).trans (val1_main_v12_5 V0)
theorem val2_main_v12_6 (V0 : Valuation τ sig (Elt F)) : val2 V0 (no_index (Proc.devRef .tc main_v12_6)) = V0 (Proc.devRef .tc main_v12_6) :=
  (val2_keep V0 main_v12_6 (by decide)).trans (val1_main_v12_6 V0)
theorem val2_main_v12_0 (V0 : Valuation τ sig (Elt F)) : val2 V0 (no_index (Proc.devRef .tc main_v12_0)) = V0 (Proc.devRef .tc main_v12_0) :=
  (val2_keep V0 main_v12_0 (by decide)).trans (val1_main_v12_0 V0)
theorem val2_main_v12_1 (V0 : Valuation τ sig (Elt F)) : val2 V0 (no_index (Proc.devRef .tc main_v12_1)) = V0 (Proc.devRef .tc main_v12_1) :=
  (val2_keep V0 main_v12_1 (by decide)).trans (val1_main_v12_1 V0)
theorem val2_main_v12_7 (V0 : Valuation τ sig (Elt F)) : val2 V0 (no_index (Proc.devRef .tc main_v12_7)) = V0 (Proc.devRef .tc main_v12_7) :=
  (val2_keep V0 main_v12_7 (by decide)).trans (val1_main_v12_7 V0)
theorem val2_main_v12_8 (V0 : Valuation τ sig (Elt F)) : val2 V0 (no_index (Proc.devRef .tc main_v12_8)) = V0 (Proc.devRef .tc main_v12_8) :=
  (val2_keep V0 main_v12_8 (by decide)).trans (val1_main_v12_8 V0)
theorem val2_main_v12_2 (V0 : Valuation τ sig (Elt F)) : val2 V0 (no_index (Proc.devRef .tc main_v12_2)) = V0 (Proc.devRef .tc main_v12_2) :=
  (val2_keep V0 main_v12_2 (by decide)).trans (val1_main_v12_2 V0)
theorem val2_main_v12_3 (V0 : Valuation τ sig (Elt F)) : val2 V0 (no_index (Proc.devRef .tc main_v12_3)) = V0 (Proc.devRef .tc main_v12_3) :=
  (val2_keep V0 main_v12_3 (by decide)).trans (val1_main_v12_3 V0)
theorem val2_main_v12_9 (V0 : Valuation τ sig (Elt F)) : val2 V0 (no_index (Proc.devRef .tc main_v12_9)) = V0 (Proc.devRef .tc main_v12_9) :=
  (val2_keep V0 main_v12_9 (by decide)).trans (val1_main_v12_9 V0)
theorem val2_main_v12_4 (V0 : Valuation τ sig (Elt F)) : val2 V0 (no_index (Proc.devRef .tc main_v12_4)) = V0 (Proc.devRef .tc main_v12_4) :=
  (val2_keep V0 main_v12_4 (by decide)).trans (val1_main_v12_4 V0)
theorem val2_main_while0b_v20 (V0 : Valuation τ sig (Elt F)) : val2 V0 (no_index (Proc.devRef .tc main_while0b_v20)) = addi (V0 (Proc.devRef .tc main_v12_5)) (constantI S_ 32 1#32) :=
  (val2_keep V0 main_while0b_v20 (by decide)).trans (val1_main_while0b_v20 V0)
set_option maxRecDepth 8192 in
set_option maxHeartbeats 1500000 in
theorem val2_main_while0b_v27 (V0 : Valuation τ sig (Elt F)) : val2 V0 (no_index (Proc.devRef .tc main_while0b_v27)) = res_main_while0b_v27 V0 := by
  unfold val2
  simp only [trip_w1]
  after_results_entrywise [val1_main_while0b_v26, res_main_while0b_v27, cast_eq]
set_option maxRecDepth 8192 in
set_option maxHeartbeats 1500000 in
theorem val2_main_while0b_v34 (V0 : Valuation τ sig (Elt F)) : val2 V0 (no_index (Proc.devRef .tc main_while0b_v34)) = Host.dynamicSlice S1x96 (V0 (Proc.devRef .tc main_v12_0)) (fun k => (((![select (cmpi .slt (res_main_while0b_v27 V0) (constantI S_ 32 0#32)) (addi (res_main_while0b_v27 V0) (constantI S_ 32 50176#32)) (res_main_while0b_v27 V0), select (cmpi .slt (constantI S_ 32 0#32) (constantI S_ 32 0#32)) (addi (constantI S_ 32 0#32) (constantI S_ 32 96#32)) (constantI S_ 32 0#32)] : Fin 2 → (⟨S_, .i32⟩ : BufTy).Contents (Elt F))) k (Shape.Idx.first h_S_)).toInt) sliceFits_S50176x96_S1x96 := by
  unfold val2
  simp only [trip_w1]
  after_results_entrywise [val1_main_while0b_v26, val1_main_v12_0, res_main_while0b_v27, cast_eq]

/-- The device's buffer contents after the body's first 3 windows. -/
def val3 (V0 : Valuation τ sig (Elt F)) : Valuation τ sig (Elt F) := after trip_w2 (val2 V0)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v12_5 (V0 : Valuation τ sig (Elt F)) : val3 V0 (no_index (Proc.devRef .tc main_v12_5)) = V0 (Proc.devRef .tc main_v12_5) :=
  (val3_keep V0 main_v12_5 (by decide)).trans (val2_main_v12_5 V0)
theorem val3_main_v12_6 (V0 : Valuation τ sig (Elt F)) : val3 V0 (no_index (Proc.devRef .tc main_v12_6)) = V0 (Proc.devRef .tc main_v12_6) :=
  (val3_keep V0 main_v12_6 (by decide)).trans (val2_main_v12_6 V0)
theorem val3_main_v12_0 (V0 : Valuation τ sig (Elt F)) : val3 V0 (no_index (Proc.devRef .tc main_v12_0)) = V0 (Proc.devRef .tc main_v12_0) :=
  (val3_keep V0 main_v12_0 (by decide)).trans (val2_main_v12_0 V0)
theorem val3_main_v12_1 (V0 : Valuation τ sig (Elt F)) : val3 V0 (no_index (Proc.devRef .tc main_v12_1)) = V0 (Proc.devRef .tc main_v12_1) :=
  (val3_keep V0 main_v12_1 (by decide)).trans (val2_main_v12_1 V0)
theorem val3_main_v12_7 (V0 : Valuation τ sig (Elt F)) : val3 V0 (no_index (Proc.devRef .tc main_v12_7)) = V0 (Proc.devRef .tc main_v12_7) :=
  (val3_keep V0 main_v12_7 (by decide)).trans (val2_main_v12_7 V0)
theorem val3_main_v12_8 (V0 : Valuation τ sig (Elt F)) : val3 V0 (no_index (Proc.devRef .tc main_v12_8)) = V0 (Proc.devRef .tc main_v12_8) :=
  (val3_keep V0 main_v12_8 (by decide)).trans (val2_main_v12_8 V0)
theorem val3_main_v12_2 (V0 : Valuation τ sig (Elt F)) : val3 V0 (no_index (Proc.devRef .tc main_v12_2)) = V0 (Proc.devRef .tc main_v12_2) :=
  (val3_keep V0 main_v12_2 (by decide)).trans (val2_main_v12_2 V0)
theorem val3_main_v12_3 (V0 : Valuation τ sig (Elt F)) : val3 V0 (no_index (Proc.devRef .tc main_v12_3)) = V0 (Proc.devRef .tc main_v12_3) :=
  (val3_keep V0 main_v12_3 (by decide)).trans (val2_main_v12_3 V0)
theorem val3_main_v12_9 (V0 : Valuation τ sig (Elt F)) : val3 V0 (no_index (Proc.devRef .tc main_v12_9)) = V0 (Proc.devRef .tc main_v12_9) :=
  (val3_keep V0 main_v12_9 (by decide)).trans (val2_main_v12_9 V0)
theorem val3_main_v12_4 (V0 : Valuation τ sig (Elt F)) : val3 V0 (no_index (Proc.devRef .tc main_v12_4)) = V0 (Proc.devRef .tc main_v12_4) :=
  (val3_keep V0 main_v12_4 (by decide)).trans (val2_main_v12_4 V0)
theorem val3_main_while0b_v20 (V0 : Valuation τ sig (Elt F)) : val3 V0 (no_index (Proc.devRef .tc main_while0b_v20)) = addi (V0 (Proc.devRef .tc main_v12_5)) (constantI S_ 32 1#32) :=
  (val3_keep V0 main_while0b_v20 (by decide)).trans (val2_main_while0b_v20 V0)
set_option maxRecDepth 8192 in
theorem val3_main_while0b_v35 (V0 : Valuation τ sig (Elt F)) : val3 V0 (no_index (Proc.devRef .tc main_while0b_v35)) = shapeCast S96 (Host.dynamicSlice S1x96 (V0 (Proc.devRef .tc main_v12_0)) (fun k => (((![select (cmpi .slt (res_main_while0b_v27 V0) (constantI S_ 32 0#32)) (addi (res_main_while0b_v27 V0) (constantI S_ 32 50176#32)) (res_main_while0b_v27 V0), select (cmpi .slt (constantI S_ 32 0#32) (constantI S_ 32 0#32)) (addi (constantI S_ 32 0#32) (constantI S_ 32 96#32)) (constantI S_ 32 0#32)] : Fin 2 → (⟨S_, .i32⟩ : BufTy).Contents (Elt F))) k (Shape.Idx.first h_S_)).toInt) sliceFits_S50176x96_S1x96) shapeCasts_S1x96_S96 := by
  unfold val3
  simp only [trip_w2]
  after_results_entrywise [val2_main_while0b_v34, cast_eq]
set_option maxRecDepth 8192 in
theorem val3_main_while0b_v39 (V0 : Valuation τ sig (Elt F)) : val3 V0 (no_index (Proc.devRef .tc main_while0b_v39)) = Host.dynamicSlice S1 (V0 (Proc.devRef .tc main_v12_1)) (fun k => (((![select (cmpi .slt (res_main_while0b_v27 V0) (constantI S_ 32 0#32)) (addi (res_main_while0b_v27 V0) (constantI S_ 32 50176#32)) (res_main_while0b_v27 V0)] : Fin 1 → (⟨S_, .i32⟩ : BufTy).Contents (Elt F))) k (Shape.Idx.first h_S_)).toInt) sliceFits_S50176_S1 := by
  unfold val3
  simp only [trip_w2]
  after_results_entrywise [val2_main_while0b_v27, val2_main_v12_1, cast_eq]

/-- The device's buffer contents after the body's first 4 windows. -/
def val4 (V0 : Valuation τ sig (Elt F)) : Valuation τ sig (Elt F) := after trip_w3 (val3 V0)
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v12_5 (V0 : Valuation τ sig (Elt F)) : val4 V0 (no_index (Proc.devRef .tc main_v12_5)) = V0 (Proc.devRef .tc main_v12_5) :=
  (val4_keep V0 main_v12_5 (by decide)).trans (val3_main_v12_5 V0)
theorem val4_main_v12_6 (V0 : Valuation τ sig (Elt F)) : val4 V0 (no_index (Proc.devRef .tc main_v12_6)) = V0 (Proc.devRef .tc main_v12_6) :=
  (val4_keep V0 main_v12_6 (by decide)).trans (val3_main_v12_6 V0)
theorem val4_main_v12_0 (V0 : Valuation τ sig (Elt F)) : val4 V0 (no_index (Proc.devRef .tc main_v12_0)) = V0 (Proc.devRef .tc main_v12_0) :=
  (val4_keep V0 main_v12_0 (by decide)).trans (val3_main_v12_0 V0)
theorem val4_main_v12_1 (V0 : Valuation τ sig (Elt F)) : val4 V0 (no_index (Proc.devRef .tc main_v12_1)) = V0 (Proc.devRef .tc main_v12_1) :=
  (val4_keep V0 main_v12_1 (by decide)).trans (val3_main_v12_1 V0)
theorem val4_main_v12_7 (V0 : Valuation τ sig (Elt F)) : val4 V0 (no_index (Proc.devRef .tc main_v12_7)) = V0 (Proc.devRef .tc main_v12_7) :=
  (val4_keep V0 main_v12_7 (by decide)).trans (val3_main_v12_7 V0)
theorem val4_main_v12_8 (V0 : Valuation τ sig (Elt F)) : val4 V0 (no_index (Proc.devRef .tc main_v12_8)) = V0 (Proc.devRef .tc main_v12_8) :=
  (val4_keep V0 main_v12_8 (by decide)).trans (val3_main_v12_8 V0)
theorem val4_main_v12_2 (V0 : Valuation τ sig (Elt F)) : val4 V0 (no_index (Proc.devRef .tc main_v12_2)) = V0 (Proc.devRef .tc main_v12_2) :=
  (val4_keep V0 main_v12_2 (by decide)).trans (val3_main_v12_2 V0)
theorem val4_main_v12_3 (V0 : Valuation τ sig (Elt F)) : val4 V0 (no_index (Proc.devRef .tc main_v12_3)) = V0 (Proc.devRef .tc main_v12_3) :=
  (val4_keep V0 main_v12_3 (by decide)).trans (val3_main_v12_3 V0)
theorem val4_main_v12_9 (V0 : Valuation τ sig (Elt F)) : val4 V0 (no_index (Proc.devRef .tc main_v12_9)) = V0 (Proc.devRef .tc main_v12_9) :=
  (val4_keep V0 main_v12_9 (by decide)).trans (val3_main_v12_9 V0)
theorem val4_main_v12_4 (V0 : Valuation τ sig (Elt F)) : val4 V0 (no_index (Proc.devRef .tc main_v12_4)) = V0 (Proc.devRef .tc main_v12_4) :=
  (val4_keep V0 main_v12_4 (by decide)).trans (val3_main_v12_4 V0)
theorem val4_main_while0b_v20 (V0 : Valuation τ sig (Elt F)) : val4 V0 (no_index (Proc.devRef .tc main_while0b_v20)) = addi (V0 (Proc.devRef .tc main_v12_5)) (constantI S_ 32 1#32) :=
  (val4_keep V0 main_while0b_v20 (by decide)).trans (val3_main_while0b_v20 V0)
set_option maxRecDepth 8192 in
set_option maxHeartbeats 900000 in
theorem val4_main_while0b_v47 (V0 : Valuation τ sig (Elt F)) : val4 V0 (no_index (Proc.devRef .tc main_while0b_v47)) = res_main_while0b_v47 V0 := by
  unfold val4
  simp only [trip_w3]
  after_results_entrywise [val3_main_while0b_v35, val3_main_v12_0, val3_main_while0b_v39, val3_main_v12_1, val3_main_v12_7, res_main_while0b_v47, cast_eq]

/-- The device's buffer contents after the body's first 5 windows. -/
def val5 (V0 : Valuation τ sig (Elt F)) : Valuation τ sig (Elt F) := after trip_w4 (val4 V0)
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v12_5 (V0 : Valuation τ sig (Elt F)) : val5 V0 (no_index (Proc.devRef .tc main_v12_5)) = V0 (Proc.devRef .tc main_v12_5) :=
  (val5_keep V0 main_v12_5 (by decide)).trans (val4_main_v12_5 V0)
theorem val5_main_v12_6 (V0 : Valuation τ sig (Elt F)) : val5 V0 (no_index (Proc.devRef .tc main_v12_6)) = V0 (Proc.devRef .tc main_v12_6) :=
  (val5_keep V0 main_v12_6 (by decide)).trans (val4_main_v12_6 V0)
theorem val5_main_v12_0 (V0 : Valuation τ sig (Elt F)) : val5 V0 (no_index (Proc.devRef .tc main_v12_0)) = V0 (Proc.devRef .tc main_v12_0) :=
  (val5_keep V0 main_v12_0 (by decide)).trans (val4_main_v12_0 V0)
theorem val5_main_v12_1 (V0 : Valuation τ sig (Elt F)) : val5 V0 (no_index (Proc.devRef .tc main_v12_1)) = V0 (Proc.devRef .tc main_v12_1) :=
  (val5_keep V0 main_v12_1 (by decide)).trans (val4_main_v12_1 V0)
theorem val5_main_v12_7 (V0 : Valuation τ sig (Elt F)) : val5 V0 (no_index (Proc.devRef .tc main_v12_7)) = V0 (Proc.devRef .tc main_v12_7) :=
  (val5_keep V0 main_v12_7 (by decide)).trans (val4_main_v12_7 V0)
theorem val5_main_v12_8 (V0 : Valuation τ sig (Elt F)) : val5 V0 (no_index (Proc.devRef .tc main_v12_8)) = V0 (Proc.devRef .tc main_v12_8) :=
  (val5_keep V0 main_v12_8 (by decide)).trans (val4_main_v12_8 V0)
theorem val5_main_v12_2 (V0 : Valuation τ sig (Elt F)) : val5 V0 (no_index (Proc.devRef .tc main_v12_2)) = V0 (Proc.devRef .tc main_v12_2) :=
  (val5_keep V0 main_v12_2 (by decide)).trans (val4_main_v12_2 V0)
theorem val5_main_v12_3 (V0 : Valuation τ sig (Elt F)) : val5 V0 (no_index (Proc.devRef .tc main_v12_3)) = V0 (Proc.devRef .tc main_v12_3) :=
  (val5_keep V0 main_v12_3 (by decide)).trans (val4_main_v12_3 V0)
theorem val5_main_v12_9 (V0 : Valuation τ sig (Elt F)) : val5 V0 (no_index (Proc.devRef .tc main_v12_9)) = V0 (Proc.devRef .tc main_v12_9) :=
  (val5_keep V0 main_v12_9 (by decide)).trans (val4_main_v12_9 V0)
theorem val5_main_v12_4 (V0 : Valuation τ sig (Elt F)) : val5 V0 (no_index (Proc.devRef .tc main_v12_4)) = V0 (Proc.devRef .tc main_v12_4) :=
  (val5_keep V0 main_v12_4 (by decide)).trans (val4_main_v12_4 V0)
theorem val5_main_while0b_v20 (V0 : Valuation τ sig (Elt F)) : val5 V0 (no_index (Proc.devRef .tc main_while0b_v20)) = addi (V0 (Proc.devRef .tc main_v12_5)) (constantI S_ 32 1#32) :=
  (val5_keep V0 main_while0b_v20 (by decide)).trans (val4_main_while0b_v20 V0)
theorem val5_main_while0b_v47 (V0 : Valuation τ sig (Elt F)) : val5 V0 (no_index (Proc.devRef .tc main_while0b_v47)) = res_main_while0b_v47 V0 :=
  (val5_keep V0 main_while0b_v47 (by decide)).trans (val4_main_while0b_v47 V0)
set_option maxRecDepth 8192 in
theorem val5_main_while0b_v48 (V0 : Valuation τ sig (Elt F)) : val5 V0 (no_index (Proc.devRef .tc main_while0b_v48)) = (fun j => (Host.argReduce reducer_argmax_f32_i32 (res_main_while0b_v47 V0) (res_main_while0b_call0_v0 V0) (res_main_while0b_call0_cst V0) (res_main_while0b_call0_c V0) reducesTo_S50176_S_d0 h_S_ j).2) := by
  unfold val5
  simp only [trip_w4]
  after_results_entrywise [val4_main_while0b_v47, res_main_while0b_call0_v0, res_main_while0b_call0_cst, res_main_while0b_call0_c, cast_eq]

/-- The device's buffer contents after the body's first 6 windows. -/
def val6 (V0 : Valuation τ sig (Elt F)) : Valuation τ sig (Elt F) := after trip_w5 (val5 V0)
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v12_5 (V0 : Valuation τ sig (Elt F)) : val6 V0 (no_index (Proc.devRef .tc main_v12_5)) = V0 (Proc.devRef .tc main_v12_5) :=
  (val6_keep V0 main_v12_5 (by decide)).trans (val5_main_v12_5 V0)
theorem val6_main_v12_6 (V0 : Valuation τ sig (Elt F)) : val6 V0 (no_index (Proc.devRef .tc main_v12_6)) = V0 (Proc.devRef .tc main_v12_6) :=
  (val6_keep V0 main_v12_6 (by decide)).trans (val5_main_v12_6 V0)
theorem val6_main_v12_0 (V0 : Valuation τ sig (Elt F)) : val6 V0 (no_index (Proc.devRef .tc main_v12_0)) = V0 (Proc.devRef .tc main_v12_0) :=
  (val6_keep V0 main_v12_0 (by decide)).trans (val5_main_v12_0 V0)
theorem val6_main_v12_1 (V0 : Valuation τ sig (Elt F)) : val6 V0 (no_index (Proc.devRef .tc main_v12_1)) = V0 (Proc.devRef .tc main_v12_1) :=
  (val6_keep V0 main_v12_1 (by decide)).trans (val5_main_v12_1 V0)
theorem val6_main_v12_7 (V0 : Valuation τ sig (Elt F)) : val6 V0 (no_index (Proc.devRef .tc main_v12_7)) = V0 (Proc.devRef .tc main_v12_7) :=
  (val6_keep V0 main_v12_7 (by decide)).trans (val5_main_v12_7 V0)
theorem val6_main_v12_8 (V0 : Valuation τ sig (Elt F)) : val6 V0 (no_index (Proc.devRef .tc main_v12_8)) = V0 (Proc.devRef .tc main_v12_8) :=
  (val6_keep V0 main_v12_8 (by decide)).trans (val5_main_v12_8 V0)
theorem val6_main_v12_2 (V0 : Valuation τ sig (Elt F)) : val6 V0 (no_index (Proc.devRef .tc main_v12_2)) = V0 (Proc.devRef .tc main_v12_2) :=
  (val6_keep V0 main_v12_2 (by decide)).trans (val5_main_v12_2 V0)
theorem val6_main_v12_3 (V0 : Valuation τ sig (Elt F)) : val6 V0 (no_index (Proc.devRef .tc main_v12_3)) = V0 (Proc.devRef .tc main_v12_3) :=
  (val6_keep V0 main_v12_3 (by decide)).trans (val5_main_v12_3 V0)
theorem val6_main_v12_9 (V0 : Valuation τ sig (Elt F)) : val6 V0 (no_index (Proc.devRef .tc main_v12_9)) = V0 (Proc.devRef .tc main_v12_9) :=
  (val6_keep V0 main_v12_9 (by decide)).trans (val5_main_v12_9 V0)
theorem val6_main_v12_4 (V0 : Valuation τ sig (Elt F)) : val6 V0 (no_index (Proc.devRef .tc main_v12_4)) = V0 (Proc.devRef .tc main_v12_4) :=
  (val6_keep V0 main_v12_4 (by decide)).trans (val5_main_v12_4 V0)
theorem val6_main_while0b_v20 (V0 : Valuation τ sig (Elt F)) : val6 V0 (no_index (Proc.devRef .tc main_while0b_v20)) = addi (V0 (Proc.devRef .tc main_v12_5)) (constantI S_ 32 1#32) :=
  (val6_keep V0 main_while0b_v20 (by decide)).trans (val5_main_while0b_v20 V0)
theorem val6_main_while0b_v47 (V0 : Valuation τ sig (Elt F)) : val6 V0 (no_index (Proc.devRef .tc main_while0b_v47)) = res_main_while0b_v47 V0 :=
  (val6_keep V0 main_while0b_v47 (by decide)).trans (val5_main_while0b_v47 V0)
set_option maxRecDepth 8192 in
set_option maxHeartbeats 1700000 in
theorem val6_main_while0b_v54 (V0 : Valuation τ sig (Elt F)) : val6 V0 (no_index (Proc.devRef .tc main_while0b_v54)) = Host.scatter scatter_S1024_S1_S__n_0_0_0 (fun _ b => b) (V0 (Proc.devRef .tc main_v12_6)) (broadcastInDim S1 ![] bcast_S_S1 (id (select (cmpi .slt (V0 (Proc.devRef .tc main_v12_5)) (constantI S_ 32 0#32)) (addi (V0 (Proc.devRef .tc main_v12_5)) (constantI S_ 32 1024#32)) (V0 (Proc.devRef .tc main_v12_5))))) ((fun j => (Host.argReduce reducer_argmax_f32_i32 (res_main_while0b_v47 V0) (res_main_while0b_call0_v0 V0) (res_main_while0b_call0_cst V0) (res_main_while0b_call0_c V0) reducesTo_S50176_S_d0 h_S_ j).2)) := by
  unfold val6
  simp only [trip_w5]
  after_results_entrywise [val5_main_while0b_v48, val5_main_v12_5, val5_main_v12_6, cast_eq]
set_option maxRecDepth 8192 in
set_option maxHeartbeats 1700000 in
theorem val6_main_while0b_v60 (V0 : Valuation τ sig (Elt F)) : val6 V0 (no_index (Proc.devRef .tc main_while0b_v60)) = Host.dynamicSlice S1 (V0 (Proc.devRef .tc main_v12_8)) (fun k => (((![select (cmpi .slt (res_main_while0b_v55 V0) (constantI S_ 32 0#32)) (addi (id (res_main_while0b_v55 V0)) (constantI S_ 32 1024#32)) (res_main_while0b_v55 V0)] : Fin 1 → (⟨S_, .i32⟩ : BufTy).Contents (Elt F))) k (Shape.Idx.first h_S_)).toInt) sliceFits_S1024_S1 := by
  unfold val6
  simp only [trip_w5]
  after_results_entrywise [val5_main_v12_5, val5_main_v12_8, res_main_while0b_v55, cast_eq]

/-- The device's buffer contents after the body's first 7 windows. -/
def val7 (V0 : Valuation τ sig (Elt F)) : Valuation τ sig (Elt F) := after trip_w6 (val6 V0)
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v12_5 (V0 : Valuation τ sig (Elt F)) : val7 V0 (no_index (Proc.devRef .tc main_v12_5)) = V0 (Proc.devRef .tc main_v12_5) :=
  (val7_keep V0 main_v12_5 (by decide)).trans (val6_main_v12_5 V0)
theorem val7_main_v12_6 (V0 : Valuation τ sig (Elt F)) : val7 V0 (no_index (Proc.devRef .tc main_v12_6)) = V0 (Proc.devRef .tc main_v12_6) :=
  (val7_keep V0 main_v12_6 (by decide)).trans (val6_main_v12_6 V0)
theorem val7_main_v12_0 (V0 : Valuation τ sig (Elt F)) : val7 V0 (no_index (Proc.devRef .tc main_v12_0)) = V0 (Proc.devRef .tc main_v12_0) :=
  (val7_keep V0 main_v12_0 (by decide)).trans (val6_main_v12_0 V0)
theorem val7_main_v12_1 (V0 : Valuation τ sig (Elt F)) : val7 V0 (no_index (Proc.devRef .tc main_v12_1)) = V0 (Proc.devRef .tc main_v12_1) :=
  (val7_keep V0 main_v12_1 (by decide)).trans (val6_main_v12_1 V0)
theorem val7_main_v12_7 (V0 : Valuation τ sig (Elt F)) : val7 V0 (no_index (Proc.devRef .tc main_v12_7)) = V0 (Proc.devRef .tc main_v12_7) :=
  (val7_keep V0 main_v12_7 (by decide)).trans (val6_main_v12_7 V0)
theorem val7_main_v12_8 (V0 : Valuation τ sig (Elt F)) : val7 V0 (no_index (Proc.devRef .tc main_v12_8)) = V0 (Proc.devRef .tc main_v12_8) :=
  (val7_keep V0 main_v12_8 (by decide)).trans (val6_main_v12_8 V0)
theorem val7_main_v12_2 (V0 : Valuation τ sig (Elt F)) : val7 V0 (no_index (Proc.devRef .tc main_v12_2)) = V0 (Proc.devRef .tc main_v12_2) :=
  (val7_keep V0 main_v12_2 (by decide)).trans (val6_main_v12_2 V0)
theorem val7_main_v12_3 (V0 : Valuation τ sig (Elt F)) : val7 V0 (no_index (Proc.devRef .tc main_v12_3)) = V0 (Proc.devRef .tc main_v12_3) :=
  (val7_keep V0 main_v12_3 (by decide)).trans (val6_main_v12_3 V0)
theorem val7_main_v12_9 (V0 : Valuation τ sig (Elt F)) : val7 V0 (no_index (Proc.devRef .tc main_v12_9)) = V0 (Proc.devRef .tc main_v12_9) :=
  (val7_keep V0 main_v12_9 (by decide)).trans (val6_main_v12_9 V0)
theorem val7_main_v12_4 (V0 : Valuation τ sig (Elt F)) : val7 V0 (no_index (Proc.devRef .tc main_v12_4)) = V0 (Proc.devRef .tc main_v12_4) :=
  (val7_keep V0 main_v12_4 (by decide)).trans (val6_main_v12_4 V0)
theorem val7_main_while0b_v20 (V0 : Valuation τ sig (Elt F)) : val7 V0 (no_index (Proc.devRef .tc main_while0b_v20)) = addi (V0 (Proc.devRef .tc main_v12_5)) (constantI S_ 32 1#32) :=
  (val7_keep V0 main_while0b_v20 (by decide)).trans (val6_main_while0b_v20 V0)
theorem val7_main_while0b_v47 (V0 : Valuation τ sig (Elt F)) : val7 V0 (no_index (Proc.devRef .tc main_while0b_v47)) = res_main_while0b_v47 V0 :=
  (val7_keep V0 main_while0b_v47 (by decide)).trans (val6_main_while0b_v47 V0)
theorem val7_main_while0b_v54 (V0 : Valuation τ sig (Elt F)) : val7 V0 (no_index (Proc.devRef .tc main_while0b_v54)) = Host.scatter scatter_S1024_S1_S__n_0_0_0 (fun _ b => b) (V0 (Proc.devRef .tc main_v12_6)) (broadcastInDim S1 ![] bcast_S_S1 (id (select (cmpi .slt (V0 (Proc.devRef .tc main_v12_5)) (constantI S_ 32 0#32)) (addi (V0 (Proc.devRef .tc main_v12_5)) (constantI S_ 32 1024#32)) (V0 (Proc.devRef .tc main_v12_5))))) ((fun j => (Host.argReduce reducer_argmax_f32_i32 (res_main_while0b_v47 V0) (res_main_while0b_call0_v0 V0) (res_main_while0b_call0_cst V0) (res_main_while0b_call0_c V0) reducesTo_S50176_S_d0 h_S_ j).2)) :=
  (val7_keep V0 main_while0b_v54 (by decide)).trans (val6_main_while0b_v54 V0)
set_option maxRecDepth 8192 in
set_option maxHeartbeats 1500000 in
theorem val7_main_while0b_v61 (V0 : Valuation τ sig (Elt F)) : val7 V0 (no_index (Proc.devRef .tc main_while0b_v61)) = res_main_while0b_v61 V0 := by
  unfold val7
  simp only [trip_w6]
  after_results_entrywise [val6_main_while0b_v60, res_main_while0b_v61, cast_eq]
set_option maxRecDepth 8192 in
set_option maxHeartbeats 1500000 in
theorem val7_main_while0b_v68 (V0 : Valuation τ sig (Elt F)) : val7 V0 (no_index (Proc.devRef .tc main_while0b_v68)) = Host.dynamicSlice S1x96 (V0 (Proc.devRef .tc main_v12_2)) (fun k => (((![select (cmpi .slt (res_main_while0b_v61 V0) (constantI S_ 32 0#32)) (addi (res_main_while0b_v61 V0) (constantI S_ 32 50176#32)) (res_main_while0b_v61 V0), select (cmpi .slt (constantI S_ 32 0#32) (constantI S_ 32 0#32)) (addi (constantI S_ 32 0#32) (constantI S_ 32 96#32)) (constantI S_ 32 0#32)] : Fin 2 → (⟨S_, .i32⟩ : BufTy).Contents (Elt F))) k (Shape.Idx.first h_S_)).toInt) sliceFits_S50176x96_S1x96 := by
  unfold val7
  simp only [trip_w6]
  after_results_entrywise [val6_main_while0b_v60, val6_main_v12_2, res_main_while0b_v61, cast_eq]

/-- The device's buffer contents after the body's first 8 windows. -/
def val8 (V0 : Valuation τ sig (Elt F)) : Valuation τ sig (Elt F) := after trip_w7 (val7 V0)
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v12_5 (V0 : Valuation τ sig (Elt F)) : val8 V0 (no_index (Proc.devRef .tc main_v12_5)) = V0 (Proc.devRef .tc main_v12_5) :=
  (val8_keep V0 main_v12_5 (by decide)).trans (val7_main_v12_5 V0)
theorem val8_main_v12_6 (V0 : Valuation τ sig (Elt F)) : val8 V0 (no_index (Proc.devRef .tc main_v12_6)) = V0 (Proc.devRef .tc main_v12_6) :=
  (val8_keep V0 main_v12_6 (by decide)).trans (val7_main_v12_6 V0)
theorem val8_main_v12_0 (V0 : Valuation τ sig (Elt F)) : val8 V0 (no_index (Proc.devRef .tc main_v12_0)) = V0 (Proc.devRef .tc main_v12_0) :=
  (val8_keep V0 main_v12_0 (by decide)).trans (val7_main_v12_0 V0)
theorem val8_main_v12_1 (V0 : Valuation τ sig (Elt F)) : val8 V0 (no_index (Proc.devRef .tc main_v12_1)) = V0 (Proc.devRef .tc main_v12_1) :=
  (val8_keep V0 main_v12_1 (by decide)).trans (val7_main_v12_1 V0)
theorem val8_main_v12_7 (V0 : Valuation τ sig (Elt F)) : val8 V0 (no_index (Proc.devRef .tc main_v12_7)) = V0 (Proc.devRef .tc main_v12_7) :=
  (val8_keep V0 main_v12_7 (by decide)).trans (val7_main_v12_7 V0)
theorem val8_main_v12_8 (V0 : Valuation τ sig (Elt F)) : val8 V0 (no_index (Proc.devRef .tc main_v12_8)) = V0 (Proc.devRef .tc main_v12_8) :=
  (val8_keep V0 main_v12_8 (by decide)).trans (val7_main_v12_8 V0)
theorem val8_main_v12_2 (V0 : Valuation τ sig (Elt F)) : val8 V0 (no_index (Proc.devRef .tc main_v12_2)) = V0 (Proc.devRef .tc main_v12_2) :=
  (val8_keep V0 main_v12_2 (by decide)).trans (val7_main_v12_2 V0)
theorem val8_main_v12_3 (V0 : Valuation τ sig (Elt F)) : val8 V0 (no_index (Proc.devRef .tc main_v12_3)) = V0 (Proc.devRef .tc main_v12_3) :=
  (val8_keep V0 main_v12_3 (by decide)).trans (val7_main_v12_3 V0)
theorem val8_main_v12_9 (V0 : Valuation τ sig (Elt F)) : val8 V0 (no_index (Proc.devRef .tc main_v12_9)) = V0 (Proc.devRef .tc main_v12_9) :=
  (val8_keep V0 main_v12_9 (by decide)).trans (val7_main_v12_9 V0)
theorem val8_main_v12_4 (V0 : Valuation τ sig (Elt F)) : val8 V0 (no_index (Proc.devRef .tc main_v12_4)) = V0 (Proc.devRef .tc main_v12_4) :=
  (val8_keep V0 main_v12_4 (by decide)).trans (val7_main_v12_4 V0)
theorem val8_main_while0b_v20 (V0 : Valuation τ sig (Elt F)) : val8 V0 (no_index (Proc.devRef .tc main_while0b_v20)) = addi (V0 (Proc.devRef .tc main_v12_5)) (constantI S_ 32 1#32) :=
  (val8_keep V0 main_while0b_v20 (by decide)).trans (val7_main_while0b_v20 V0)
theorem val8_main_while0b_v47 (V0 : Valuation τ sig (Elt F)) : val8 V0 (no_index (Proc.devRef .tc main_while0b_v47)) = res_main_while0b_v47 V0 :=
  (val8_keep V0 main_while0b_v47 (by decide)).trans (val7_main_while0b_v47 V0)
theorem val8_main_while0b_v54 (V0 : Valuation τ sig (Elt F)) : val8 V0 (no_index (Proc.devRef .tc main_while0b_v54)) = Host.scatter scatter_S1024_S1_S__n_0_0_0 (fun _ b => b) (V0 (Proc.devRef .tc main_v12_6)) (broadcastInDim S1 ![] bcast_S_S1 (id (select (cmpi .slt (V0 (Proc.devRef .tc main_v12_5)) (constantI S_ 32 0#32)) (addi (V0 (Proc.devRef .tc main_v12_5)) (constantI S_ 32 1024#32)) (V0 (Proc.devRef .tc main_v12_5))))) ((fun j => (Host.argReduce reducer_argmax_f32_i32 (res_main_while0b_v47 V0) (res_main_while0b_call0_v0 V0) (res_main_while0b_call0_cst V0) (res_main_while0b_call0_c V0) reducesTo_S50176_S_d0 h_S_ j).2)) :=
  (val8_keep V0 main_while0b_v54 (by decide)).trans (val7_main_while0b_v54 V0)
set_option maxRecDepth 8192 in
theorem val8_main_while0b_v69 (V0 : Valuation τ sig (Elt F)) : val8 V0 (no_index (Proc.devRef .tc main_while0b_v69)) = shapeCast S96 (Host.dynamicSlice S1x96 (V0 (Proc.devRef .tc main_v12_2)) (fun k => (((![select (cmpi .slt (res_main_while0b_v61 V0) (constantI S_ 32 0#32)) (addi (res_main_while0b_v61 V0) (constantI S_ 32 50176#32)) (res_main_while0b_v61 V0), select (cmpi .slt (constantI S_ 32 0#32) (constantI S_ 32 0#32)) (addi (constantI S_ 32 0#32) (constantI S_ 32 96#32)) (constantI S_ 32 0#32)] : Fin 2 → (⟨S_, .i32⟩ : BufTy).Contents (Elt F))) k (Shape.Idx.first h_S_)).toInt) sliceFits_S50176x96_S1x96) shapeCasts_S1x96_S96 := by
  unfold val8
  simp only [trip_w7]
  after_results_entrywise [val7_main_while0b_v68, cast_eq]
set_option maxRecDepth 8192 in
theorem val8_main_while0b_v73 (V0 : Valuation τ sig (Elt F)) : val8 V0 (no_index (Proc.devRef .tc main_while0b_v73)) = Host.dynamicSlice S1 (V0 (Proc.devRef .tc main_v12_3)) (fun k => (((![select (cmpi .slt (res_main_while0b_v61 V0) (constantI S_ 32 0#32)) (addi (res_main_while0b_v61 V0) (constantI S_ 32 50176#32)) (res_main_while0b_v61 V0)] : Fin 1 → (⟨S_, .i32⟩ : BufTy).Contents (Elt F))) k (Shape.Idx.first h_S_)).toInt) sliceFits_S50176_S1 := by
  unfold val8
  simp only [trip_w7]
  after_results_entrywise [val7_main_while0b_v61, val7_main_v12_3, cast_eq]

/-- The device's buffer contents after the body's first 9 windows. -/
def val9 (V0 : Valuation τ sig (Elt F)) : Valuation τ sig (Elt F) := after trip_w8 (val8 V0)
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v12_5 (V0 : Valuation τ sig (Elt F)) : val9 V0 (no_index (Proc.devRef .tc main_v12_5)) = V0 (Proc.devRef .tc main_v12_5) :=
  (val9_keep V0 main_v12_5 (by decide)).trans (val8_main_v12_5 V0)
theorem val9_main_v12_6 (V0 : Valuation τ sig (Elt F)) : val9 V0 (no_index (Proc.devRef .tc main_v12_6)) = V0 (Proc.devRef .tc main_v12_6) :=
  (val9_keep V0 main_v12_6 (by decide)).trans (val8_main_v12_6 V0)
theorem val9_main_v12_0 (V0 : Valuation τ sig (Elt F)) : val9 V0 (no_index (Proc.devRef .tc main_v12_0)) = V0 (Proc.devRef .tc main_v12_0) :=
  (val9_keep V0 main_v12_0 (by decide)).trans (val8_main_v12_0 V0)
theorem val9_main_v12_1 (V0 : Valuation τ sig (Elt F)) : val9 V0 (no_index (Proc.devRef .tc main_v12_1)) = V0 (Proc.devRef .tc main_v12_1) :=
  (val9_keep V0 main_v12_1 (by decide)).trans (val8_main_v12_1 V0)
theorem val9_main_v12_7 (V0 : Valuation τ sig (Elt F)) : val9 V0 (no_index (Proc.devRef .tc main_v12_7)) = V0 (Proc.devRef .tc main_v12_7) :=
  (val9_keep V0 main_v12_7 (by decide)).trans (val8_main_v12_7 V0)
theorem val9_main_v12_8 (V0 : Valuation τ sig (Elt F)) : val9 V0 (no_index (Proc.devRef .tc main_v12_8)) = V0 (Proc.devRef .tc main_v12_8) :=
  (val9_keep V0 main_v12_8 (by decide)).trans (val8_main_v12_8 V0)
theorem val9_main_v12_2 (V0 : Valuation τ sig (Elt F)) : val9 V0 (no_index (Proc.devRef .tc main_v12_2)) = V0 (Proc.devRef .tc main_v12_2) :=
  (val9_keep V0 main_v12_2 (by decide)).trans (val8_main_v12_2 V0)
theorem val9_main_v12_3 (V0 : Valuation τ sig (Elt F)) : val9 V0 (no_index (Proc.devRef .tc main_v12_3)) = V0 (Proc.devRef .tc main_v12_3) :=
  (val9_keep V0 main_v12_3 (by decide)).trans (val8_main_v12_3 V0)
theorem val9_main_v12_9 (V0 : Valuation τ sig (Elt F)) : val9 V0 (no_index (Proc.devRef .tc main_v12_9)) = V0 (Proc.devRef .tc main_v12_9) :=
  (val9_keep V0 main_v12_9 (by decide)).trans (val8_main_v12_9 V0)
theorem val9_main_v12_4 (V0 : Valuation τ sig (Elt F)) : val9 V0 (no_index (Proc.devRef .tc main_v12_4)) = V0 (Proc.devRef .tc main_v12_4) :=
  (val9_keep V0 main_v12_4 (by decide)).trans (val8_main_v12_4 V0)
theorem val9_main_while0b_v20 (V0 : Valuation τ sig (Elt F)) : val9 V0 (no_index (Proc.devRef .tc main_while0b_v20)) = addi (V0 (Proc.devRef .tc main_v12_5)) (constantI S_ 32 1#32) :=
  (val9_keep V0 main_while0b_v20 (by decide)).trans (val8_main_while0b_v20 V0)
theorem val9_main_while0b_v47 (V0 : Valuation τ sig (Elt F)) : val9 V0 (no_index (Proc.devRef .tc main_while0b_v47)) = res_main_while0b_v47 V0 :=
  (val9_keep V0 main_while0b_v47 (by decide)).trans (val8_main_while0b_v47 V0)
theorem val9_main_while0b_v54 (V0 : Valuation τ sig (Elt F)) : val9 V0 (no_index (Proc.devRef .tc main_while0b_v54)) = Host.scatter scatter_S1024_S1_S__n_0_0_0 (fun _ b => b) (V0 (Proc.devRef .tc main_v12_6)) (broadcastInDim S1 ![] bcast_S_S1 (id (select (cmpi .slt (V0 (Proc.devRef .tc main_v12_5)) (constantI S_ 32 0#32)) (addi (V0 (Proc.devRef .tc main_v12_5)) (constantI S_ 32 1024#32)) (V0 (Proc.devRef .tc main_v12_5))))) ((fun j => (Host.argReduce reducer_argmax_f32_i32 (res_main_while0b_v47 V0) (res_main_while0b_call0_v0 V0) (res_main_while0b_call0_cst V0) (res_main_while0b_call0_c V0) reducesTo_S50176_S_d0 h_S_ j).2)) :=
  (val9_keep V0 main_while0b_v54 (by decide)).trans (val8_main_while0b_v54 V0)
set_option maxRecDepth 8192 in
set_option maxHeartbeats 900000 in
theorem val9_main_while0b_v81 (V0 : Valuation τ sig (Elt F)) : val9 V0 (no_index (Proc.devRef .tc main_while0b_v81)) = res_main_while0b_v81 V0 := by
  unfold val9
  simp only [trip_w8]
  after_results_entrywise [val8_main_while0b_v69, val8_main_v12_2, val8_main_while0b_v73, val8_main_v12_3, val8_main_v12_9, res_main_while0b_v81, cast_eq]

/-- The device's buffer contents after the body's first 10 windows. -/
def val10 (V0 : Valuation τ sig (Elt F)) : Valuation τ sig (Elt F) := after trip_w9 (val9 V0)
/-- A buffer that window `trip_w9` does not write keeps its contents through it. -/
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
theorem val10_main_v12_5 (V0 : Valuation τ sig (Elt F)) : val10 V0 (no_index (Proc.devRef .tc main_v12_5)) = V0 (Proc.devRef .tc main_v12_5) :=
  (val10_keep V0 main_v12_5 (by decide)).trans (val9_main_v12_5 V0)
theorem val10_main_v12_6 (V0 : Valuation τ sig (Elt F)) : val10 V0 (no_index (Proc.devRef .tc main_v12_6)) = V0 (Proc.devRef .tc main_v12_6) :=
  (val10_keep V0 main_v12_6 (by decide)).trans (val9_main_v12_6 V0)
theorem val10_main_v12_0 (V0 : Valuation τ sig (Elt F)) : val10 V0 (no_index (Proc.devRef .tc main_v12_0)) = V0 (Proc.devRef .tc main_v12_0) :=
  (val10_keep V0 main_v12_0 (by decide)).trans (val9_main_v12_0 V0)
theorem val10_main_v12_1 (V0 : Valuation τ sig (Elt F)) : val10 V0 (no_index (Proc.devRef .tc main_v12_1)) = V0 (Proc.devRef .tc main_v12_1) :=
  (val10_keep V0 main_v12_1 (by decide)).trans (val9_main_v12_1 V0)
theorem val10_main_v12_7 (V0 : Valuation τ sig (Elt F)) : val10 V0 (no_index (Proc.devRef .tc main_v12_7)) = V0 (Proc.devRef .tc main_v12_7) :=
  (val10_keep V0 main_v12_7 (by decide)).trans (val9_main_v12_7 V0)
theorem val10_main_v12_8 (V0 : Valuation τ sig (Elt F)) : val10 V0 (no_index (Proc.devRef .tc main_v12_8)) = V0 (Proc.devRef .tc main_v12_8) :=
  (val10_keep V0 main_v12_8 (by decide)).trans (val9_main_v12_8 V0)
theorem val10_main_v12_2 (V0 : Valuation τ sig (Elt F)) : val10 V0 (no_index (Proc.devRef .tc main_v12_2)) = V0 (Proc.devRef .tc main_v12_2) :=
  (val10_keep V0 main_v12_2 (by decide)).trans (val9_main_v12_2 V0)
theorem val10_main_v12_3 (V0 : Valuation τ sig (Elt F)) : val10 V0 (no_index (Proc.devRef .tc main_v12_3)) = V0 (Proc.devRef .tc main_v12_3) :=
  (val10_keep V0 main_v12_3 (by decide)).trans (val9_main_v12_3 V0)
theorem val10_main_v12_9 (V0 : Valuation τ sig (Elt F)) : val10 V0 (no_index (Proc.devRef .tc main_v12_9)) = V0 (Proc.devRef .tc main_v12_9) :=
  (val10_keep V0 main_v12_9 (by decide)).trans (val9_main_v12_9 V0)
theorem val10_main_v12_4 (V0 : Valuation τ sig (Elt F)) : val10 V0 (no_index (Proc.devRef .tc main_v12_4)) = V0 (Proc.devRef .tc main_v12_4) :=
  (val10_keep V0 main_v12_4 (by decide)).trans (val9_main_v12_4 V0)
theorem val10_main_while0b_v20 (V0 : Valuation τ sig (Elt F)) : val10 V0 (no_index (Proc.devRef .tc main_while0b_v20)) = addi (V0 (Proc.devRef .tc main_v12_5)) (constantI S_ 32 1#32) :=
  (val10_keep V0 main_while0b_v20 (by decide)).trans (val9_main_while0b_v20 V0)
theorem val10_main_while0b_v47 (V0 : Valuation τ sig (Elt F)) : val10 V0 (no_index (Proc.devRef .tc main_while0b_v47)) = res_main_while0b_v47 V0 :=
  (val10_keep V0 main_while0b_v47 (by decide)).trans (val9_main_while0b_v47 V0)
theorem val10_main_while0b_v54 (V0 : Valuation τ sig (Elt F)) : val10 V0 (no_index (Proc.devRef .tc main_while0b_v54)) = Host.scatter scatter_S1024_S1_S__n_0_0_0 (fun _ b => b) (V0 (Proc.devRef .tc main_v12_6)) (broadcastInDim S1 ![] bcast_S_S1 (id (select (cmpi .slt (V0 (Proc.devRef .tc main_v12_5)) (constantI S_ 32 0#32)) (addi (V0 (Proc.devRef .tc main_v12_5)) (constantI S_ 32 1024#32)) (V0 (Proc.devRef .tc main_v12_5))))) ((fun j => (Host.argReduce reducer_argmax_f32_i32 (res_main_while0b_v47 V0) (res_main_while0b_call0_v0 V0) (res_main_while0b_call0_cst V0) (res_main_while0b_call0_c V0) reducesTo_S50176_S_d0 h_S_ j).2)) :=
  (val10_keep V0 main_while0b_v54 (by decide)).trans (val9_main_while0b_v54 V0)
theorem val10_main_while0b_v81 (V0 : Valuation τ sig (Elt F)) : val10 V0 (no_index (Proc.devRef .tc main_while0b_v81)) = res_main_while0b_v81 V0 :=
  (val10_keep V0 main_while0b_v81 (by decide)).trans (val9_main_while0b_v81 V0)
set_option maxRecDepth 8192 in
theorem val10_main_while0b_v82 (V0 : Valuation τ sig (Elt F)) : val10 V0 (no_index (Proc.devRef .tc main_while0b_v82)) = (fun j => (Host.argReduce reducer_argmax_f32_i32 (res_main_while0b_v81 V0) (res_main_while0b_call1_v0 V0) (res_main_while0b_call1_cst V0) (res_main_while0b_call1_c V0) reducesTo_S50176_S_d0 h_S_ j).2) := by
  unfold val10
  simp only [trip_w9]
  after_results_entrywise [val9_main_while0b_v81, res_main_while0b_call1_v0, res_main_while0b_call1_cst, res_main_while0b_call1_c, cast_eq]

/-- The device's buffer contents after the body's first 11 windows. -/
def val11 (V0 : Valuation τ sig (Elt F)) : Valuation τ sig (Elt F) := after trip_w10 (val10 V0)
/-- A buffer that window `trip_w10` does not write keeps its contents through it. -/
theorem val11_keep (V0 : Valuation τ sig (Elt F)) (r : Ref sig .tc) (h : r ∉ trip_w10_W) :
    val11 V0 (Proc.devRef .tc r) = val10 V0 (Proc.devRef .tc r) :=
  after_of_writes_sub trip_w10 _ trip_w10_writes h
theorem val11_main_v12_5 (V0 : Valuation τ sig (Elt F)) : val11 V0 (no_index (Proc.devRef .tc main_v12_5)) = V0 (Proc.devRef .tc main_v12_5) :=
  (val11_keep V0 main_v12_5 (by decide)).trans (val10_main_v12_5 V0)
theorem val11_main_v12_6 (V0 : Valuation τ sig (Elt F)) : val11 V0 (no_index (Proc.devRef .tc main_v12_6)) = V0 (Proc.devRef .tc main_v12_6) :=
  (val11_keep V0 main_v12_6 (by decide)).trans (val10_main_v12_6 V0)
theorem val11_main_v12_0 (V0 : Valuation τ sig (Elt F)) : val11 V0 (no_index (Proc.devRef .tc main_v12_0)) = V0 (Proc.devRef .tc main_v12_0) :=
  (val11_keep V0 main_v12_0 (by decide)).trans (val10_main_v12_0 V0)
theorem val11_main_v12_1 (V0 : Valuation τ sig (Elt F)) : val11 V0 (no_index (Proc.devRef .tc main_v12_1)) = V0 (Proc.devRef .tc main_v12_1) :=
  (val11_keep V0 main_v12_1 (by decide)).trans (val10_main_v12_1 V0)
theorem val11_main_v12_7 (V0 : Valuation τ sig (Elt F)) : val11 V0 (no_index (Proc.devRef .tc main_v12_7)) = V0 (Proc.devRef .tc main_v12_7) :=
  (val11_keep V0 main_v12_7 (by decide)).trans (val10_main_v12_7 V0)
theorem val11_main_v12_8 (V0 : Valuation τ sig (Elt F)) : val11 V0 (no_index (Proc.devRef .tc main_v12_8)) = V0 (Proc.devRef .tc main_v12_8) :=
  (val11_keep V0 main_v12_8 (by decide)).trans (val10_main_v12_8 V0)
theorem val11_main_v12_2 (V0 : Valuation τ sig (Elt F)) : val11 V0 (no_index (Proc.devRef .tc main_v12_2)) = V0 (Proc.devRef .tc main_v12_2) :=
  (val11_keep V0 main_v12_2 (by decide)).trans (val10_main_v12_2 V0)
theorem val11_main_v12_3 (V0 : Valuation τ sig (Elt F)) : val11 V0 (no_index (Proc.devRef .tc main_v12_3)) = V0 (Proc.devRef .tc main_v12_3) :=
  (val11_keep V0 main_v12_3 (by decide)).trans (val10_main_v12_3 V0)
theorem val11_main_v12_9 (V0 : Valuation τ sig (Elt F)) : val11 V0 (no_index (Proc.devRef .tc main_v12_9)) = V0 (Proc.devRef .tc main_v12_9) :=
  (val11_keep V0 main_v12_9 (by decide)).trans (val10_main_v12_9 V0)
theorem val11_main_v12_4 (V0 : Valuation τ sig (Elt F)) : val11 V0 (no_index (Proc.devRef .tc main_v12_4)) = V0 (Proc.devRef .tc main_v12_4) :=
  (val11_keep V0 main_v12_4 (by decide)).trans (val10_main_v12_4 V0)
theorem val11_main_while0b_v20 (V0 : Valuation τ sig (Elt F)) : val11 V0 (no_index (Proc.devRef .tc main_while0b_v20)) = addi (V0 (Proc.devRef .tc main_v12_5)) (constantI S_ 32 1#32) :=
  (val11_keep V0 main_while0b_v20 (by decide)).trans (val10_main_while0b_v20 V0)
theorem val11_main_while0b_v47 (V0 : Valuation τ sig (Elt F)) : val11 V0 (no_index (Proc.devRef .tc main_while0b_v47)) = res_main_while0b_v47 V0 :=
  (val11_keep V0 main_while0b_v47 (by decide)).trans (val10_main_while0b_v47 V0)
theorem val11_main_while0b_v54 (V0 : Valuation τ sig (Elt F)) : val11 V0 (no_index (Proc.devRef .tc main_while0b_v54)) = Host.scatter scatter_S1024_S1_S__n_0_0_0 (fun _ b => b) (V0 (Proc.devRef .tc main_v12_6)) (broadcastInDim S1 ![] bcast_S_S1 (id (select (cmpi .slt (V0 (Proc.devRef .tc main_v12_5)) (constantI S_ 32 0#32)) (addi (V0 (Proc.devRef .tc main_v12_5)) (constantI S_ 32 1024#32)) (V0 (Proc.devRef .tc main_v12_5))))) ((fun j => (Host.argReduce reducer_argmax_f32_i32 (res_main_while0b_v47 V0) (res_main_while0b_call0_v0 V0) (res_main_while0b_call0_cst V0) (res_main_while0b_call0_c V0) reducesTo_S50176_S_d0 h_S_ j).2)) :=
  (val11_keep V0 main_while0b_v54 (by decide)).trans (val10_main_while0b_v54 V0)
theorem val11_main_while0b_v81 (V0 : Valuation τ sig (Elt F)) : val11 V0 (no_index (Proc.devRef .tc main_while0b_v81)) = res_main_while0b_v81 V0 :=
  (val11_keep V0 main_while0b_v81 (by decide)).trans (val10_main_while0b_v81 V0)
set_option maxRecDepth 8192 in
theorem val11_main_while0b_v88 (V0 : Valuation τ sig (Elt F)) : val11 V0 (no_index (Proc.devRef .tc main_while0b_v88)) = Host.scatter scatter_S1024_S1_S__n_0_0_0 (fun _ b => b) (V0 (Proc.devRef .tc main_v12_8)) (broadcastInDim S1 ![] bcast_S_S1 (id (select (cmpi .slt (V0 (Proc.devRef .tc main_v12_5)) (constantI S_ 32 0#32)) (addi (V0 (Proc.devRef .tc main_v12_5)) (constantI S_ 32 1024#32)) (V0 (Proc.devRef .tc main_v12_5))))) ((fun j => (Host.argReduce reducer_argmax_f32_i32 (res_main_while0b_v81 V0) (res_main_while0b_call1_v0 V0) (res_main_while0b_call1_cst V0) (res_main_while0b_call1_c V0) reducesTo_S50176_S_d0 h_S_ j).2)) := by
  unfold val11
  simp only [trip_w10]
  after_results_entrywise [val10_main_while0b_v82, val10_main_v12_5, val10_main_v12_8, cast_eq]

set_option maxRecDepth 8192 in
/-- The body's stretches, from any contents: the trip's windows in order, then `while0Ops0_4`'s step. -/
theorem trip_windows (V0 : Valuation τ sig (Elt F)) : after while0Ops0_4 (after while0Ops0_3 (after while0Ops0_2 (after while0Ops0_1 (after while0Ops0 (V0))))) = after while0Ops0_4_step (val11 V0) := by
  simp only [while0Ops0_cut, while0Ops0_1_cut, while0Ops0_2_cut, while0Ops0_3_cut, while0Ops0_4_cut, after_append]
  rfl

set_option maxRecDepth 8192 in
set_option maxHeartbeats 2000000 in
/-- `main_v12_0` after one trip's body, from any contents. -/
theorem trip_main_v12_0 (V0 : Valuation τ sig (Elt F)) : afterL bodyI V0 (no_index (Proc.devRef .tc main_v12_0)) = V0 (Proc.devRef .tc main_v12_0) := by
  simp only [bodyI, afterL_cons, afterL_nil, trip_windows]
  after_results
  all_goals (try simp only [val11_main_while0b_v20, val11_main_while0b_v54, val11_main_while0b_v47, val11_main_while0b_v88, val11_main_while0b_v81, val11_main_v12_0, val11_main_v12_1, val11_main_v12_2, val11_main_v12_3, val11_main_v12_4, val11_main_v12_5, val11_main_v12_6, val11_main_v12_7, val11_main_v12_8, val11_main_v12_9]) <;> rfl
set_option maxRecDepth 8192 in
set_option maxHeartbeats 2000000 in
/-- `main_v12_1` after one trip's body, from any contents. -/
theorem trip_main_v12_1 (V0 : Valuation τ sig (Elt F)) : afterL bodyI V0 (no_index (Proc.devRef .tc main_v12_1)) = V0 (Proc.devRef .tc main_v12_1) := by
  simp only [bodyI, afterL_cons, afterL_nil, trip_windows]
  after_results
  all_goals (try simp only [val11_main_while0b_v20, val11_main_while0b_v54, val11_main_while0b_v47, val11_main_while0b_v88, val11_main_while0b_v81, val11_main_v12_0, val11_main_v12_1, val11_main_v12_2, val11_main_v12_3, val11_main_v12_4, val11_main_v12_5, val11_main_v12_6, val11_main_v12_7, val11_main_v12_8, val11_main_v12_9]) <;> rfl
set_option maxRecDepth 8192 in
set_option maxHeartbeats 2000000 in
/-- `main_v12_2` after one trip's body, from any contents. -/
theorem trip_main_v12_2 (V0 : Valuation τ sig (Elt F)) : afterL bodyI V0 (no_index (Proc.devRef .tc main_v12_2)) = V0 (Proc.devRef .tc main_v12_2) := by
  simp only [bodyI, afterL_cons, afterL_nil, trip_windows]
  after_results
  all_goals (try simp only [val11_main_while0b_v20, val11_main_while0b_v54, val11_main_while0b_v47, val11_main_while0b_v88, val11_main_while0b_v81, val11_main_v12_0, val11_main_v12_1, val11_main_v12_2, val11_main_v12_3, val11_main_v12_4, val11_main_v12_5, val11_main_v12_6, val11_main_v12_7, val11_main_v12_8, val11_main_v12_9]) <;> rfl
set_option maxRecDepth 8192 in
set_option maxHeartbeats 2000000 in
/-- `main_v12_3` after one trip's body, from any contents. -/
theorem trip_main_v12_3 (V0 : Valuation τ sig (Elt F)) : afterL bodyI V0 (no_index (Proc.devRef .tc main_v12_3)) = V0 (Proc.devRef .tc main_v12_3) := by
  simp only [bodyI, afterL_cons, afterL_nil, trip_windows]
  after_results
  all_goals (try simp only [val11_main_while0b_v20, val11_main_while0b_v54, val11_main_while0b_v47, val11_main_while0b_v88, val11_main_while0b_v81, val11_main_v12_0, val11_main_v12_1, val11_main_v12_2, val11_main_v12_3, val11_main_v12_4, val11_main_v12_5, val11_main_v12_6, val11_main_v12_7, val11_main_v12_8, val11_main_v12_9]) <;> rfl
set_option maxRecDepth 8192 in
set_option maxHeartbeats 2000000 in
/-- `main_v12_4` after one trip's body, from any contents. -/
theorem trip_main_v12_4 (V0 : Valuation τ sig (Elt F)) : afterL bodyI V0 (no_index (Proc.devRef .tc main_v12_4)) = id (addi (V0 (Proc.devRef .tc main_v12_4)) (constantI S_ 32 1#32)) := by
  simp only [bodyI, afterL_cons, afterL_nil, trip_windows]
  after_results
  all_goals (try simp only [val11_main_while0b_v20, val11_main_while0b_v54, val11_main_while0b_v47, val11_main_while0b_v88, val11_main_while0b_v81, val11_main_v12_0, val11_main_v12_1, val11_main_v12_2, val11_main_v12_3, val11_main_v12_4, val11_main_v12_5, val11_main_v12_6, val11_main_v12_7, val11_main_v12_8, val11_main_v12_9]) <;> rfl
set_option maxRecDepth 8192 in
set_option maxHeartbeats 2000000 in
/-- `main_v12_5` after one trip's body, from any contents. -/
theorem trip_main_v12_5 (V0 : Valuation τ sig (Elt F)) : afterL bodyI V0 (no_index (Proc.devRef .tc main_v12_5)) = id (addi (V0 (Proc.devRef .tc main_v12_5)) (constantI S_ 32 1#32)) := by
  simp only [bodyI, afterL_cons, afterL_nil, trip_windows]
  after_results
  all_goals (try simp only [val11_main_while0b_v20, val11_main_while0b_v54, val11_main_while0b_v47, val11_main_while0b_v88, val11_main_while0b_v81, val11_main_v12_0, val11_main_v12_1, val11_main_v12_2, val11_main_v12_3, val11_main_v12_4, val11_main_v12_5, val11_main_v12_6, val11_main_v12_7, val11_main_v12_8, val11_main_v12_9]) <;> rfl
set_option maxRecDepth 8192 in
set_option maxHeartbeats 2000000 in
/-- `main_v12_6` after one trip's body, from any contents. -/
theorem trip_main_v12_6 (V0 : Valuation τ sig (Elt F)) : afterL bodyI V0 (no_index (Proc.devRef .tc main_v12_6)) = id (Host.scatter scatter_S1024_S1_S__n_0_0_0 (fun _ b => b) (V0 (Proc.devRef .tc main_v12_6)) (broadcastInDim S1 ![] bcast_S_S1 (id (select (cmpi .slt (V0 (Proc.devRef .tc main_v12_5)) (constantI S_ 32 0#32)) (addi (V0 (Proc.devRef .tc main_v12_5)) (constantI S_ 32 1024#32)) (V0 (Proc.devRef .tc main_v12_5))))) ((fun j => (Host.argReduce reducer_argmax_f32_i32 (res_main_while0b_v47 V0) (res_main_while0b_call0_v0 V0) (res_main_while0b_call0_cst V0) (res_main_while0b_call0_c V0) reducesTo_S50176_S_d0 h_S_ j).2))) := by
  simp only [bodyI, afterL_cons, afterL_nil, trip_windows]
  after_results
  all_goals (try simp only [val11_main_while0b_v20, val11_main_while0b_v54, val11_main_while0b_v47, val11_main_while0b_v88, val11_main_while0b_v81, val11_main_v12_0, val11_main_v12_1, val11_main_v12_2, val11_main_v12_3, val11_main_v12_4, val11_main_v12_5, val11_main_v12_6, val11_main_v12_7, val11_main_v12_8, val11_main_v12_9]) <;> rfl
set_option maxRecDepth 8192 in
set_option maxHeartbeats 2000000 in
/-- `main_v12_7` after one trip's body, from any contents. -/
theorem trip_main_v12_7 (V0 : Valuation τ sig (Elt F)) : afterL bodyI V0 (no_index (Proc.devRef .tc main_v12_7)) = id (res_main_while0b_v47 V0) := by
  simp only [bodyI, afterL_cons, afterL_nil, trip_windows]
  after_results
  all_goals (try simp only [val11_main_while0b_v20, val11_main_while0b_v54, val11_main_while0b_v47, val11_main_while0b_v88, val11_main_while0b_v81, val11_main_v12_0, val11_main_v12_1, val11_main_v12_2, val11_main_v12_3, val11_main_v12_4, val11_main_v12_5, val11_main_v12_6, val11_main_v12_7, val11_main_v12_8, val11_main_v12_9]) <;> rfl
set_option maxRecDepth 8192 in
set_option maxHeartbeats 2000000 in
/-- `main_v12_8` after one trip's body, from any contents. -/
theorem trip_main_v12_8 (V0 : Valuation τ sig (Elt F)) : afterL bodyI V0 (no_index (Proc.devRef .tc main_v12_8)) = id (Host.scatter scatter_S1024_S1_S__n_0_0_0 (fun _ b => b) (V0 (Proc.devRef .tc main_v12_8)) (broadcastInDim S1 ![] bcast_S_S1 (id (select (cmpi .slt (V0 (Proc.devRef .tc main_v12_5)) (constantI S_ 32 0#32)) (addi (V0 (Proc.devRef .tc main_v12_5)) (constantI S_ 32 1024#32)) (V0 (Proc.devRef .tc main_v12_5))))) ((fun j => (Host.argReduce reducer_argmax_f32_i32 (res_main_while0b_v81 V0) (res_main_while0b_call1_v0 V0) (res_main_while0b_call1_cst V0) (res_main_while0b_call1_c V0) reducesTo_S50176_S_d0 h_S_ j).2))) := by
  simp only [bodyI, afterL_cons, afterL_nil, trip_windows]
  after_results
  all_goals (try simp only [val11_main_while0b_v20, val11_main_while0b_v54, val11_main_while0b_v47, val11_main_while0b_v88, val11_main_while0b_v81, val11_main_v12_0, val11_main_v12_1, val11_main_v12_2, val11_main_v12_3, val11_main_v12_4, val11_main_v12_5, val11_main_v12_6, val11_main_v12_7, val11_main_v12_8, val11_main_v12_9]) <;> rfl
set_option maxRecDepth 8192 in
set_option maxHeartbeats 2000000 in
/-- `main_v12_9` after one trip's body, from any contents. -/
theorem trip_main_v12_9 (V0 : Valuation τ sig (Elt F)) : afterL bodyI V0 (no_index (Proc.devRef .tc main_v12_9)) = id (res_main_while0b_v81 V0) := by
  simp only [bodyI, afterL_cons, afterL_nil, trip_windows]
  after_results
  all_goals (try simp only [val11_main_while0b_v20, val11_main_while0b_v54, val11_main_while0b_v47, val11_main_while0b_v88, val11_main_while0b_v81, val11_main_v12_0, val11_main_v12_1, val11_main_v12_2, val11_main_v12_3, val11_main_v12_4, val11_main_v12_5, val11_main_v12_6, val11_main_v12_7, val11_main_v12_8, val11_main_v12_9]) <;> rfl

/-- The loop's carried buffers. -/
abbrev carriedRefs : List (Ref sig .tc) := [main_v12_0, main_v12_1, main_v12_2, main_v12_3, main_v12_4, main_v12_5, main_v12_6, main_v12_7, main_v12_8, main_v12_9]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v21_congr {V0 V0' : Valuation τ sig (Elt F)} (h : Agree V0 V0') : res_main_while0b_v21 V0 = res_main_while0b_v21 V0' := by
  unfold res_main_while0b_v21
  rw [h main_v12_5 (by decide)]
set_option maxRecDepth 8192 in
theorem res_main_while0b_v27_congr {V0 V0' : Valuation τ sig (Elt F)} (h : Agree V0 V0') : res_main_while0b_v27 V0 = res_main_while0b_v27 V0' := by
  unfold res_main_while0b_v27
  rw [res_main_while0b_v21_congr h, h main_v12_6 (by decide)]
set_option maxRecDepth 8192 in
theorem res_main_while0b_v47_congr {V0 V0' : Valuation τ sig (Elt F)} (h : Agree V0 V0') : res_main_while0b_v47 V0 = res_main_while0b_v47 V0' := by
  unfold res_main_while0b_v47
  rw [res_main_while0b_v27_congr h, h main_v12_7 (by decide), h main_v12_1 (by decide), h main_v12_0 (by decide)]
set_option maxRecDepth 8192 in
theorem res_main_while0b_call0_v0_congr {V0 V0' : Valuation τ sig (Elt F)} (h : Agree V0 V0') : res_main_while0b_call0_v0 V0 = res_main_while0b_call0_v0 V0' := by
  unfold res_main_while0b_call0_v0
  rfl
set_option maxRecDepth 8192 in
theorem res_main_while0b_call0_cst_congr {V0 V0' : Valuation τ sig (Elt F)} (h : Agree V0 V0') : res_main_while0b_call0_cst V0 = res_main_while0b_call0_cst V0' := by
  unfold res_main_while0b_call0_cst
  rfl
set_option maxRecDepth 8192 in
theorem res_main_while0b_call0_c_congr {V0 V0' : Valuation τ sig (Elt F)} (h : Agree V0 V0') : res_main_while0b_call0_c V0 = res_main_while0b_call0_c V0' := by
  unfold res_main_while0b_call0_c
  rfl
set_option maxRecDepth 8192 in
theorem res_main_while0b_v55_congr {V0 V0' : Valuation τ sig (Elt F)} (h : Agree V0 V0') : res_main_while0b_v55 V0 = res_main_while0b_v55 V0' := by
  unfold res_main_while0b_v55
  rw [h main_v12_5 (by decide)]
set_option maxRecDepth 8192 in
theorem res_main_while0b_v61_congr {V0 V0' : Valuation τ sig (Elt F)} (h : Agree V0 V0') : res_main_while0b_v61 V0 = res_main_while0b_v61 V0' := by
  unfold res_main_while0b_v61
  rw [res_main_while0b_v55_congr h, h main_v12_8 (by decide)]
set_option maxRecDepth 8192 in
theorem res_main_while0b_v81_congr {V0 V0' : Valuation τ sig (Elt F)} (h : Agree V0 V0') : res_main_while0b_v81 V0 = res_main_while0b_v81 V0' := by
  unfold res_main_while0b_v81
  rw [res_main_while0b_v61_congr h, h main_v12_9 (by decide), h main_v12_3 (by decide), h main_v12_2 (by decide)]
set_option maxRecDepth 8192 in
theorem res_main_while0b_call1_v0_congr {V0 V0' : Valuation τ sig (Elt F)} (h : Agree V0 V0') : res_main_while0b_call1_v0 V0 = res_main_while0b_call1_v0 V0' := by
  unfold res_main_while0b_call1_v0
  rfl
set_option maxRecDepth 8192 in
theorem res_main_while0b_call1_cst_congr {V0 V0' : Valuation τ sig (Elt F)} (h : Agree V0 V0') : res_main_while0b_call1_cst V0 = res_main_while0b_call1_cst V0' := by
  unfold res_main_while0b_call1_cst
  rfl
set_option maxRecDepth 8192 in
theorem res_main_while0b_call1_c_congr {V0 V0' : Valuation τ sig (Elt F)} (h : Agree V0 V0') : res_main_while0b_call1_c V0 = res_main_while0b_call1_c V0' := by
  unfold res_main_while0b_call1_c
  rfl

set_option maxRecDepth 8192 in
/-- `main_v12_4` after one trip, of the contents before it. -/
def step_main_v12_4 (V0 : Valuation τ sig (Elt F)) : (Proc.devRef .tc main_v12_4 : DevRef τ sig).ty.Contents (Elt F) :=
  id (addi (V0 (Proc.devRef .tc main_v12_4)) (constantI S_ 32 1#32))
set_option maxRecDepth 8192 in
theorem step_main_v12_4_congr {V0 V0' : Valuation τ sig (Elt F)} (h : Agree V0 V0') : step_main_v12_4 V0 = step_main_v12_4 V0' := by
  unfold step_main_v12_4
  rw [h main_v12_4 (by decide)]
set_option maxRecDepth 8192 in
/-- `main_v12_5` after one trip, of the contents before it. -/
def step_main_v12_5 (V0 : Valuation τ sig (Elt F)) : (Proc.devRef .tc main_v12_5 : DevRef τ sig).ty.Contents (Elt F) :=
  id (addi (V0 (Proc.devRef .tc main_v12_5)) (constantI S_ 32 1#32))
set_option maxRecDepth 8192 in
theorem step_main_v12_5_congr {V0 V0' : Valuation τ sig (Elt F)} (h : Agree V0 V0') : step_main_v12_5 V0 = step_main_v12_5 V0' := by
  unfold step_main_v12_5
  rw [h main_v12_5 (by decide)]
set_option maxRecDepth 8192 in
/-- `main_v12_6` after one trip, of the contents before it. -/
def step_main_v12_6 (V0 : Valuation τ sig (Elt F)) : (Proc.devRef .tc main_v12_6 : DevRef τ sig).ty.Contents (Elt F) :=
  id (Host.scatter scatter_S1024_S1_S__n_0_0_0 (fun _ b => b) (V0 (Proc.devRef .tc main_v12_6)) (broadcastInDim S1 ![] bcast_S_S1 (id (select (cmpi .slt (V0 (Proc.devRef .tc main_v12_5)) (constantI S_ 32 0#32)) (addi (V0 (Proc.devRef .tc main_v12_5)) (constantI S_ 32 1024#32)) (V0 (Proc.devRef .tc main_v12_5))))) ((fun j => (Host.argReduce reducer_argmax_f32_i32 (res_main_while0b_v47 V0) (res_main_while0b_call0_v0 V0) (res_main_while0b_call0_cst V0) (res_main_while0b_call0_c V0) reducesTo_S50176_S_d0 h_S_ j).2)))
set_option maxRecDepth 8192 in
theorem step_main_v12_6_congr {V0 V0' : Valuation τ sig (Elt F)} (h : Agree V0 V0') : step_main_v12_6 V0 = step_main_v12_6 V0' := by
  unfold step_main_v12_6
  rw [res_main_while0b_v47_congr h, res_main_while0b_call0_v0_congr h, res_main_while0b_call0_cst_congr h, res_main_while0b_call0_c_congr h, h main_v12_6 (by decide), h main_v12_5 (by decide)]
set_option maxRecDepth 8192 in
/-- `main_v12_7` after one trip, of the contents before it. -/
def step_main_v12_7 (V0 : Valuation τ sig (Elt F)) : (Proc.devRef .tc main_v12_7 : DevRef τ sig).ty.Contents (Elt F) :=
  id (res_main_while0b_v47 V0)
set_option maxRecDepth 8192 in
theorem step_main_v12_7_congr {V0 V0' : Valuation τ sig (Elt F)} (h : Agree V0 V0') : step_main_v12_7 V0 = step_main_v12_7 V0' := by
  unfold step_main_v12_7
  rw [res_main_while0b_v47_congr h]
set_option maxRecDepth 8192 in
/-- `main_v12_8` after one trip, of the contents before it. -/
def step_main_v12_8 (V0 : Valuation τ sig (Elt F)) : (Proc.devRef .tc main_v12_8 : DevRef τ sig).ty.Contents (Elt F) :=
  id (Host.scatter scatter_S1024_S1_S__n_0_0_0 (fun _ b => b) (V0 (Proc.devRef .tc main_v12_8)) (broadcastInDim S1 ![] bcast_S_S1 (id (select (cmpi .slt (V0 (Proc.devRef .tc main_v12_5)) (constantI S_ 32 0#32)) (addi (V0 (Proc.devRef .tc main_v12_5)) (constantI S_ 32 1024#32)) (V0 (Proc.devRef .tc main_v12_5))))) ((fun j => (Host.argReduce reducer_argmax_f32_i32 (res_main_while0b_v81 V0) (res_main_while0b_call1_v0 V0) (res_main_while0b_call1_cst V0) (res_main_while0b_call1_c V0) reducesTo_S50176_S_d0 h_S_ j).2)))
set_option maxRecDepth 8192 in
theorem step_main_v12_8_congr {V0 V0' : Valuation τ sig (Elt F)} (h : Agree V0 V0') : step_main_v12_8 V0 = step_main_v12_8 V0' := by
  unfold step_main_v12_8
  rw [res_main_while0b_v81_congr h, res_main_while0b_call1_v0_congr h, res_main_while0b_call1_cst_congr h, res_main_while0b_call1_c_congr h, h main_v12_8 (by decide), h main_v12_5 (by decide)]
set_option maxRecDepth 8192 in
/-- `main_v12_9` after one trip, of the contents before it. -/
def step_main_v12_9 (V0 : Valuation τ sig (Elt F)) : (Proc.devRef .tc main_v12_9 : DevRef τ sig).ty.Contents (Elt F) :=
  id (res_main_while0b_v81 V0)
set_option maxRecDepth 8192 in
theorem step_main_v12_9_congr {V0 V0' : Valuation τ sig (Elt F)} (h : Agree V0 V0') : step_main_v12_9 V0 = step_main_v12_9 V0' := by
  unfold step_main_v12_9
  rw [res_main_while0b_v81_congr h]

/-- ONE TRIP on the carried buffers: the buffers the body writes step, everything else is as it was. -/
def STEP (V0 : Valuation τ sig (Elt F)) : Valuation τ sig (Elt F) :=
  Function.update (Function.update (Function.update (Function.update (Function.update (Function.update (V0) (Proc.devRef .tc main_v12_4) (step_main_v12_4 V0)) (Proc.devRef .tc main_v12_5) (step_main_v12_5 V0)) (Proc.devRef .tc main_v12_6) (step_main_v12_6 V0)) (Proc.devRef .tc main_v12_7) (step_main_v12_7 V0)) (Proc.devRef .tc main_v12_8) (step_main_v12_8 V0)) (Proc.devRef .tc main_v12_9) (step_main_v12_9 V0)

theorem STEP_main_v12_0 (V0 : Valuation τ sig (Elt F)) : STEP V0 (Proc.devRef .tc main_v12_0) = V0 (Proc.devRef .tc main_v12_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v12_1 (V0 : Valuation τ sig (Elt F)) : STEP V0 (Proc.devRef .tc main_v12_1) = V0 (Proc.devRef .tc main_v12_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v12_2 (V0 : Valuation τ sig (Elt F)) : STEP V0 (Proc.devRef .tc main_v12_2) = V0 (Proc.devRef .tc main_v12_2) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v12_3 (V0 : Valuation τ sig (Elt F)) : STEP V0 (Proc.devRef .tc main_v12_3) = V0 (Proc.devRef .tc main_v12_3) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v12_4 (V0 : Valuation τ sig (Elt F)) : STEP V0 (Proc.devRef .tc main_v12_4) = step_main_v12_4 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v12_5 (V0 : Valuation τ sig (Elt F)) : STEP V0 (Proc.devRef .tc main_v12_5) = step_main_v12_5 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v12_6 (V0 : Valuation τ sig (Elt F)) : STEP V0 (Proc.devRef .tc main_v12_6) = step_main_v12_6 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v12_7 (V0 : Valuation τ sig (Elt F)) : STEP V0 (Proc.devRef .tc main_v12_7) = step_main_v12_7 V0 := by
  unfold STEP; rw [Function.update_of_ne (devRef_ne_of_ne (by decide))]; rw [Function.update_of_ne (devRef_ne_of_ne (by decide))]; rw [Function.update_self]
theorem STEP_main_v12_8 (V0 : Valuation τ sig (Elt F)) : STEP V0 (Proc.devRef .tc main_v12_8) = step_main_v12_8 V0 := by
  unfold STEP; rw [Function.update_of_ne (devRef_ne_of_ne (by decide))]; rw [Function.update_self]
theorem STEP_main_v12_9 (V0 : Valuation τ sig (Elt F)) : STEP V0 (Proc.devRef .tc main_v12_9) = step_main_v12_9 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v12_0 (after condOps X)).trans ((hc main_v12_0 (by decide)).trans (STEP_main_v12_0 X).symm)
  · exact (trip_main_v12_1 (after condOps X)).trans ((hc main_v12_1 (by decide)).trans (STEP_main_v12_1 X).symm)
  · exact (trip_main_v12_2 (after condOps X)).trans ((hc main_v12_2 (by decide)).trans (STEP_main_v12_2 X).symm)
  · exact (trip_main_v12_3 (after condOps X)).trans ((hc main_v12_3 (by decide)).trans (STEP_main_v12_3 X).symm)
  · exact (trip_main_v12_4 (after condOps X)).trans ((step_main_v12_4_congr hc).trans (STEP_main_v12_4 X).symm)
  · exact (trip_main_v12_5 (after condOps X)).trans ((step_main_v12_5_congr hc).trans (STEP_main_v12_5 X).symm)
  · exact (trip_main_v12_6 (after condOps X)).trans ((step_main_v12_6_congr hc).trans (STEP_main_v12_6 X).symm)
  · exact (trip_main_v12_7 (after condOps X)).trans ((step_main_v12_7_congr hc).trans (STEP_main_v12_7 X).symm)
  · exact (trip_main_v12_8 (after condOps X)).trans ((step_main_v12_8_congr hc).trans (STEP_main_v12_8 X).symm)
  · exact (trip_main_v12_9 (after condOps X)).trans ((step_main_v12_9_congr hc).trans (STEP_main_v12_9 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v12_0, STEP_main_v12_0]; exact h main_v12_0 (by decide)
  · rw [STEP_main_v12_1, STEP_main_v12_1]; exact h main_v12_1 (by decide)
  · rw [STEP_main_v12_2, STEP_main_v12_2]; exact h main_v12_2 (by decide)
  · rw [STEP_main_v12_3, STEP_main_v12_3]; exact h main_v12_3 (by decide)
  · rw [STEP_main_v12_4, STEP_main_v12_4]; exact step_main_v12_4_congr h
  · rw [STEP_main_v12_5, STEP_main_v12_5]; exact step_main_v12_5_congr h
  · rw [STEP_main_v12_6, STEP_main_v12_6]; exact step_main_v12_6_congr h
  · rw [STEP_main_v12_7, STEP_main_v12_7]; exact step_main_v12_7_congr h
  · rw [STEP_main_v12_8, STEP_main_v12_8]; exact step_main_v12_8_congr h
  · rw [STEP_main_v12_9, STEP_main_v12_9]; exact step_main_v12_9_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

end Cert.ReferenceIdeal.Value

end
-- ==== Proof.RefFrame.lean ====
module

public import proofs.«01_k».proof.Proof.RefTrip
public import Idealize.ShloMosaic.Lib.Quiescent

@[expose] public section

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.Sem
open Idealize.ShloMosaic.StableHlo

variable {F : FTy → Type} [FloatOps F]
variable (m : (ℓ : Loc nD τ sig) → Buf (Elt F) ℓ) (ρ : Dev nD → PrngReg)

/-! ## No stretch of the reference writes its argument -/

theorem arg_pre (V : Valuation τ sig (Elt F)) : afterL preI V (Proc.devRef .tc main_arg0) = V (Proc.devRef .tc main_arg0) := by
  simp only [afterL_cons, afterL_nil]
  exact after_of_writes_sub hostOps0 V hostOps0_writes (by decide +kernel)

theorem arg_cond (V : Valuation τ sig (Elt F)) : after condOps V (Proc.devRef .tc main_arg0) = V (Proc.devRef .tc main_arg0) :=
  after_of_writes_sub condOps V condOps_writes (by decide +kernel)

theorem arg_body (V : Valuation τ sig (Elt F)) : afterL bodyI V (Proc.devRef .tc main_arg0) = V (Proc.devRef .tc main_arg0) := by
  simp only [afterL_cons, afterL_nil]
  rw [after_of_writes_sub while0Ops0_4 _ while0Ops0_4_writes (by decide +kernel),
    after_of_writes_sub while0Ops0_3 _ while0Ops0_3_writes (by decide +kernel),
    after_of_writes_sub while0Ops0_2 _ while0Ops0_2_writes (by decide +kernel),
    after_of_writes_sub while0Ops0_1 _ while0Ops0_1_writes (by decide +kernel),
    after_of_writes_sub while0Ops0 _ while0Ops0_writes (by decide +kernel)]

theorem arg_post (V : Valuation τ sig (Elt F)) : afterL postI V (Proc.devRef .tc main_arg0) = V (Proc.devRef .tc main_arg0) := by
  simp only [afterL_cons, afterL_nil]
  after_reads_simp

theorem arg_atTrip (W₀ : Dev nD → Valuation τ sig (Elt F)) (c : Dev nD) :
    ∀ k, atTrip condOps bodyI W₀ k c (Proc.devRef .tc main_arg0) = W₀ c (Proc.devRef .tc main_arg0)
  | 0 => rfl
  | k + 1 => by
    show afterL bodyI (after condOps (atTrip condOps bodyI W₀ k c)) (Proc.devRef .tc main_arg0) = _
    rw [arg_body, arg_cond, arg_atTrip W₀ c k]

/-- At the end the argument is as it was at the launch. -/
theorem arg_final (c : Dev nD) : finalContents condOps preI bodyI postI 1023 m c (Proc.devRef .tc main_arg0) = m ((c.tc : Thread nD τ).loc main_arg0) := by
  show afterL postI (after condOps (atTrip condOps bodyI (entryContents preI m) 1023 c)) (Proc.devRef .tc main_arg0) = _
  rw [arg_post, arg_cond, arg_atTrip]
  exact arg_pre _

/-- The reference runs; it leaves its argument as it was, its result at the fold, and every counter zero. -/
theorem run_ref : θ_run (defs (F := F)) (onTc (τ := τ) (main (F := F))) ⟨m, fun _ => 0, ρ⟩
    (fun r => (∀ c : Dev nD, r.2.mem ((c.tc : Thread nD τ).loc main_v19) = finalContents condOps preI bodyI postI 1023 m c (Proc.devRef .tc main_v19)
      ∧ r.2.mem ((c.tc : Thread nD τ).loc main_arg0) = m ((c.tc : Thread nD τ).loc main_arg0)) ∧ r.2.sem = fun _ => 0) :=
  (θ_run defs _ _).mono (fun r h => ⟨fun c => ⟨h c main_v19 (by decide), (h c main_arg0 (by decide)).trans (arg_final m c)⟩,
    sem_eq_zero_of_no_sems (by decide) r.2⟩) (run_fold m ρ)

end Cert.ReferenceIdeal.Value

end
-- ==== Proof.RefStep.lean ====
module

public import proofs.«01_k».proof.Proof.RefTrip
public import proofs.«01_k».proof.Proof.Spec
public import Idealize.ShloMosaic.Lib.Routing.Ops
public import Idealize.ShloMosaic.Lib.Routing.OpsPair
public import Idealize.ShloMosaic.Lib.Routing.OpsOne
public import Idealize.ShloMosaic.Lib.Tactic.WordOmega

@[expose] public section

noncomputable section

namespace Cert.ReferenceIdeal.Value

open Cert.ReferenceIdeal Cert.ReferenceIdeal.Gen Cert.Fps
open Idealize.ShloMosaic Idealize.ShloMosaic.TcCoe Idealize.ShloMosaic.Tactic
open Idealize.ShloMosaic.StableHlo

/-! ## The reference's arg-max is the first position of the largest value -/

/-- A pair of a value and a position, as the arg-max holds it. -/
abbrev pr {n : ℕ} (f : Fin n → EReal) (p : Fin n) : Ideal .f32 × BitVec 32 := (f p, BitVec.ofNat 32 p.val)

theorem slt_pos {n : ℕ} (hn : n < 2 ^ 31) (p q : Fin n) (h : p < q) : IntOp.cmpi .slt (BitVec.ofNat 32 p.val) (BitVec.ofNat 32 q.val) = 1#1 := by
  have hp := p.isLt; have hq := q.isLt; have hv : p.val < q.val := h
  show BitVec.ofBool (BitVec.slt _ _) = _
  rw [BitVec.slt_eq_decide, BitVec.toInt_eq_toNat_of_lt (by rw [BitVec.toNat_ofNat]; omega), BitVec.toInt_eq_toNat_of_lt (by rw [BitVec.toNat_ofNat]; omega),
    BitVec.toNat_ofNat, BitVec.toNat_ofNat, decide_eq_true (by omega)]
  rfl

theorem red_keep {n : ℕ} (hn : n < 2 ^ 31) (f : Fin n → EReal) (p q : Fin n) (hpq : p < q) (h : f q ≤ f p) :
    reducer_argmax_f32_i32 (F := Ideal) (pr f p) (pr f q) = pr f p := by
  have hs : IntOp.cmpi .slt (BitVec.ofNat 32 p.val) (BitVec.ofNat 32 q.val) = 1#1 := slt_pos hn p q hpq
  unfold reducer_argmax_f32_i32
  rcases lt_or_eq_of_le h with h | h
  · have o1 : ∀ x : BitVec 1, (1#1 ||| x) = 1#1 := by decide
    simp [Ideal.cmpf_def, Ideal.cmp, h, o1, IntOp.ori, IntOp.andi, Scalar.select]
  · simp [Ideal.cmpf_def, Ideal.cmp, h, IntOp.ori, IntOp.andi, Scalar.select, hs]
theorem red_take {n : ℕ} (hn : n < 2 ^ 31) (f : Fin n → EReal) (p q : Fin n) (h : f p < f q) :
    reducer_argmax_f32_i32 (F := Ideal) (pr f p) (pr f q) = pr f q := by
  unfold reducer_argmax_f32_i32
  simp [Ideal.cmpf_def, Ideal.cmp, h, h.ne, not_lt.mpr h.le, IntOp.ori, IntOp.andi, Scalar.select]
theorem red_init {n : ℕ} (f : Fin (n + 1) → EReal) :
    reducer_argmax_f32_i32 (F := Ideal) ((⊥ : EReal), 0#32) (pr f 0) = pr f 0 := by
  have hs : IntOp.cmpi .slt (0#32) (0#32) = 0#1 := by decide
  unfold reducer_argmax_f32_i32
  simp [Ideal.cmpf_def, Ideal.cmp, IntOp.ori, IntOp.andi, Scalar.select, hs]

theorem fold_first {n : ℕ} (hn : n < 2 ^ 31) (f : Fin n → EReal) : ∀ (L : List (Fin n)) (p : Fin n), (p :: L).Pairwise (· < ·) →
    ∃ q ∈ p :: L, (L.map (pr f)).foldl (reducer_argmax_f32_i32 (F := Ideal)) (pr f p) = pr f q
      ∧ (∀ r ∈ p :: L, f r ≤ f q) ∧ ∀ r ∈ p :: L, r < q → f r < f q
  | [], p, _ => ⟨p, List.mem_singleton_self p, rfl, fun r hr => by rw [List.mem_singleton.mp hr], fun r hr h => by
      rw [List.mem_singleton.mp hr] at h; exact absurd h (lt_irrefl _)⟩
  | b :: L, p, hp => by
    have hpb : p < b := (List.pairwise_cons.mp hp).1 b List.mem_cons_self
    have hbL := (List.pairwise_cons.mp hp).2
    rw [List.map_cons, List.foldl_cons]
    rcases le_or_gt (f b) (f p) with h | h
    · rw [red_keep hn f p b hpb h]
      obtain ⟨q, hq, e, h1, h2⟩ := fold_first hn f L p (List.pairwise_cons.mpr
        ⟨fun r hr => (List.pairwise_cons.mp hp).1 r (List.mem_cons_of_mem _ hr), (List.pairwise_cons.mp hbL).2⟩)
      have hpq := h1 p List.mem_cons_self
      refine ⟨q, ?_, e, fun r hr => ?_, fun r hr hrq => ?_⟩
      · rcases List.mem_cons.mp hq with rfl | hq
        · exact List.mem_cons_self
        · exact List.mem_cons_of_mem _ (List.mem_cons_of_mem _ hq)
      · rcases List.mem_cons.mp hr with rfl | hr
        · exact hpq
        · rcases List.mem_cons.mp hr with rfl | hr
          · exact h.trans hpq
          · exact h1 r (List.mem_cons_of_mem _ hr)
      · rcases List.mem_cons.mp hr with rfl | hr
        · exact h2 _ List.mem_cons_self hrq
        · rcases List.mem_cons.mp hr with rfl | hr
          · exact lt_of_le_of_lt h (h2 p List.mem_cons_self (hpb.trans hrq))
          · exact h2 r (List.mem_cons_of_mem _ hr) hrq
    · rw [red_take hn f p b h]
      obtain ⟨q, hq, e, h1, h2⟩ := fold_first hn f L b hbL
      have hbq := h1 b List.mem_cons_self
      refine ⟨q, List.mem_cons_of_mem _ hq, e, fun r hr => ?_, fun r hr hrq => ?_⟩
      · rcases List.mem_cons.mp hr with rfl | hr
        · exact h.le.trans hbq
        · exact h1 r hr
      · rcases List.mem_cons.mp hr with rfl | hr
        · exact lt_of_lt_of_le h hbq
        · exact h2 r hr hrq

theorem fold_fin (n : ℕ) (hn : n + 1 < 2 ^ 31) (f : Fin (n + 1) → EReal) (p : Fin (n + 1)) (hp : FM f p) :
    ((List.finRange (n + 1)).map (pr f)).foldl (reducer_argmax_f32_i32 (F := Ideal)) ((⊥ : EReal), 0#32) = pr f p := by
  have h0 : List.finRange (n + 1) = (0 : Fin (n + 1)) :: (List.finRange n).map Fin.succ := List.finRange_succ
  have hpw : ((0 : Fin (n + 1)) :: (List.finRange n).map Fin.succ).Pairwise (· < ·) := h0 ▸ List.pairwise_lt_finRange (n + 1)
  rw [h0, List.map_cons, List.foldl_cons, red_init]
  obtain ⟨q, hq, e, h1, h2⟩ := fold_first hn f _ _ hpw
  have hall : ∀ r : Fin (n + 1), r ∈ (0 : Fin (n + 1)) :: (List.finRange n).map Fin.succ := fun r => h0 ▸ List.mem_finRange r
  rw [e, FM.unique hp ⟨fun r => h1 r (hall r), fun r hr => h2 r (hall r) hr⟩]

theorem fiber_all (N : ℕ) (d : FVec Ideal (Routing.shape1 N) .f32) (h : (Routing.shape1 N).ReducesTo [0] S_) (j : S_.Idx) :
    Host.argReduceFiber d (iotaInDim (Routing.shape1 N) 32 0) h j = (List.finRange N).map (pr fun r => d (ix1 r)) := by
  unfold Host.argReduceFiber
  rw [List.filter_eq_self.2 fun n _ => decide_eq_true (funext fun a => a.elim0)]
  refine List.ext_getElem ?_ fun n h1 h2 => ?_
  · rw [List.length_map, List.length_map, List.length_finRange, List.length_finRange]; exact Routing.numel1 N
  · rw [List.getElem_map, List.getElem_map, Routing.symm1, List.getElem_finRange, List.getElem_finRange]
    rfl

/-- The position of the arg-max of `d`, as the reference computes it. -/
abbrev argT (d : FVec Ideal S50176 .f32) : IVec S_ 32 :=
  fun j => (Host.argReduce reducer_argmax_f32_i32 d (iotaInDim S50176 32 0) (constant S_ .f32 0xFF800000#32) (constantI S_ 32 0#32) reducesTo_S50176_S_d0 h_S_ j).2

theorem argT_at (d : FVec Ideal S50176 .f32) (j : S_.Idx) : argT d j = BitVec.ofNat 32 (amax fun r => d (ix1 r)).val := by
  show (Host.argReduce _ _ _ _ _ _ _ _).2 = _
  rw [Ideal.argReduce_eq_reduce2, Host.reduce2_eq_foldl_fiber]
  have hfib : Host.argReduceFiber d (iotaInDim S50176 32 0) reducesTo_S50176_S_d0 j = (List.finRange 50176).map (pr fun r => d (ix1 r)) := by
    exact fiber_all 50176 d _ j
  have e1 : ((constant S_ .f32 0xFF800000#32 : FVec Ideal S_ .f32) (Shape.Idx.first h_S_), (constantI S_ 32 0#32) (Shape.Idx.first h_S_)) = ((⊥ : EReal), 0#32) := by
    refine Prod.ext ?_ rfl
    exact neg_inf
  rw [hfib, e1]
  exact congrArg Prod.snd (fold_fin 50175 (by decide) (fun r => d (ix1 r)) _ (amax_FM _))

/-! ## One image's step, at an index -/

/-- The last chosen position: element `j - 1` of the list. -/
abbrev lastT (idx : IVec S1024 32) (j : IVec S_ 32) : IVec S_ 32 :=
  shapeCast S_ (Host.dynamicSlice S1 idx (fun k => (((![select (cmpi .slt (subi j (constantI S_ 32 1#32)) (constantI S_ 32 0#32)) (addi (id (subi j (constantI S_ 32 1#32))) (constantI S_ 32 1024#32)) (subi j (constantI S_ 32 1#32))] : Fin 1 → (⟨S_, .i32⟩ : BufTy).Contents (Elt Ideal))) k (Shape.Idx.first h_S_)).toInt) sliceFits_S1024_S1) shapeCasts_S1_S_

/-- The distances after a step, from the last chosen position. -/
abbrev distT (x : FVec Ideal S50176x96 .f32) (N dist : FVec Ideal S50176 .f32) (last : IVec S_ 32) : FVec Ideal S50176 .f32 :=
  minimumf dist (subf (addf N (broadcastInDim S50176 ![] bcast_S_S50176 (shapeCast S_ (Host.dynamicSlice S1 N (fun k => (((![select (cmpi .slt last (constantI S_ 32 0#32)) (addi last (constantI S_ 32 50176#32)) last] : Fin 1 → (⟨S_, .i32⟩ : BufTy).Contents (Elt Ideal))) k (Shape.Idx.first h_S_)).toInt) sliceFits_S50176_S1) shapeCasts_S1_S_))) (mulf (broadcastInDim S50176 ![] bcast_S_S50176 (constant S_ .f32 0x40000000#32)) (Host.dotGeneral dot_S50176x96_S96_S50176_1_0_0_n_n_n none x (shapeCast S96 (Host.dynamicSlice S1x96 x (fun k => (((![select (cmpi .slt last (constantI S_ 32 0#32)) (addi last (constantI S_ 32 50176#32)) last, select (cmpi .slt (constantI S_ 32 0#32) (constantI S_ 32 0#32)) (addi (constantI S_ 32 0#32) (constantI S_ 32 96#32)) (constantI S_ 32 0#32)] : Fin 2 → (⟨S_, .i32⟩ : BufTy).Contents (Elt Ideal))) k (Shape.Idx.first h_S_)).toInt) sliceFits_S50176x96_S1x96) shapeCasts_S1x96_S96))))

/-- The list with its element `j` set to `v`. -/
abbrev setT (idx : IVec S1024 32) (j v : IVec S_ 32) : IVec S1024 32 :=
  Host.scatter scatter_S1024_S1_S__n_0_0_0 (fun _ b => b) idx (broadcastInDim S1 ![] bcast_S_S1 (id (select (cmpi .slt j (constantI S_ 32 0#32)) (addi j (constantI S_ 32 1024#32)) j))) v

theorem v47_eq (V : Valuation τ sig (Elt Ideal)) : res_main_while0b_v47 V
    = distT (V (Proc.devRef .tc main_v12_0)) (V (Proc.devRef .tc main_v12_1)) (V (Proc.devRef .tc main_v12_7)) (lastT (V (Proc.devRef .tc main_v12_6)) (V (Proc.devRef .tc main_v12_5))) := rfl
theorem v81_eq (V : Valuation τ sig (Elt Ideal)) : res_main_while0b_v81 V
    = distT (V (Proc.devRef .tc main_v12_2)) (V (Proc.devRef .tc main_v12_3)) (V (Proc.devRef .tc main_v12_9)) (lastT (V (Proc.devRef .tc main_v12_8)) (V (Proc.devRef .tc main_v12_5))) := rfl

/-- A word below 2^31 is not negative: the select that wraps a negative position keeps it. -/
theorem keep_pos (w y : BitVec 32) (n : ℕ) (hn : n < 2 ^ 31) (h : w = BitVec.ofNat 32 n) : Scalar.select (IntOp.cmpi .slt w 0#32) y w = BitVec.ofNat 32 n := by
  have h0 : IntOp.cmpi .slt w 0#32 = 0#1 := by
    rw [h]
    show BitVec.ofBool (BitVec.slt _ _) = _
    rw [BitVec.slt_eq_decide, StableHlo.Predicate.toInt_ofNat_small _ hn, decide_eq_false (by rw [show (0#32 : BitVec 32).toInt = 0 from rfl]; omega)]
    rfl
  rw [h0, ← h]
  rfl

/-- Its signed reading. -/
theorem keep_int (w y : BitVec 32) (n : ℕ) (hn : n < 2 ^ 31) (h : w = BitVec.ofNat 32 n) : (Scalar.select (IntOp.cmpi .slt w 0#32) y w).toInt = n := by
  rw [keep_pos w y n hn h, StableHlo.Predicate.toInt_ofNat_small _ hn]

theorem sub_one (w : BitVec 32) (n : ℕ) (h : w = BitVec.ofNat 32 (n + 1)) : IntOp.subi w 1#32 = BitVec.ofNat 32 n := by
  rw [h, BitVec.ofNat_add]
  show BitVec.ofNat 32 n + 1#32 - 1#32 = _
  rw [BitVec.add_sub_cancel]

/-- One element sliced from a row at a start inside it. -/
theorem ds1 {α : Type} {B : ℕ} (x : (Routing.shape1 B).Idx → α) (st : Fin 1 → Int) (h : (Routing.shape1 B).Slices (fun _ => 0) (Routing.shape1 1)) (q : (Routing.shape1 1).Idx)
    (k : Fin B) (hs : st 0 = (k.val : Int)) : Host.dynamicSlice (Routing.shape1 1) x st h q = x (ix1 k) := by
  rw [Host.dynamicSlice_apply]
  refine congrArg x (funext fun a => Fin.ext ?_)
  match a with
  | ⟨0, _⟩ =>
    have h0 : (q 0).val = 0 := by have : (q 0).val < 1 := (q 0).isLt; omega
    show Host.clampedStart _ _ h.1 st 0 + (q 0).val = k.val
    rw [h0, Host.clampedStart_of_le h.1 st 0 k.val hs k.isLt, Nat.add_zero]

/-- One row sliced from a table at a start inside it. -/
theorem ds2 {α : Type} {B C : ℕ} (x : (Routing.shape2 B C).Idx → α) (st : Fin 2 → Int) (h : (Routing.shape2 B C).Slices (fun _ => 0) (Routing.shape2 1 C)) (l : Fin C)
    (k : Fin B) (hs : st 0 = (k.val : Int)) (h1 : st 1 = 0) : Host.dynamicSlice (Routing.shape2 1 C) x st h (ix2 0 l) = x (ix2 k l) := by
  rw [Host.dynamicSlice_apply]
  refine congrArg x (funext fun a => Fin.ext ?_)
  match a with
  | ⟨0, _⟩ =>
    show Host.clampedStart _ _ h.1 st 0 + 0 = k.val
    rw [Host.clampedStart_of_le h.1 st 0 k.val hs k.isLt]
    rfl
  | ⟨1, _⟩ =>
    show Host.clampedStart _ _ h.1 st 1 + l.val = l.val
    rw [Host.clampedStart_of_le h.1 st 1 0 h1 (by show 0 + C ≤ C; omega), Nat.zero_add]

theorem cast_const {α : Type} {s t : Shape} (x : s.Idx → α) (h : s.ShapeCasts t) (v : α) (hx : ∀ q, x q = v) (q : t.Idx) : shapeCast t x h q = v := by
  rw [Pointwise.shapeCast_apply]
  exact hx _

theorem last_at (idx : IVec S1024 32) (j : IVec S_ 32) (k : Fin 1024) (hj : ∀ q, j q = BitVec.ofNat 32 (k.val + 1)) (q : S_.Idx) :
    lastT idx j q = idx (ix1 k) := by
  have hk : k.val < 2 ^ 31 := Nat.lt_of_lt_of_le k.isLt (by norm_num)
  refine cast_const _ _ _ (fun q => ds1 (B := 1024) idx _ _ q k ?_) q
  exact keep_int _ _ k.val hk (sub_one _ _ (hj (Shape.Idx.first h_S_)))

theorem dist_core (x : FVec Ideal S50176x96 .f32) (N dist : FVec Ideal S50176 .f32) (pv : FVec Ideal S_ .f32) (qv : FVec Ideal S96 .f32) (p r : Fin 50176)
    (hp : ∀ q, pv q = N (ix1 p)) (hq : ∀ l, qv (ix1 l) = x (ix2 p l)) :
    (minimumf dist (subf (addf N (broadcastInDim S50176 ![] bcast_S_S50176 pv)) (mulf (broadcastInDim S50176 ![] bcast_S_S50176 (constant S_ .f32 0x40000000#32)) (Host.dotGeneral dot_S50176x96_S96_S50176_1_0_0_n_n_n none x qv))) : FVec Ideal S50176 .f32) (ix1 r)
      = stepDist (fun r => N (ix1 r)) (fun l r => x (ix2 r l)) (fun r => dist (ix1 r)) p r := by
  unfold stepDist
  pointwise
  simp only [hp, hq, mul_comm]

theorem cast_row {α : Type} (y : S1x96.Idx → α) (l : Fin 96) : shapeCast S96 y shapeCasts_S1x96_S96 (ix1 l) = y (ix2 0 l) := by
  pointwise

theorem dist_at (x : FVec Ideal S50176x96 .f32) (N dist : FVec Ideal S50176 .f32) (last : IVec S_ 32) (p : Fin 50176) (hl : ∀ q, last q = BitVec.ofNat 32 p.val) (r : Fin 50176) :
    distT x N dist last (ix1 r) = stepDist (fun r => N (ix1 r)) (fun l r => x (ix2 r l)) (fun r => dist (ix1 r)) p r := by
  have hp : p.val < 2 ^ 31 := Nat.lt_of_lt_of_le p.isLt (by norm_num)
  refine dist_core x N dist _ _ p r (fun q => cast_const _ _ _ (fun q => ds1 (B := 50176) N _ _ q p ?_) q) (fun l => (cast_row _ l).trans (ds2 (B := 50176) (C := 96) x _ _ l p ?_ ?_))
  · exact keep_int _ _ p.val hp (hl (Shape.Idx.first h_S_))
  · exact keep_int _ _ p.val hp (hl (Shape.Idx.first h_S_))
  · exact keep_int 0#32 (IntOp.addi 0#32 96#32) 0 (by norm_num) rfl

theorem set_at (idx : IVec S1024 32) (j v : IVec S_ 32) (k : Fin 1024) (hj : ∀ q, j q = BitVec.ofNat 32 k.val) (a : Fin 1024) :
    setT idx j v (ix1 a) = if a = k then v ix0 else idx (ix1 a) := by
  have hk := k.isLt
  refine Routing.scatter_one_signed (N := 1024) scatter_S1024_S1_S__n_0_0_0 rfl rfl idx _ v k ?_ a
  pointwise
  exact keep_int _ _ _ (by omega) (hj _)

end Cert.ReferenceIdeal.Value

end
-- ==== Proof.RefVal.lean ====
module

public import proofs.«01_k».proof.Proof.RefStep
public import Idealize.ShloMosaic.Lib.StableHlo.ReadAt

@[expose] public section

noncomputable section

namespace Cert.ReferenceIdeal.Value

open Cert.ReferenceIdeal Cert.ReferenceIdeal.Gen Cert.Fps
open Idealize.ShloMosaic Idealize.ShloMosaic.TcCoe Idealize.ShloMosaic.Tactic
open Idealize.SL Idealize.SL.Sem
open Idealize.ShloMosaic.StableHlo

variable (m : (ℓ : Loc nD τ sig) → Buf (Elt Ideal) ℓ)

/-- The argument's elements. -/
abbrev img (c : Dev nD) : Img := fun i l a b => (m ((c.tc : Thread nD τ).loc main_arg0) : FVec Ideal S2x96x224x224 .f32) (ix4 i l a b)

/-- One image's buffers before trip `k`: its pixels, their squared lengths, the list filled up to `k` and the distances of choice `k`. -/
structure ImgInv (A : Img) (i : Fin 2) (k : ℕ) (x : FVec Ideal S50176x96 .f32) (N : FVec Ideal S50176 .f32) (idx : IVec S1024 32) (dist : FVec Ideal S50176 .f32) : Prop where
  hx : ∀ r l, x (ix2 r l) = pix A i l r
  hN : ∀ r, N (ix1 r) = nrm A i r
  hi : ∀ e : Fin 1024, e.val ≤ k → idx (ix1 e) = BitVec.ofNat 32 (pick A i e.val).val
  hd : ∀ r, dist (ix1 r) = (sel (nrm A i) (pix A i) k).2 r

/-- One trip keeps it. -/
theorem ImgInv.step {A : Img} {i : Fin 2} {k : ℕ} {x : FVec Ideal S50176x96 .f32} {N : FVec Ideal S50176 .f32} {idx : IVec S1024 32} {dist : FVec Ideal S50176 .f32}
    (h : ImgInv A i k x N idx dist) (hk : k < 1023) (j : IVec S_ 32) (hj : ∀ q, j q = BitVec.ofNat 32 (k + 1)) :
    ImgInv A i (k + 1) x N (setT idx j (argT (distT x N dist (lastT idx j)))) (distT x N dist (lastT idx j)) := by
  have hl : ∀ q, lastT idx j q = BitVec.ofNat 32 (sel (nrm A i) (pix A i) k).1.val := fun q =>
    (last_at idx j ⟨k, by omega⟩ hj q).trans (h.hi ⟨k, by omega⟩ (le_refl k))
  have hD : ∀ r, distT x N dist (lastT idx j) (ix1 r) = stepDist (nrm A i) (pix A i) (sel (nrm A i) (pix A i) k).2 (sel (nrm A i) (pix A i) k).1 r := fun r => by
    rw [dist_at x N dist _ _ hl r, show (fun r => N (ix1 r)) = nrm A i from funext h.hN, show (fun r => dist (ix1 r)) = _ from funext h.hd,
      show (fun l r => x (ix2 r l)) = pix A i from funext fun l => funext fun r => h.hx r l]
  refine ⟨h.hx, h.hN, fun e he => ?_, fun r => by rw [hD, sel_succ]⟩
  rw [set_at idx j _ ⟨k + 1, by omega⟩ hj e]
  by_cases hek : e = ⟨k + 1, by omega⟩
  · rw [if_pos hek, argT_at, hek]
    unfold pick
    rw [sel_succ, show (fun r => distT x N dist (lastT idx j) (ix1 r)) = _ from funext hD]
  · rw [if_neg hek]
    refine h.hi e ?_
    have : e.val ≠ k + 1 := fun hh => hek (Fin.ext hh)
    omega

/-- The carried buffers before trip `k`. -/
structure Inv (A : Img) (k : ℕ) (V : Valuation τ sig (Elt Ideal)) : Prop where
  hj : ∀ q, (V (Proc.devRef .tc main_v12_5) : IVec S_ 32) q = BitVec.ofNat 32 (k + 1)
  h0 : ImgInv A 0 k (V (Proc.devRef .tc main_v12_0)) (V (Proc.devRef .tc main_v12_1)) (V (Proc.devRef .tc main_v12_6)) (V (Proc.devRef .tc main_v12_7))
  h1 : ImgInv A 1 k (V (Proc.devRef .tc main_v12_2)) (V (Proc.devRef .tc main_v12_3)) (V (Proc.devRef .tc main_v12_8)) (V (Proc.devRef .tc main_v12_9))

set_option maxRecDepth 8192 in
theorem s6_eq (V : Valuation τ sig (Elt Ideal)) : step_main_v12_6 V
    = setT (V (Proc.devRef .tc main_v12_6)) (V (Proc.devRef .tc main_v12_5)) (argT (distT (V (Proc.devRef .tc main_v12_0)) (V (Proc.devRef .tc main_v12_1)) (V (Proc.devRef .tc main_v12_7)) (lastT (V (Proc.devRef .tc main_v12_6)) (V (Proc.devRef .tc main_v12_5))))) := by
  rw [← v47_eq]
  rfl
set_option maxRecDepth 8192 in
theorem s8_eq (V : Valuation τ sig (Elt Ideal)) : step_main_v12_8 V
    = setT (V (Proc.devRef .tc main_v12_8)) (V (Proc.devRef .tc main_v12_5)) (argT (distT (V (Proc.devRef .tc main_v12_2)) (V (Proc.devRef .tc main_v12_3)) (V (Proc.devRef .tc main_v12_9)) (lastT (V (Proc.devRef .tc main_v12_8)) (V (Proc.devRef .tc main_v12_5))))) := by
  rw [← v81_eq]
  rfl
theorem s7_eq (V : Valuation τ sig (Elt Ideal)) : step_main_v12_7 V
    = distT (V (Proc.devRef .tc main_v12_0)) (V (Proc.devRef .tc main_v12_1)) (V (Proc.devRef .tc main_v12_7)) (lastT (V (Proc.devRef .tc main_v12_6)) (V (Proc.devRef .tc main_v12_5))) :=
  (id_eq _).trans (v47_eq V)
theorem s9_eq (V : Valuation τ sig (Elt Ideal)) : step_main_v12_9 V
    = distT (V (Proc.devRef .tc main_v12_2)) (V (Proc.devRef .tc main_v12_3)) (V (Proc.devRef .tc main_v12_9)) (lastT (V (Proc.devRef .tc main_v12_8)) (V (Proc.devRef .tc main_v12_5))) :=
  (id_eq _).trans (v81_eq V)

theorem add_one (j : IVec S_ 32) (n : ℕ) (h : ∀ q, j q = BitVec.ofNat 32 n) (q : S_.Idx) : addi j (constantI S_ 32 1#32) q = BitVec.ofNat 32 (n + 1) := by
  rw [BitVec.ofNat_add, ← h q]
  rfl

theorem Inv.step {A : Img} {k : ℕ} {V : Valuation τ sig (Elt Ideal)} (h : Inv A k V) (hk : k < 1023) : Inv A (k + 1) (STEP V) where
  hj q := by
    rw [STEP_main_v12_5]
    exact add_one _ _ h.hj q
  h0 := by
    rw [STEP_main_v12_0, STEP_main_v12_1, STEP_main_v12_6, STEP_main_v12_7, s6_eq, s7_eq]
    exact h.h0.step hk _ h.hj
  h1 := by
    rw [STEP_main_v12_2, STEP_main_v12_3, STEP_main_v12_8, STEP_main_v12_9, s8_eq, s9_eq]
    exact h.h1.step hk _ h.hj

/-! ## The loop's entry -/

theorem x0_entry (c : Dev nD) (r : Fin 50176) (l : Fin 96) : (entryContents preI m c (Proc.devRef .tc main_v12_0) : FVec Ideal S50176x96 .f32) (ix2 r l) = pix (img m c) 0 l r := by
  show (afterL preI (fun r => m (c, r)) (Proc.devRef .tc main_v12_0) : FVec Ideal S50176x96 .f32) (ix2 r l) = _
  simp only [afterL_cons, afterL_nil]
  after_reads_at
  rfl

theorem n0_entry (c : Dev nD) (r : Fin 50176) : (entryContents preI m c (Proc.devRef .tc main_v12_1) : FVec Ideal S50176 .f32) (ix1 r) = nrm (img m c) 0 r := by
  show (afterL preI (fun r => m (c, r)) (Proc.devRef .tc main_v12_1) : FVec Ideal S50176 .f32) (ix1 r) = _
  simp only [afterL_cons, afterL_nil]
  after_reads_at
  simp only [id_eq]
  pointwise
  rfl

theorem i0_entry (c : Dev nD) (e : Fin 1024) : (entryContents preI m c (Proc.devRef .tc main_v12_6) : IVec S1024 32) (ix1 e) = 0#32 := by
  show (afterL preI (fun r => m (c, r)) (Proc.devRef .tc main_v12_6) : IVec S1024 32) (ix1 e) = _
  simp only [afterL_cons, afterL_nil]
  after_reads_at
  rfl

theorem d0_entry (c : Dev nD) (r : Fin 50176) : (entryContents preI m c (Proc.devRef .tc main_v12_7) : FVec Ideal S50176 .f32) (ix1 r) = Ideal.ofBits .f32 0x7F800000#32 := by
  show (afterL preI (fun r => m (c, r)) (Proc.devRef .tc main_v12_7) : FVec Ideal S50176 .f32) (ix1 r) = _
  simp only [afterL_cons, afterL_nil]
  after_reads_at
  rfl

theorem x1_entry (c : Dev nD) (r : Fin 50176) (l : Fin 96) : (entryContents preI m c (Proc.devRef .tc main_v12_2) : FVec Ideal S50176x96 .f32) (ix2 r l) = pix (img m c) 1 l r := by
  show (afterL preI (fun r => m (c, r)) (Proc.devRef .tc main_v12_2) : FVec Ideal S50176x96 .f32) (ix2 r l) = _
  simp only [afterL_cons, afterL_nil]
  after_reads_at
  rfl

theorem n1_entry (c : Dev nD) (r : Fin 50176) : (entryContents preI m c (Proc.devRef .tc main_v12_3) : FVec Ideal S50176 .f32) (ix1 r) = nrm (img m c) 1 r := by
  show (afterL preI (fun r => m (c, r)) (Proc.devRef .tc main_v12_3) : FVec Ideal S50176 .f32) (ix1 r) = _
  simp only [afterL_cons, afterL_nil]
  after_reads_at
  simp only [id_eq]
  pointwise
  rfl

theorem i1_entry (c : Dev nD) (e : Fin 1024) : (entryContents preI m c (Proc.devRef .tc main_v12_8) : IVec S1024 32) (ix1 e) = 0#32 := by
  show (afterL preI (fun r => m (c, r)) (Proc.devRef .tc main_v12_8) : IVec S1024 32) (ix1 e) = _
  simp only [afterL_cons, afterL_nil]
  after_reads_at
  rfl

theorem d1_entry (c : Dev nD) (r : Fin 50176) : (entryContents preI m c (Proc.devRef .tc main_v12_9) : FVec Ideal S50176 .f32) (ix1 r) = Ideal.ofBits .f32 0x7F800000#32 := by
  show (afterL preI (fun r => m (c, r)) (Proc.devRef .tc main_v12_9) : FVec Ideal S50176 .f32) (ix1 r) = _
  simp only [afterL_cons, afterL_nil]
  after_reads_at
  rfl

theorem j_entry (c : Dev nD) (q : S_.Idx) : (entryContents preI m c (Proc.devRef .tc main_v12_5) : IVec S_ 32) (q) = 1#32 := by
  show (afterL preI (fun r => m (c, r)) (Proc.devRef .tc main_v12_5) : IVec S_ 32) (q) = _
  simp only [afterL_cons, afterL_nil]
  after_reads_at
  rfl

theorem inv_entry (c : Dev nD) : Inv (img m c) 0 (entryContents preI m c) where
  hj := j_entry m c
  h0 := ⟨x0_entry m c, n0_entry m c, fun e he => by
      rw [i0_entry, Nat.le_zero.mp he]
      unfold pick
      rw [sel]
      rfl, fun r => by
      rw [d0_entry, sel]⟩
  h1 := ⟨x1_entry m c, n1_entry m c, fun e he => by
      rw [i1_entry, Nat.le_zero.mp he]
      unfold pick
      rw [sel]
      rfl, fun r => by
      rw [d1_entry, sel]⟩

theorem inv_all (c : Dev nD) : ∀ k, k ≤ 1023 → Inv (img m c) k (STEP^[k] (entryContents preI m c))
  | 0, _ => inv_entry m c
  | k + 1, hk => by
    rw [Function.iterate_succ_apply']
    exact (inv_all c k (by omega)).step (by omega)

/-- After the loop each image's list holds the positions chosen in it. -/
theorem end0 (c : Dev nD) (e : Fin 1024) : (after condOps (atK m 1023 c) (Proc.devRef .tc main_v12_6) : IVec S1024 32) (ix1 e) = BitVec.ofNat 32 (pick (img m c) 0 e.val).val := by
  rw [cond_keeps (atK m 1023 c) main_v12_6 (by decide), atK_agree m c 1023 main_v12_6 (by decide)]
  exact (inv_all m c 1023 (le_refl _)).h0.hi e (by omega)
theorem end1 (c : Dev nD) (e : Fin 1024) : (after condOps (atK m 1023 c) (Proc.devRef .tc main_v12_8) : IVec S1024 32) (ix1 e) = BitVec.ofNat 32 (pick (img m c) 1 e.val).val := by
  rw [cond_keeps (atK m 1023 c) main_v12_8 (by decide), atK_agree m c 1023 main_v12_8 (by decide)]
  exact (inv_all m c 1023 (le_refl _)).h1.hi e (by omega)

/-! ## The pixel table is never written by the loop -/

theorem tab_cond (V : Valuation τ sig (Elt Ideal)) : after condOps V (Proc.devRef .tc main_v1) = V (Proc.devRef .tc main_v1) :=
  after_of_writes_sub condOps V condOps_writes (by decide +kernel)

theorem tab_body (V : Valuation τ sig (Elt Ideal)) : afterL bodyI V (Proc.devRef .tc main_v1) = V (Proc.devRef .tc main_v1) := by
  simp only [afterL_cons, afterL_nil]
  rw [after_of_writes_sub while0Ops0_4 _ while0Ops0_4_writes (by decide +kernel),
    after_of_writes_sub while0Ops0_3 _ while0Ops0_3_writes (by decide +kernel),
    after_of_writes_sub while0Ops0_2 _ while0Ops0_2_writes (by decide +kernel),
    after_of_writes_sub while0Ops0_1 _ while0Ops0_1_writes (by decide +kernel),
    after_of_writes_sub while0Ops0 _ while0Ops0_writes (by decide +kernel)]

theorem tab_atTrip (W₀ : Dev nD → Valuation τ sig (Elt Ideal)) (c : Dev nD) :
    ∀ k, atTrip condOps bodyI W₀ k c (Proc.devRef .tc main_v1) = W₀ c (Proc.devRef .tc main_v1)
  | 0 => rfl
  | k + 1 => by
    show afterL bodyI (after condOps (atTrip condOps bodyI W₀ k c)) (Proc.devRef .tc main_v1) = _
    rw [tab_body, tab_cond, tab_atTrip W₀ c k]

theorem tab_entry (c : Dev nD) (i : Fin 2) (r : Fin 50176) (l : Fin 96) : (entryContents preI m c (Proc.devRef .tc main_v1) : FVec Ideal S2x50176x96 .f32) (ix3 i r l) = pix (img m c) i l r := by
  show (afterL preI (fun r => m (c, r)) (Proc.devRef .tc main_v1) : FVec Ideal S2x50176x96 .f32) (ix3 i r l) = _
  simp only [afterL_cons, afterL_nil]
  after_reads_at
  rfl

theorem tab_end (c : Dev nD) (i : Fin 2) (r : Fin 50176) (l : Fin 96) : (after condOps (atK m 1023 c) (Proc.devRef .tc main_v1) : FVec Ideal S2x50176x96 .f32) (ix3 i r l) = pix (img m c) i l r := by
  exact (congrFun (tab_cond _) _).trans ((congrFun (tab_atTrip (entryContents preI m) c 1023) _).trans (tab_entry m c i r l))

end Cert.ReferenceIdeal.Value

end
-- ==== Proof.RefOut.lean ====
module

public import proofs.«01_k».proof.Proof.RefVal

@[expose] public section

noncomputable section

namespace Cert.ReferenceIdeal.Value

open Cert.ReferenceIdeal Cert.ReferenceIdeal.Gen Cert.Fps
open Idealize.ShloMosaic Idealize.ShloMosaic.TcCoe Idealize.ShloMosaic.Tactic
open Idealize.SL Idealize.SL.Sem
open Idealize.ShloMosaic.StableHlo
open Idealize.ShloMosaic.Routing (shape3)

variable (m : (ℓ : Loc nD τ sig) → Buf (Elt Ideal) ℓ)

/-! ## Reading a table at listed positions -/

theorem one_ne : (1 : Fin 3) ∉ ([0] : List (Fin 3)) := by decide
theorem two_ne0 : (2 : Fin 3) ∉ ([0] : List (Fin 3)) := by decide
theorem two_ne1 : (2 : Fin 3) ∉ ([1] : List (Fin 3)) := by decide

/-- Rows of each image's table at that image's listed positions: at image `i`, entry `e`, channel `l`, the table's row the list names. -/
theorem gather_at {α : Type} {P R C n : ℕ} (d : GatherDims (shape3 P R C) (shape3 P n 1) (shape3 P n C)) (hoff : d.offsetDims = [2])
    (hcoll : d.collapsedSliceDims = [1]) (hob : d.operandBatchingDims = [0]) (hsb : d.startIndicesBatchingDims = [0])
    (hsim : d.startIndexMap = [1]) (hivd : d.indexVectorDim = 2) (x : (shape3 P R C).Idx → α) (idx : IVec (shape3 P n 1) 32)
    (i : Fin P) (e : Fin n) (l : Fin C) (b : Fin R) (hb : idx (ix3 i e (0 : Fin 1)) = BitVec.ofNat 32 b.val) (hR : R < 2 ^ 31) :
    Host.gather d x idx (ix3 i e l) = x (ix3 i b l) := by
  unfold Host.gather
  have hbl := b.isLt
  have q10 := one_ne
  have q20 := two_ne0
  have q21 := two_ne1
  have v0 : ∀ X : Fin 3, X = 0 → (ix3 i e l X).val = i.val := fun X h => by subst h; rfl
  have v1 : ∀ X : Fin 3, X = 1 → (ix3 i e l X).val = e.val := fun X h => by subst h; rfl
  have v2 : ∀ X : Fin 3, X = 2 → (ix3 i e l X).val = l.val := fun X h => by subst h; rfl
  have hbd : d.batchDims = [0, 1] := by
    show (shape3 P n C).kept d.offsetDims = _
    rw [hoff]
    rfl
  have hsk : d.siKept = [0, 1] := by
    show (List.finRange 3).filter (·.val ≠ d.indexVectorDim) = _
    rw [hivd]
    rfl
  have c0 : ∀ hm, (d.siCoord (ix3 i e l) 0 hm).val = i.val := fun hm => by
    unfold GatherDims.siCoord
    simp only [Fin.val_cast]
    exact v0 _ (by simp [hbd, hsk])
  have c1 : ∀ hm, (d.siCoord (ix3 i e l) 1 hm).val = e.val := fun hm => by
    unfold GatherDims.siCoord
    simp only [Fin.val_cast]
    exact v1 _ (by simp [hbd, hsk])
  have n0 : (0 : Fin 3) ∉ d.sKept := fun h => ((d.mem_sKept 0).1 h).2 (by rw [hob]; exact List.mem_singleton.2 rfl)
  have n1 : (1 : Fin 3) ∉ d.sKept := fun h => ((d.mem_sKept 1).1 h).1 (by rw [hcoll]; exact List.mem_singleton.2 rfl)
  have b1 : (1 : Fin 3) ∉ d.operandBatchingDims := by rw [hob]; exact q10
  have b2 : (2 : Fin 3) ∉ d.operandBatchingDims := by rw [hob]; exact q20
  refine congrArg x (funext fun a => Fin.ext ?_)
  match a with
  | ⟨0, _⟩ =>
    show d.start (ix3 i e l) idx 0 + d.batchCoord (ix3 i e l) 0 + d.offCoord (ix3 i e l) 0 = i.val
    rw [d.offCoord_eq_zero _ _ n0, d.start_batching _ _ _ (by rw [hob]; exact List.mem_singleton.2 rfl), Nat.zero_add, Nat.add_zero]
    unfold GatherDims.batchCoord
    rw [dif_pos (by rw [hob]; exact List.mem_singleton.2 rfl)]
    have key : ∀ (X : Fin 3) (hX : X ∈ d.siKept), X = 0 → (d.siCoord (ix3 i e l) X hX).val = i.val := fun X hX h => by subst h; exact c0 hX
    exact key _ _ (by simp [hob, hsb])
  | ⟨1, _⟩ =>
    show d.start (ix3 i e l) idx 1 + d.batchCoord (ix3 i e l) 1 + d.offCoord (ix3 i e l) 1 = b.val
    have hm : (1 : Fin 3) ∈ d.startIndexMap := by rw [hsim]; exact List.mem_singleton.2 rfl
    have hsl : d.sliceSizes 1 = 1 := d.slice_collapsed 1 (by rw [hcoll]; exact List.mem_singleton.2 rfl)
    rw [d.batchCoord_eq_zero _ _ b1, d.offCoord_eq_zero _ _ n1]
    simp only [Nat.add_zero]
    unfold GatherDims.start
    rw [dif_pos hm]
    have hsi : d.siIdx (ix3 i e l) ⟨d.startIndexMap.idxOf 1, List.idxOf_lt_length_iff.2 hm⟩ = ix3 i e (0 : Fin 1) := by
      funext b'
      apply Fin.ext
      match b' with
      | ⟨0, _⟩ =>
        unfold GatherDims.siIdx
        rw [dif_neg (by rw [hivd]; show ¬ (0 : ℕ) = 2; omega)]
        exact c0 _
      | ⟨1, _⟩ =>
        unfold GatherDims.siIdx
        rw [dif_neg (by rw [hivd]; show ¬ (1 : ℕ) = 2; omega)]
        exact c1 _
      | ⟨2, _⟩ =>
        unfold GatherDims.siIdx
        rw [dif_pos (by rw [hivd])]
        show List.idxOf (1 : Fin 3) d.startIndexMap = 0
        rw [hsim]; simp
    rw [hsi, hb, hsl, StableHlo.Predicate.toInt_ofNat_small _ (by omega)]
    show min ((b.val : Int)).toNat (R - 1) = b.val
    omega
  | ⟨2, _⟩ =>
    show d.start (ix3 i e l) idx 2 + d.batchCoord (ix3 i e l) 2 + d.offCoord (ix3 i e l) 2 = l.val
    have hm : (2 : Fin 3) ∉ d.startIndexMap := by rw [hsim]; exact q21
    have hk : (2 : Fin 3) ∈ d.sKept := (d.mem_sKept 2).2 ⟨by rw [hcoll]; exact q21, b2⟩
    rw [d.batchCoord_eq_zero _ _ b2, Nat.add_zero]
    unfold GatherDims.start GatherDims.offCoord
    rw [dif_neg hm, dif_pos hk, Nat.zero_add]
    have hk2 : ∀ k ∈ d.offsetDims, k = (2 : Fin 3) := fun k hk => by rw [hoff] at hk; exact List.mem_singleton.1 hk
    exact v2 _ (hk2 _ (List.getElem_mem _))

/-! ## After the loop -/

/-- The listed positions, wrapped where negative. -/
abbrev wrapT (v : IVec S2x1024x1 32) : IVec S2x1024x1 32 :=
  select (cmpi .slt v (broadcastInDim S2x1024x1 ![] bcast_S_S2x1024x1 (constantI S_ 32 0#32))) (addi v (broadcastInDim S2x1024x1 ![] bcast_S_S2x1024x1 (constantI S_ 32 50176#32))) v

/-- Which of them are inside the table. -/
abbrev inT (w : IVec S2x1024x1 32) : IVec S2x1024x1 1 :=
  andi (cmpi .sge w (broadcastInDim S2x1024x1 ![] bcast_S_S2x1024x1 (constantI S_ 32 0#32)))
    (cmpi .sle w (broadcastInDim S2x1024x1 ![0, 1, 2] bcast_S1x1x1_S2x1024x1_0_1_2 (broadcastInDim S1x1x1 ![2] bcast_S1_S1x1x1_2 (constantI S1 32 50175#32))))

/-- The table's rows at the listed positions. -/
abbrev takeT (x : FVec Ideal S2x50176x96 .f32) (v : IVec S2x1024x1 32) : FVec Ideal S2x1024x96 .f32 :=
  select (broadcastInDim S2x1024x96 ![0, 1] bcast_S2x1024_S2x1024x96_0_1 (Host.reduce IntOp.andi (inT (wrapT v)) (constantI S_ 1 1#1) reducesTo_S2x1024x1_S2x1024_d2 h_S_))
    (Host.gather gather_S2x50176x96_S2x1024x1_S2x1024x96_2_1_0_0_1_2_1196 x (wrapT v))
    (broadcastInDim S2x1024x96 ![] bcast_S_S2x1024x96 (constant S_ .f32 0x7FC00000#32))

theorem v17_eq (V : Valuation τ sig (Elt Ideal)) : after hostOps0_2 V (Proc.devRef .tc main_v17) = takeT (V (Proc.devRef .tc main_v1)) (V (Proc.devRef .tc main_v16)) := by
  after_reads_simp
  rfl

theorem v1_keep (V : Valuation τ sig (Elt Ideal)) : after hostOps0_1 V (Proc.devRef .tc main_v1) = V (Proc.devRef .tc main_v1) := by
  after_reads_simp

theorem v16_at0 (V : Valuation τ sig (Elt Ideal)) (e : Fin 1024) : (after hostOps0_1 V (Proc.devRef .tc main_v16) : IVec S2x1024x1 32) (ix3 0 e 0) = (V (Proc.devRef .tc main_v12_6) : IVec S1024 32) (ix1 e) := by
  after_reads_at
  unfold upto
  simp only [List.take_succ_cons, List.take_zero]
  after_reads_at
theorem v16_at1 (V : Valuation τ sig (Elt Ideal)) (e : Fin 1024) : (after hostOps0_1 V (Proc.devRef .tc main_v16) : IVec S2x1024x1 32) (ix3 1 e 0) = (V (Proc.devRef .tc main_v12_8) : IVec S1024 32) (ix1 e) := by
  after_reads_at
  unfold upto
  simp only [List.take_succ_cons, List.take_zero]
  after_reads_at

theorem v19_at (V : Valuation τ sig (Elt Ideal)) (i : Fin 2) (l : Fin 96) (a b : Fin 32) : (after hostOps0_3 V (Proc.devRef .tc main_v19) : FVec Ideal S2x96x32x32 .f32) (ix4 i l a b)
    = (V (Proc.devRef .tc main_v17) : FVec Ideal S2x1024x96 .f32) (ix3 i ⟨32 * a.val + b.val, by omega⟩ l) := by
  after_reads_at
  refine congrArg (fun t => (V (Proc.devRef .tc main_v17) : FVec Ideal S2x1024x96 .f32) (ix3 i t l)) (Fin.ext ?_)
  show a.val * 32 + b.val = 32 * a.val + b.val
  omega

theorem cmp_in (w : BitVec 32) (n : ℕ) (hn : n < 50176) (h : w = BitVec.ofNat 32 n) : IntOp.andi (IntOp.cmpi .sge w 0#32) (IntOp.cmpi .sle w 50175#32) = 1#1 := by
  have ht : w.toInt = n := by rw [h, StableHlo.Predicate.toInt_ofNat_small _ (by omega)]
  have h1 : IntOp.cmpi .sge w 0#32 = 1#1 := by
    show BitVec.ofBool (BitVec.sle 0#32 w) = _
    rw [BitVec.sle_eq_decide, ht, decide_eq_true (by rw [show (0#32 : BitVec 32).toInt = 0 from rfl]; omega)]
    rfl
  have h2 : IntOp.cmpi .sle w 50175#32 = 1#1 := by
    show BitVec.ofBool (BitVec.sle w 50175#32) = _
    rw [BitVec.sle_eq_decide, ht, decide_eq_true (by rw [show (50175#32 : BitVec 32).toInt = 50175 from rfl]; omega)]
    rfl
  rw [h1, h2]
  rfl

theorem inT_at (w : IVec S2x1024x1 32) (i : Fin 2) (e : Fin 1024) (p : Fin 50176) (h : w (ix3 i e 0) = BitVec.ofNat 32 p.val) : inT w (ix3 i e 0) = 1#1 := by
  pointwise
  exact cmp_in _ p.val p.isLt h

theorem wrapT_at (v : IVec S2x1024x1 32) (i : Fin 2) (e : Fin 1024) (p : Fin 50176) (h : v (ix3 i e 0) = BitVec.ofNat 32 p.val) : wrapT v (ix3 i e 0) = BitVec.ofNat 32 p.val := by
  have hp : p.val < 2 ^ 31 := Nat.lt_of_lt_of_le p.isLt (by norm_num)
  exact keep_pos _ _ p.val hp h

theorem all_at (y : IVec S2x1024x1 1) (i : Fin 2) (e : Fin 1024) (h : y (ix3 i e 0) = 1#1) : Host.reduce IntOp.andi y (constantI S_ 1 1#1) reducesTo_S2x1024x1_S2x1024_d2 h_S_ (ix2 i e) = 1#1 := by
  pointwise
  rw [Finset.univ_unique, Finset.fold_singleton]
  show IntOp.andi (y (ix3 i e 0)) _ = _
  rw [h]
  rfl

theorem bcast_row (y : IVec S2x1024 1) (i : Fin 2) (e : Fin 1024) (l : Fin 96) : (broadcastInDim S2x1024x96 ![0, 1] bcast_S2x1024_S2x1024x96_0_1 y : IVec S2x1024x96 1) (ix3 i e l) = y (ix2 i e) := by
  pointwise

theorem pick_true {s : Shape} {α : Type} (y : IVec s 1) (u v : s.Idx → α) (k : s.Idx) (h : y k = 1#1) : select y u v k = u k := by
  show Scalar.select (y k) (u k) (v k) = _
  rw [h]
  rfl

theorem takeT_at (x : FVec Ideal S2x50176x96 .f32) (v : IVec S2x1024x1 32) (i : Fin 2) (e : Fin 1024) (l : Fin 96) (p : Fin 50176) (h : v (ix3 i e 0) = BitVec.ofNat 32 p.val) :
    takeT x v (ix3 i e l) = x (ix3 i p l) := by
  have hc : (broadcastInDim S2x1024x96 ![0, 1] bcast_S2x1024_S2x1024x96_0_1 (Host.reduce IntOp.andi (inT (wrapT v)) (constantI S_ 1 1#1) reducesTo_S2x1024x1_S2x1024_d2 h_S_) : IVec S2x1024x96 1) (ix3 i e l) = 1#1 :=
    (bcast_row _ i e l).trans (all_at _ i e (inT_at _ i e p (wrapT_at v i e p h)))
  refine (pick_true _ _ _ _ hc).trans ?_
  exact gather_at (P := 2) (R := 50176) (C := 96) (n := 1024) _ rfl rfl rfl rfl rfl rfl x (wrapT v) i e l p (wrapT_at v i e p h) (by norm_num)

/-- The reference's result, as its run leaves it. -/
abbrev res (c : Dev nD) : FVec Ideal (⟨4, ![2, 96, 32, 32]⟩ : Shape) .f32 := finalContents condOps preI bodyI postI 1023 m c (Proc.devRef .tc main_v19)

/-- The reference's result at an index. -/
theorem res_at (c : Dev nD) (i : Fin 2) (l : Fin 96) (a b : Fin 32) :
    (finalContents condOps preI bodyI postI 1023 m c (Proc.devRef .tc main_v19) : FVec Ideal S2x96x32x32 .f32) (ix4 i l a b) = outAtIdx (img m c) i l a b := by
  show (after hostOps0_3 (after hostOps0_2 (after hostOps0_1 (after condOps (atK m 1023 c)))) (Proc.devRef .tc main_v19) : FVec Ideal S2x96x32x32 .f32) (ix4 i l a b) = _
  rw [v19_at, v17_eq, v1_keep]
  unfold outAtIdx
  refine (takeT_at _ _ i _ l (pick (img m c) i (32 * a.val + b.val)) ?_).trans (tab_end m c i _ l)
  match i with
  | ⟨0, _⟩ => exact (v16_at0 _ _).trans (end0 m c _)
  | ⟨1, _⟩ => exact (v16_at1 _ _).trans (end1 m c _)

end Cert.ReferenceIdeal.Value

end
-- ==== Proof.lean ====
module

public import proofs.«01_k».proof.Defs
public import proofs.«01_k».proof.Proof.KerVal
public import proofs.«01_k».proof.Proof.RefFrame
public import proofs.«01_k».proof.Proof.RefOut

@[expose] public section

noncomputable section

namespace Cert.Proof

open Idealize.ShloMosaic Idealize.SL.Sem

theorem frame_ker : Cert.quiescent_KernelIdeal (hKernelIdeal := Cert.KernelIdeal.Gen.facts) := fun m g _ =>
  (θ_run _ _ _).mono (fun _ h => ⟨fun c => (h.1 c).2, h.2⟩) (Cert.KernelIdeal.Fps.run_ker m g)

theorem frame_ref : Cert.quiescent_ReferenceIdeal (hReferenceIdeal := Cert.ReferenceIdeal.Gen.facts) := fun m g _ =>
  (θ_run _ _ _).mono (fun _ h => ⟨fun c => (h.1 c).2, h.2⟩) (Cert.ReferenceIdeal.Value.run_ref m g)

/-- Two results that agree at every image, channel, row and column are equal. -/
theorem eq_of_at (u v : FVec Ideal (⟨4, ![2, 96, 32, 32]⟩ : Shape) .f32)
    (h : ∀ (i : Fin 2) (l : Fin 96) (a b : Fin 32), u (ix4 i l a b) = v (ix4 i l a b)) : u = v :=
  funext fun j => by
    rw [eq_ix4 j]
    exact h _ _ _ _

/-- From equal arguments the two programs end with equal results. -/
theorem alg : Cert.algebraic_KernelIdeal_ReferenceIdeal (hKernelIdeal := Cert.KernelIdeal.Gen.facts) (hReferenceIdeal := Cert.ReferenceIdeal.Gen.facts) :=
  fun m g m' g' _ hm => by
    have hv : ∀ c : Dev Cert.KernelIdeal.nD, Cert.ReferenceIdeal.Value.res m' c = Cert.KernelIdeal.Fps.res m c := fun c => by
      refine eq_of_at _ _ fun i l a b => (Cert.ReferenceIdeal.Value.res_at m' c i l a b).trans (Eq.trans ?_ (Cert.KernelIdeal.Fps.res_at m c i l a b).symm)
      refine congrArg (fun A : Cert.Fps.Img => Cert.Fps.outAtIdx A i l a b) ?_
      funext i l a b
      exact congrFun (hm c) (ix4 i l a b)
    exact ⟨Cert.KernelIdeal.Fps.res m, (θ_run _ _ _).mono (fun _ h => h.1) (Cert.KernelIdeal.Fps.run_ker m g),
      (θ_run _ _ _).mono (fun _ h => fun c => ⟨(h.1 c).1.trans (hv c), (h.1 c).2⟩) (Cert.ReferenceIdeal.Value.run_ref m' g')⟩

theorem claim : Cert.Claim := ⟨Cert.KernelIdeal.Gen.facts, Cert.ReferenceIdeal.Gen.facts, frame_ker, frame_ref, alg⟩

end Cert.Proof

end
